-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![4096, 2048]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![4096, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x2048 : Shape := ⟨2, ![256, 2048]⟩
abbrev S8x4x256x256 : Shape := ⟨4, ![8, 4, 256, 256]⟩
abbrev S256x256 : Shape := ⟨2, ![256, 256]⟩
abbrev S16x8x128 : Shape := ⟨3, ![16, 8, 128]⟩
abbrev S8x4 : Shape := ⟨2, ![8, 4]⟩
abbrev S8 : Shape := ⟨1, ![8]⟩
abbrev S16 : Shape := ⟨1, ![16]⟩
abbrev S_ : Shape := ⟨0, ![]⟩
abbrev S1x1x256x256 : Shape := ⟨4, ![1, 1, 256, 256]⟩
abbrev S1x1 : Shape := ⟨2, ![1, 1]⟩
abbrev S1 : Shape := ⟨1, ![1]⟩
abbrev S1x256x256 : Shape := ⟨3, ![1, 256, 256]⟩
abbrev S1x1x1 : Shape := ⟨3, ![1, 1, 1]⟩
abbrev S1x8 : Shape := ⟨2, ![1, 8]⟩
abbrev S1x8x128 : Shape := ⟨3, ![1, 8, 128]⟩
abbrev S8x128 : Shape := ⟨2, ![8, 128]⟩
abbrev S1x16x8x128 : Shape := ⟨4, ![1, 16, 8, 128]⟩
abbrev S1x1x1x1 : Shape := ⟨4, ![1, 1, 1, 1]⟩

abbrev nBuf : Space → Nat
  | .hbm => 3
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S256x2048, .f32⟩
  | .hbm, ⟨2, _⟩ => ⟨S256x2048, .f32⟩
  | .local _ .vmem, ⟨0, _⟩ => ⟨S4096x256, .f32⟩
  | .local _ .vmem, ⟨1, _⟩ => ⟨S256x2048, .f32⟩
  | .local _ .vmem, ⟨2, _⟩ => ⟨S256x2048, .f32⟩
  | .local _ .vmem, ⟨3, _⟩ => ⟨S8x4x256x256, .f32⟩
  | .local _ .vmem, ⟨4, _⟩ => ⟨S256x256, .f32⟩
  | .local _ .vmem, ⟨5, _⟩ => ⟨S256x256, .f32⟩
  | .local _ .vmem, ⟨6, _⟩ => ⟨S16x8x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | _ => false

abbrev dmaSemScoped : Fin 99 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | _ => false

abbrev sig : RefSig :=
  (ofTc nBuf bufTy 9 99 bufScoped semScoped dmaSemScoped tileCredit tileCredit_eq_zero tileCredit_pos).withBarriers [(0, 8)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 8

abbrev nD : Nat := 16
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_19 : BitVec 32 := 1#32
  let v30 : BitVec 32 := Scalar.subi v2 c1_i32_19
  let c16_i32_20 : BitVec 32 := 16#32
  let c0_i32_21 : BitVec 32 := 0#32
  let v31 : BitVec 1 := Scalar.cmpi .eq c16_i32_20 c0_i32_21
  let c1_i32_22 : BitVec 32 := 1#32
  let v32 : BitVec 32 := Scalar.select v31 c1_i32_22 c16_i32_20
  let v33 : BitVec 32 := Scalar.remsi v30 v32
  let c0_i32_24 : BitVec 32 := 0#32
  let v35 : BitVec 1 := Scalar.cmpi .slt v33 c0_i32_24
  let c0_i32_25 : BitVec 32 := 0#32
  let v36 : BitVec 1 := Scalar.cmpi .slt v32 c0_i32_25
  let v37 : BitVec 1 := Scalar.xori v35 v36
  let c0_i32_23 : BitVec 32 := 0#32
  let v34 : BitVec 1 := Scalar.cmpi .ne v33 c0_i32_23
  let v38 : BitVec 1 := Scalar.andi v37 v34
  let v39 : BitVec 32 := Scalar.addi v33 v32
  let v40 : BitVec 32 := Scalar.select v38 v39 v33
  let c256_i32 : BitVec 32 := 256#32
  let v41 : BitVec 32 := Scalar.muli v40 c256_i32
  let v42 : Index := Scalar.indexCast v41
  let c0 : Index := 0#32
  ![v42.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_32 : BitVec 32 := 1#32
  let v51 : BitVec 32 := Scalar.addi v2 c1_i32_32
  let c16_i32_33 : BitVec 32 := 16#32
  let c0_i32_34 : BitVec 32 := 0#32
  let v52 : BitVec 1 := Scalar.cmpi .eq c16_i32_33 c0_i32_34
  let c1_i32_35 : BitVec 32 := 1#32
  let v53 : BitVec 32 := Scalar.select v52 c1_i32_35 c16_i32_33
  let v54 : BitVec 32 := Scalar.remsi v51 v53
  let c0_i32_37 : BitVec 32 := 0#32
  let v56 : BitVec 1 := Scalar.cmpi .slt v54 c0_i32_37
  let c0_i32_38 : BitVec 32 := 0#32
  let v57 : BitVec 1 := Scalar.cmpi .slt v53 c0_i32_38
  let v58 : BitVec 1 := Scalar.xori v56 v57
  let c0_i32_36 : BitVec 32 := 0#32
  let v55 : BitVec 1 := Scalar.cmpi .ne v54 c0_i32_36
  let v59 : BitVec 1 := Scalar.andi v58 v55
  let v60 : BitVec 32 := Scalar.addi v54 v53
  let v61 : BitVec 32 := Scalar.select v59 v60 v54
  let c256_i32_39 : BitVec 32 := 256#32
  let v62 : BitVec 32 := Scalar.muli v61 c256_i32_39
  let v63 : Index := Scalar.indexCast v62
  let c0_40 : Index := 0#32
  ![v63.toNat, 0]
def k0_dev3 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_54 : BitVec 32 := 1#32
  let v72 : BitVec 32 := Scalar.muli v24 c1_i32_54
  let v73 : BitVec 32 := Scalar.addi c0_i32_55 v72
  v73.toNat
def k0_dev4 (d0 : Dev nD) : Nat :=
  let c0_i32_68 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_67 : BitVec 32 := 1#32
  let v82 : BitVec 32 := Scalar.muli v13 c1_i32_67
  let v83 : BitVec 32 := Scalar.addi c0_i32_68 v82
  v83.toNat
def k0_dev5 (d0 : Dev nD) : Nat :=
  let c0_i32_110 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_109 : BitVec 32 := 1#32
  let v134 : BitVec 32 := Scalar.muli v24 c1_i32_109
  let v135 : BitVec 32 := Scalar.addi c0_i32_110 v134
  v135.toNat
def k0_dev6 (d0 : Dev nD) : Nat :=
  let c0_i32_123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_122 : BitVec 32 := 1#32
  let v144 : BitVec 32 := Scalar.muli v13 c1_i32_122
  let v145 : BitVec 32 := Scalar.addi c0_i32_123 v144
  v145.toNat
def k0_dev7 (d0 : Dev nD) : Nat :=
  let c0_i32_165 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_164 : BitVec 32 := 1#32
  let v196 : BitVec 32 := Scalar.muli v24 c1_i32_164
  let v197 : BitVec 32 := Scalar.addi c0_i32_165 v196
  v197.toNat
def k0_dev8 (d0 : Dev nD) : Nat :=
  let c0_i32_178 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_177 : BitVec 32 := 1#32
  let v206 : BitVec 32 := Scalar.muli v13 c1_i32_177
  let v207 : BitVec 32 := Scalar.addi c0_i32_178 v206
  v207.toNat
def k0_dev9 (d0 : Dev nD) : Nat :=
  let c0_i32_219 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_218 : BitVec 32 := 1#32
  let v258 : BitVec 32 := Scalar.muli v24 c1_i32_218
  let v259 : BitVec 32 := Scalar.addi c0_i32_219 v258
  v259.toNat
def k0_dev10 (d0 : Dev nD) : Nat :=
  let c0_i32_232 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_231 : BitVec 32 := 1#32
  let v268 : BitVec 32 := Scalar.muli v13 c1_i32_231
  let v269 : BitVec 32 := Scalar.addi c0_i32_232 v268
  v269.toNat
def k0_off3 (d0 : Dev nD) (c0_i32_238 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_237 : BitVec 32 := 2#32
  let v278 : BitVec 32 := Scalar.subi v2 c2_i32_237
  let v279 : BitVec 32 := Scalar.subi v278 c0_i32_238
  let c16_i32_239 : BitVec 32 := 16#32
  let c0_i32_240 : BitVec 32 := 0#32
  let v280 : BitVec 1 := Scalar.cmpi .eq c16_i32_239 c0_i32_240
  let c1_i32_241 : BitVec 32 := 1#32
  let v281 : BitVec 32 := Scalar.select v280 c1_i32_241 c16_i32_239
  let v282 : BitVec 32 := Scalar.remsi v279 v281
  let c0_i32_243 : BitVec 32 := 0#32
  let v284 : BitVec 1 := Scalar.cmpi .slt v282 c0_i32_243
  let c0_i32_244 : BitVec 32 := 0#32
  let v285 : BitVec 1 := Scalar.cmpi .slt v281 c0_i32_244
  let v286 : BitVec 1 := Scalar.xori v284 v285
  let c0_i32_242 : BitVec 32 := 0#32
  let v283 : BitVec 1 := Scalar.cmpi .ne v282 c0_i32_242
  let v287 : BitVec 1 := Scalar.andi v286 v283
  let v288 : BitVec 32 := Scalar.addi v282 v281
  let v289 : BitVec 32 := Scalar.select v287 v288 v282
  let c256_i32_245 : BitVec 32 := 256#32
  let v290 : BitVec 32 := Scalar.muli v289 c256_i32_245
  let v291 : Index := Scalar.indexCast v290
  let c0_246 : Index := 0#32
  ![v291.toNat, 0]
def k0_off4 (d0 : Dev nD) (c0_i32_253 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_252 : BitVec 32 := 2#32
  let v300 : BitVec 32 := Scalar.addi v2 c2_i32_252
  let v301 : BitVec 32 := Scalar.addi v300 c0_i32_253
  let c16_i32_254 : BitVec 32 := 16#32
  let c0_i32_255 : BitVec 32 := 0#32
  let v302 : BitVec 1 := Scalar.cmpi .eq c16_i32_254 c0_i32_255
  let c1_i32_256 : BitVec 32 := 1#32
  let v303 : BitVec 32 := Scalar.select v302 c1_i32_256 c16_i32_254
  let v304 : BitVec 32 := Scalar.remsi v301 v303
  let c0_i32_258 : BitVec 32 := 0#32
  let v306 : BitVec 1 := Scalar.cmpi .slt v304 c0_i32_258
  let c0_i32_259 : BitVec 32 := 0#32
  let v307 : BitVec 1 := Scalar.cmpi .slt v303 c0_i32_259
  let v308 : BitVec 1 := Scalar.xori v306 v307
  let c0_i32_257 : BitVec 32 := 0#32
  let v305 : BitVec 1 := Scalar.cmpi .ne v304 c0_i32_257
  let v309 : BitVec 1 := Scalar.andi v308 v305
  let v310 : BitVec 32 := Scalar.addi v304 v303
  let v311 : BitVec 32 := Scalar.select v309 v310 v304
  let c256_i32_260 : BitVec 32 := 256#32
  let v312 : BitVec 32 := Scalar.muli v311 c256_i32_260
  let v313 : Index := Scalar.indexCast v312
  let c0_261 : Index := 0#32
  ![v313.toNat, 0]
def k0_dev11 (d0 : Dev nD) : Nat :=
  let c0_i32_324 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_323 : BitVec 32 := 1#32
  let v352 : BitVec 32 := Scalar.muli v13 c1_i32_323
  let v353 : BitVec 32 := Scalar.addi c0_i32_324 v352
  v353.toNat
def k0_dev12 (d0 : Dev nD) : Nat :=
  let c0_i32_328 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_327 : BitVec 32 := 1#32
  let v356 : BitVec 32 := Scalar.muli v24 c1_i32_327
  let v357 : BitVec 32 := Scalar.addi c0_i32_328 v356
  v357.toNat
def k0_dev13 (d0 : Dev nD) : Nat :=
  let c0_i32_358 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_357 : BitVec 32 := 1#32
  let v372 : BitVec 32 := Scalar.muli v24 c1_i32_357
  let v373 : BitVec 32 := Scalar.addi c0_i32_358 v372
  v373.toNat
def k0_dev14 (d0 : Dev nD) : Nat :=
  let c0_i32_372 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_371 : BitVec 32 := 1#32
  let v382 : BitVec 32 := Scalar.muli v13 c1_i32_371
  let v383 : BitVec 32 := Scalar.addi c0_i32_372 v382
  v383.toNat
def k0_dev15 (d0 : Dev nD) : Nat :=
  let c0_i32_464 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_463 : BitVec 32 := 1#32
  let v466 : BitVec 32 := Scalar.muli v13 c1_i32_463
  let v467 : BitVec 32 := Scalar.addi c0_i32_464 v466
  v467.toNat
def k0_dev16 (d0 : Dev nD) : Nat :=
  let c0_i32_468 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_467 : BitVec 32 := 1#32
  let v470 : BitVec 32 := Scalar.muli v24 c1_i32_467
  let v471 : BitVec 32 := Scalar.addi c0_i32_468 v470
  v471.toNat
def k0_dev17 (d0 : Dev nD) : Nat :=
  let c0_i32_498 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_497 : BitVec 32 := 1#32
  let v486 : BitVec 32 := Scalar.muli v24 c1_i32_497
  let v487 : BitVec 32 := Scalar.addi c0_i32_498 v486
  v487.toNat
def k0_dev18 (d0 : Dev nD) : Nat :=
  let c0_i32_512 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_511 : BitVec 32 := 1#32
  let v496 : BitVec 32 := Scalar.muli v13 c1_i32_511
  let v497 : BitVec 32 := Scalar.addi c0_i32_512 v496
  v497.toNat
def k0_dev19 (d0 : Dev nD) : Nat :=
  let c0_i32_604 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_603 : BitVec 32 := 1#32
  let v580 : BitVec 32 := Scalar.muli v13 c1_i32_603
  let v581 : BitVec 32 := Scalar.addi c0_i32_604 v580
  v581.toNat
def k0_dev20 (d0 : Dev nD) : Nat :=
  let c0_i32_608 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_607 : BitVec 32 := 1#32
  let v584 : BitVec 32 := Scalar.muli v24 c1_i32_607
  let v585 : BitVec 32 := Scalar.addi c0_i32_608 v584
  v585.toNat
def k0_dev21 (d0 : Dev nD) : Nat :=
  let c0_i32_638 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_637 : BitVec 32 := 1#32
  let v600 : BitVec 32 := Scalar.muli v24 c1_i32_637
  let v601 : BitVec 32 := Scalar.addi c0_i32_638 v600
  v601.toNat
def k0_dev22 (d0 : Dev nD) : Nat :=
  let c0_i32_652 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_651 : BitVec 32 := 1#32
  let v610 : BitVec 32 := Scalar.muli v13 c1_i32_651
  let v611 : BitVec 32 := Scalar.addi c0_i32_652 v610
  v611.toNat
def k0_dev23 (d0 : Dev nD) : Nat :=
  let c0_i32_744 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_743 : BitVec 32 := 1#32
  let v694 : BitVec 32 := Scalar.muli v13 c1_i32_743
  let v695 : BitVec 32 := Scalar.addi c0_i32_744 v694
  v695.toNat
def k0_dev24 (d0 : Dev nD) : Nat :=
  let c0_i32_748 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_747 : BitVec 32 := 1#32
  let v698 : BitVec 32 := Scalar.muli v24 c1_i32_747
  let v699 : BitVec 32 := Scalar.addi c0_i32_748 v698
  v699.toNat
def k0_dev25 (d0 : Dev nD) : Nat :=
  let c0_i32_778 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_777 : BitVec 32 := 1#32
  let v714 : BitVec 32 := Scalar.muli v24 c1_i32_777
  let v715 : BitVec 32 := Scalar.addi c0_i32_778 v714
  v715.toNat
def k0_dev26 (d0 : Dev nD) : Nat :=
  let c0_i32_792 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_791 : BitVec 32 := 1#32
  let v724 : BitVec 32 := Scalar.muli v13 c1_i32_791
  let v725 : BitVec 32 := Scalar.addi c0_i32_792 v724
  v725.toNat
def k0_dev27 (d0 : Dev nD) : Nat :=
  let c0_i32_884 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_883 : BitVec 32 := 1#32
  let v808 : BitVec 32 := Scalar.muli v13 c1_i32_883
  let v809 : BitVec 32 := Scalar.addi c0_i32_884 v808
  v809.toNat
def k0_dev28 (d0 : Dev nD) : Nat :=
  let c0_i32_888 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_887 : BitVec 32 := 1#32
  let v812 : BitVec 32 := Scalar.muli v24 c1_i32_887
  let v813 : BitVec 32 := Scalar.addi c0_i32_888 v812
  v813.toNat
def k0_dev29 (d0 : Dev nD) : Nat :=
  let c0_i32_918 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_917 : BitVec 32 := 1#32
  let v828 : BitVec 32 := Scalar.muli v24 c1_i32_917
  let v829 : BitVec 32 := Scalar.addi c0_i32_918 v828
  v829.toNat
def k0_dev30 (d0 : Dev nD) : Nat :=
  let c0_i32_932 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_931 : BitVec 32 := 1#32
  let v838 : BitVec 32 := Scalar.muli v13 c1_i32_931
  let v839 : BitVec 32 := Scalar.addi c0_i32_932 v838
  v839.toNat
def k0_dev31 (d0 : Dev nD) : Nat :=
  let c0_i32_1024 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1023 : BitVec 32 := 1#32
  let v922 : BitVec 32 := Scalar.muli v13 c1_i32_1023
  let v923 : BitVec 32 := Scalar.addi c0_i32_1024 v922
  v923.toNat
def k0_dev32 (d0 : Dev nD) : Nat :=
  let c0_i32_1028 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1027 : BitVec 32 := 1#32
  let v926 : BitVec 32 := Scalar.muli v24 c1_i32_1027
  let v927 : BitVec 32 := Scalar.addi c0_i32_1028 v926
  v927.toNat
def k0_dev33 (d0 : Dev nD) : Nat :=
  let c0_i32_1058 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1057 : BitVec 32 := 1#32
  let v942 : BitVec 32 := Scalar.muli v24 c1_i32_1057
  let v943 : BitVec 32 := Scalar.addi c0_i32_1058 v942
  v943.toNat
def k0_dev34 (d0 : Dev nD) : Nat :=
  let c0_i32_1072 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1071 : BitVec 32 := 1#32
  let v952 : BitVec 32 := Scalar.muli v13 c1_i32_1071
  let v953 : BitVec 32 := Scalar.addi c0_i32_1072 v952
  v953.toNat
def k0_dev35 (d0 : Dev nD) : Nat :=
  let c0_i32_1164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1163 : BitVec 32 := 1#32
  let v1036 : BitVec 32 := Scalar.muli v13 c1_i32_1163
  let v1037 : BitVec 32 := Scalar.addi c0_i32_1164 v1036
  v1037.toNat
def k0_dev36 (d0 : Dev nD) : Nat :=
  let c0_i32_1168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1167 : BitVec 32 := 1#32
  let v1040 : BitVec 32 := Scalar.muli v24 c1_i32_1167
  let v1041 : BitVec 32 := Scalar.addi c0_i32_1168 v1040
  v1041.toNat
def k0_dev37 (d0 : Dev nD) : Nat :=
  let c0_i32_1198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1197 : BitVec 32 := 1#32
  let v1056 : BitVec 32 := Scalar.muli v24 c1_i32_1197
  let v1057 : BitVec 32 := Scalar.addi c0_i32_1198 v1056
  v1057.toNat
def k0_dev38 (d0 : Dev nD) : Nat :=
  let c0_i32_1212 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1211 : BitVec 32 := 1#32
  let v1066 : BitVec 32 := Scalar.muli v13 c1_i32_1211
  let v1067 : BitVec 32 := Scalar.addi c0_i32_1212 v1066
  v1067.toNat
def k0_dev39 (d0 : Dev nD) : Nat :=
  let c0_i32_1304 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1303 : BitVec 32 := 1#32
  let v1150 : BitVec 32 := Scalar.muli v13 c1_i32_1303
  let v1151 : BitVec 32 := Scalar.addi c0_i32_1304 v1150
  v1151.toNat
def k0_dev40 (d0 : Dev nD) : Nat :=
  let c0_i32_1308 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1307 : BitVec 32 := 1#32
  let v1154 : BitVec 32 := Scalar.muli v24 c1_i32_1307
  let v1155 : BitVec 32 := Scalar.addi c0_i32_1308 v1154
  v1155.toNat
def k0_dev41 (d0 : Dev nD) : Nat :=
  let c0_i32_1338 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1337 : BitVec 32 := 1#32
  let v1170 : BitVec 32 := Scalar.muli v24 c1_i32_1337
  let v1171 : BitVec 32 := Scalar.addi c0_i32_1338 v1170
  v1171.toNat
def k0_dev42 (d0 : Dev nD) : Nat :=
  let c0_i32_1352 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1351 : BitVec 32 := 1#32
  let v1180 : BitVec 32 := Scalar.muli v13 c1_i32_1351
  let v1181 : BitVec 32 := Scalar.addi c0_i32_1352 v1180
  v1181.toNat
def k0_dev43 (d0 : Dev nD) : Nat :=
  let c0_i32_1444 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1443 : BitVec 32 := 1#32
  let v1264 : BitVec 32 := Scalar.muli v13 c1_i32_1443
  let v1265 : BitVec 32 := Scalar.addi c0_i32_1444 v1264
  v1265.toNat
def k0_dev44 (d0 : Dev nD) : Nat :=
  let c0_i32_1448 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1447 : BitVec 32 := 1#32
  let v1268 : BitVec 32 := Scalar.muli v24 c1_i32_1447
  let v1269 : BitVec 32 := Scalar.addi c0_i32_1448 v1268
  v1269.toNat
def k0_dev45 (d0 : Dev nD) : Nat :=
  let c0_i32_1481 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1480 : BitVec 32 := 1#32
  let v1286 : BitVec 32 := Scalar.muli v24 c1_i32_1480
  let v1287 : BitVec 32 := Scalar.addi c0_i32_1481 v1286
  v1287.toNat
def k0_dev46 (d0 : Dev nD) : Nat :=
  let c0_i32_1498 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1497 : BitVec 32 := 1#32
  let v1298 : BitVec 32 := Scalar.muli v13 c1_i32_1497
  let v1299 : BitVec 32 := Scalar.addi c0_i32_1498 v1298
  v1299.toNat
def k0_dev47 (d0 : Dev nD) : Nat :=
  let c0_i32_1590 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1589 : BitVec 32 := 1#32
  let v1382 : BitVec 32 := Scalar.muli v13 c1_i32_1589
  let v1383 : BitVec 32 := Scalar.addi c0_i32_1590 v1382
  v1383.toNat
def k0_dev48 (d0 : Dev nD) : Nat :=
  let c0_i32_1594 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1593 : BitVec 32 := 1#32
  let v1386 : BitVec 32 := Scalar.muli v24 c1_i32_1593
  let v1387 : BitVec 32 := Scalar.addi c0_i32_1594 v1386
  v1387.toNat
def k0_dev49 (d0 : Dev nD) : Nat :=
  let c0_i32_1627 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1626 : BitVec 32 := 1#32
  let v1404 : BitVec 32 := Scalar.muli v24 c1_i32_1626
  let v1405 : BitVec 32 := Scalar.addi c0_i32_1627 v1404
  v1405.toNat
def k0_dev50 (d0 : Dev nD) : Nat :=
  let c0_i32_1644 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1643 : BitVec 32 := 1#32
  let v1416 : BitVec 32 := Scalar.muli v13 c1_i32_1643
  let v1417 : BitVec 32 := Scalar.addi c0_i32_1644 v1416
  v1417.toNat
def k0_dev51 (d0 : Dev nD) : Nat :=
  let c0_i32_1736 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1735 : BitVec 32 := 1#32
  let v1500 : BitVec 32 := Scalar.muli v13 c1_i32_1735
  let v1501 : BitVec 32 := Scalar.addi c0_i32_1736 v1500
  v1501.toNat
def k0_dev52 (d0 : Dev nD) : Nat :=
  let c0_i32_1740 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1739 : BitVec 32 := 1#32
  let v1504 : BitVec 32 := Scalar.muli v24 c1_i32_1739
  let v1505 : BitVec 32 := Scalar.addi c0_i32_1740 v1504
  v1505.toNat
def k0_dev53 (d0 : Dev nD) : Nat :=
  let c0_i32_1773 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1772 : BitVec 32 := 1#32
  let v1522 : BitVec 32 := Scalar.muli v24 c1_i32_1772
  let v1523 : BitVec 32 := Scalar.addi c0_i32_1773 v1522
  v1523.toNat
def k0_dev54 (d0 : Dev nD) : Nat :=
  let c0_i32_1790 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1789 : BitVec 32 := 1#32
  let v1534 : BitVec 32 := Scalar.muli v13 c1_i32_1789
  let v1535 : BitVec 32 := Scalar.addi c0_i32_1790 v1534
  v1535.toNat
def k0_dev55 (d0 : Dev nD) : Nat :=
  let c0_i32_1882 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1881 : BitVec 32 := 1#32
  let v1618 : BitVec 32 := Scalar.muli v13 c1_i32_1881
  let v1619 : BitVec 32 := Scalar.addi c0_i32_1882 v1618
  v1619.toNat
def k0_dev56 (d0 : Dev nD) : Nat :=
  let c0_i32_1886 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1885 : BitVec 32 := 1#32
  let v1622 : BitVec 32 := Scalar.muli v24 c1_i32_1885
  let v1623 : BitVec 32 := Scalar.addi c0_i32_1886 v1622
  v1623.toNat
def k0_dev57 (d0 : Dev nD) : Nat :=
  let c0_i32_1919 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1918 : BitVec 32 := 1#32
  let v1640 : BitVec 32 := Scalar.muli v24 c1_i32_1918
  let v1641 : BitVec 32 := Scalar.addi c0_i32_1919 v1640
  v1641.toNat
def k0_dev58 (d0 : Dev nD) : Nat :=
  let c0_i32_1936 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1935 : BitVec 32 := 1#32
  let v1652 : BitVec 32 := Scalar.muli v13 c1_i32_1935
  let v1653 : BitVec 32 := Scalar.addi c0_i32_1936 v1652
  v1653.toNat
def k0_dev59 (d0 : Dev nD) : Nat :=
  let c0_i32_2028 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2027 : BitVec 32 := 1#32
  let v1736 : BitVec 32 := Scalar.muli v13 c1_i32_2027
  let v1737 : BitVec 32 := Scalar.addi c0_i32_2028 v1736
  v1737.toNat
def k0_dev60 (d0 : Dev nD) : Nat :=
  let c0_i32_2032 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2031 : BitVec 32 := 1#32
  let v1740 : BitVec 32 := Scalar.muli v24 c1_i32_2031
  let v1741 : BitVec 32 := Scalar.addi c0_i32_2032 v1740
  v1741.toNat
def k0_dev61 (d0 : Dev nD) : Nat :=
  let c0_i32_2065 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2064 : BitVec 32 := 1#32
  let v1758 : BitVec 32 := Scalar.muli v24 c1_i32_2064
  let v1759 : BitVec 32 := Scalar.addi c0_i32_2065 v1758
  v1759.toNat
def k0_dev62 (d0 : Dev nD) : Nat :=
  let c0_i32_2082 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2081 : BitVec 32 := 1#32
  let v1770 : BitVec 32 := Scalar.muli v13 c1_i32_2081
  let v1771 : BitVec 32 := Scalar.addi c0_i32_2082 v1770
  v1771.toNat
def k0_dev63 (d0 : Dev nD) : Nat :=
  let c0_i32_2174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2173 : BitVec 32 := 1#32
  let v1854 : BitVec 32 := Scalar.muli v13 c1_i32_2173
  let v1855 : BitVec 32 := Scalar.addi c0_i32_2174 v1854
  v1855.toNat
def k0_dev64 (d0 : Dev nD) : Nat :=
  let c0_i32_2178 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2177 : BitVec 32 := 1#32
  let v1858 : BitVec 32 := Scalar.muli v24 c1_i32_2177
  let v1859 : BitVec 32 := Scalar.addi c0_i32_2178 v1858
  v1859.toNat
def k0_dev65 (d0 : Dev nD) : Nat :=
  let c0_i32_2211 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2210 : BitVec 32 := 1#32
  let v1876 : BitVec 32 := Scalar.muli v24 c1_i32_2210
  let v1877 : BitVec 32 := Scalar.addi c0_i32_2211 v1876
  v1877.toNat
def k0_dev66 (d0 : Dev nD) : Nat :=
  let c0_i32_2228 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2227 : BitVec 32 := 1#32
  let v1888 : BitVec 32 := Scalar.muli v13 c1_i32_2227
  let v1889 : BitVec 32 := Scalar.addi c0_i32_2228 v1888
  v1889.toNat
def k0_dev67 (d0 : Dev nD) : Nat :=
  let c0_i32_2320 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2319 : BitVec 32 := 1#32
  let v1972 : BitVec 32 := Scalar.muli v13 c1_i32_2319
  let v1973 : BitVec 32 := Scalar.addi c0_i32_2320 v1972
  v1973.toNat
def k0_dev68 (d0 : Dev nD) : Nat :=
  let c0_i32_2324 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2323 : BitVec 32 := 1#32
  let v1976 : BitVec 32 := Scalar.muli v24 c1_i32_2323
  let v1977 : BitVec 32 := Scalar.addi c0_i32_2324 v1976
  v1977.toNat
def k0_dev69 (d0 : Dev nD) : Nat :=
  let c0_i32_2357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2356 : BitVec 32 := 1#32
  let v1994 : BitVec 32 := Scalar.muli v24 c1_i32_2356
  let v1995 : BitVec 32 := Scalar.addi c0_i32_2357 v1994
  v1995.toNat
def k0_dev70 (d0 : Dev nD) : Nat :=
  let c0_i32_2374 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2373 : BitVec 32 := 1#32
  let v2006 : BitVec 32 := Scalar.muli v13 c1_i32_2373
  let v2007 : BitVec 32 := Scalar.addi c0_i32_2374 v2006
  v2007.toNat
def k0_dev71 (d0 : Dev nD) : Nat :=
  let c0_i32_2466 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2465 : BitVec 32 := 1#32
  let v2090 : BitVec 32 := Scalar.muli v13 c1_i32_2465
  let v2091 : BitVec 32 := Scalar.addi c0_i32_2466 v2090
  v2091.toNat
def k0_dev72 (d0 : Dev nD) : Nat :=
  let c0_i32_2470 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2469 : BitVec 32 := 1#32
  let v2094 : BitVec 32 := Scalar.muli v24 c1_i32_2469
  let v2095 : BitVec 32 := Scalar.addi c0_i32_2470 v2094
  v2095.toNat
def k0_dev73 (d0 : Dev nD) : Nat :=
  let c0_i32_2503 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2502 : BitVec 32 := 1#32
  let v2112 : BitVec 32 := Scalar.muli v24 c1_i32_2502
  let v2113 : BitVec 32 := Scalar.addi c0_i32_2503 v2112
  v2113.toNat
def k0_dev74 (d0 : Dev nD) : Nat :=
  let c0_i32_2520 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2519 : BitVec 32 := 1#32
  let v2124 : BitVec 32 := Scalar.muli v13 c1_i32_2519
  let v2125 : BitVec 32 := Scalar.addi c0_i32_2520 v2124
  v2125.toNat
def k0_dev75 (d0 : Dev nD) : Nat :=
  let c0_i32_2612 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2611 : BitVec 32 := 1#32
  let v2208 : BitVec 32 := Scalar.muli v13 c1_i32_2611
  let v2209 : BitVec 32 := Scalar.addi c0_i32_2612 v2208
  v2209.toNat
def k0_dev76 (d0 : Dev nD) : Nat :=
  let c0_i32_2616 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2615 : BitVec 32 := 1#32
  let v2212 : BitVec 32 := Scalar.muli v24 c1_i32_2615
  let v2213 : BitVec 32 := Scalar.addi c0_i32_2616 v2212
  v2213.toNat
def k0_dev77 (d0 : Dev nD) : Nat :=
  let c0_i32_2649 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2648 : BitVec 32 := 1#32
  let v2230 : BitVec 32 := Scalar.muli v24 c1_i32_2648
  let v2231 : BitVec 32 := Scalar.addi c0_i32_2649 v2230
  v2231.toNat
def k0_dev78 (d0 : Dev nD) : Nat :=
  let c0_i32_2666 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2665 : BitVec 32 := 1#32
  let v2242 : BitVec 32 := Scalar.muli v13 c1_i32_2665
  let v2243 : BitVec 32 := Scalar.addi c0_i32_2666 v2242
  v2243.toNat
def k0_dev79 (d0 : Dev nD) : Nat :=
  let c0_i32_2758 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2757 : BitVec 32 := 1#32
  let v2326 : BitVec 32 := Scalar.muli v13 c1_i32_2757
  let v2327 : BitVec 32 := Scalar.addi c0_i32_2758 v2326
  v2327.toNat
def k0_dev80 (d0 : Dev nD) : Nat :=
  let c0_i32_2762 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2761 : BitVec 32 := 1#32
  let v2330 : BitVec 32 := Scalar.muli v24 c1_i32_2761
  let v2331 : BitVec 32 := Scalar.addi c0_i32_2762 v2330
  v2331.toNat
def k0_dev81 (d0 : Dev nD) : Nat :=
  let c0_i32_2795 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2794 : BitVec 32 := 1#32
  let v2348 : BitVec 32 := Scalar.muli v24 c1_i32_2794
  let v2349 : BitVec 32 := Scalar.addi c0_i32_2795 v2348
  v2349.toNat
def k0_dev82 (d0 : Dev nD) : Nat :=
  let c0_i32_2812 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2811 : BitVec 32 := 1#32
  let v2360 : BitVec 32 := Scalar.muli v13 c1_i32_2811
  let v2361 : BitVec 32 := Scalar.addi c0_i32_2812 v2360
  v2361.toNat
def k0_dev83 (d0 : Dev nD) : Nat :=
  let c0_i32_2904 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2903 : BitVec 32 := 1#32
  let v2444 : BitVec 32 := Scalar.muli v13 c1_i32_2903
  let v2445 : BitVec 32 := Scalar.addi c0_i32_2904 v2444
  v2445.toNat
def k0_dev84 (d0 : Dev nD) : Nat :=
  let c0_i32_2908 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2907 : BitVec 32 := 1#32
  let v2448 : BitVec 32 := Scalar.muli v24 c1_i32_2907
  let v2449 : BitVec 32 := Scalar.addi c0_i32_2908 v2448
  v2449.toNat
def k0_dev85 (d0 : Dev nD) : Nat :=
  let c0_i32_2941 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2940 : BitVec 32 := 1#32
  let v2466 : BitVec 32 := Scalar.muli v24 c1_i32_2940
  let v2467 : BitVec 32 := Scalar.addi c0_i32_2941 v2466
  v2467.toNat
def k0_dev86 (d0 : Dev nD) : Nat :=
  let c0_i32_2958 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2957 : BitVec 32 := 1#32
  let v2478 : BitVec 32 := Scalar.muli v13 c1_i32_2957
  let v2479 : BitVec 32 := Scalar.addi c0_i32_2958 v2478
  v2479.toNat
def k0_dev87 (d0 : Dev nD) : Nat :=
  let c0_i32_3050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3049 : BitVec 32 := 1#32
  let v2562 : BitVec 32 := Scalar.muli v13 c1_i32_3049
  let v2563 : BitVec 32 := Scalar.addi c0_i32_3050 v2562
  v2563.toNat
def k0_dev88 (d0 : Dev nD) : Nat :=
  let c0_i32_3054 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3053 : BitVec 32 := 1#32
  let v2566 : BitVec 32 := Scalar.muli v24 c1_i32_3053
  let v2567 : BitVec 32 := Scalar.addi c0_i32_3054 v2566
  v2567.toNat
def k0_dev89 (d0 : Dev nD) : Nat :=
  let c0_i32_3087 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3086 : BitVec 32 := 1#32
  let v2584 : BitVec 32 := Scalar.muli v24 c1_i32_3086
  let v2585 : BitVec 32 := Scalar.addi c0_i32_3087 v2584
  v2585.toNat
def k0_dev90 (d0 : Dev nD) : Nat :=
  let c0_i32_3104 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3103 : BitVec 32 := 1#32
  let v2596 : BitVec 32 := Scalar.muli v13 c1_i32_3103
  let v2597 : BitVec 32 := Scalar.addi c0_i32_3104 v2596
  v2597.toNat
def k0_dev91 (d0 : Dev nD) : Nat :=
  let c0_i32_3196 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3195 : BitVec 32 := 1#32
  let v2680 : BitVec 32 := Scalar.muli v13 c1_i32_3195
  let v2681 : BitVec 32 := Scalar.addi c0_i32_3196 v2680
  v2681.toNat
def k0_dev92 (d0 : Dev nD) : Nat :=
  let c0_i32_3200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3199 : BitVec 32 := 1#32
  let v2684 : BitVec 32 := Scalar.muli v24 c1_i32_3199
  let v2685 : BitVec 32 := Scalar.addi c0_i32_3200 v2684
  v2685.toNat
def k0_dev93 (d0 : Dev nD) : Nat :=
  let c0_i32_3233 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3232 : BitVec 32 := 1#32
  let v2702 : BitVec 32 := Scalar.muli v24 c1_i32_3232
  let v2703 : BitVec 32 := Scalar.addi c0_i32_3233 v2702
  v2703.toNat
def k0_dev94 (d0 : Dev nD) : Nat :=
  let c0_i32_3250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3249 : BitVec 32 := 1#32
  let v2714 : BitVec 32 := Scalar.muli v13 c1_i32_3249
  let v2715 : BitVec 32 := Scalar.addi c0_i32_3250 v2714
  v2715.toNat
def k0_dev95 (d0 : Dev nD) : Nat :=
  let c0_i32_3342 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3341 : BitVec 32 := 1#32
  let v2798 : BitVec 32 := Scalar.muli v13 c1_i32_3341
  let v2799 : BitVec 32 := Scalar.addi c0_i32_3342 v2798
  v2799.toNat
def k0_dev96 (d0 : Dev nD) : Nat :=
  let c0_i32_3346 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3345 : BitVec 32 := 1#32
  let v2802 : BitVec 32 := Scalar.muli v24 c1_i32_3345
  let v2803 : BitVec 32 := Scalar.addi c0_i32_3346 v2802
  v2803.toNat
def k0_dev97 (d0 : Dev nD) : Nat :=
  let c0_i32_3379 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3378 : BitVec 32 := 1#32
  let v2820 : BitVec 32 := Scalar.muli v24 c1_i32_3378
  let v2821 : BitVec 32 := Scalar.addi c0_i32_3379 v2820
  v2821.toNat
def k0_dev98 (d0 : Dev nD) : Nat :=
  let c0_i32_3396 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3395 : BitVec 32 := 1#32
  let v2832 : BitVec 32 := Scalar.muli v13 c1_i32_3395
  let v2833 : BitVec 32 := Scalar.addi c0_i32_3396 v2832
  v2833.toNat
def k0_dev99 (d0 : Dev nD) : Nat :=
  let c0_i32_3488 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3487 : BitVec 32 := 1#32
  let v2916 : BitVec 32 := Scalar.muli v13 c1_i32_3487
  let v2917 : BitVec 32 := Scalar.addi c0_i32_3488 v2916
  v2917.toNat
def k0_dev100 (d0 : Dev nD) : Nat :=
  let c0_i32_3492 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3491 : BitVec 32 := 1#32
  let v2920 : BitVec 32 := Scalar.muli v24 c1_i32_3491
  let v2921 : BitVec 32 := Scalar.addi c0_i32_3492 v2920
  v2921.toNat
def k0_dev101 (d0 : Dev nD) : Nat :=
  let c0_i32_3525 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3524 : BitVec 32 := 1#32
  let v2938 : BitVec 32 := Scalar.muli v24 c1_i32_3524
  let v2939 : BitVec 32 := Scalar.addi c0_i32_3525 v2938
  v2939.toNat
def k0_dev102 (d0 : Dev nD) : Nat :=
  let c0_i32_3542 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3541 : BitVec 32 := 1#32
  let v2950 : BitVec 32 := Scalar.muli v13 c1_i32_3541
  let v2951 : BitVec 32 := Scalar.addi c0_i32_3542 v2950
  v2951.toNat
def k0_dev103 (d0 : Dev nD) : Nat :=
  let c0_i32_3634 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3633 : BitVec 32 := 1#32
  let v3034 : BitVec 32 := Scalar.muli v13 c1_i32_3633
  let v3035 : BitVec 32 := Scalar.addi c0_i32_3634 v3034
  v3035.toNat
def k0_dev104 (d0 : Dev nD) : Nat :=
  let c0_i32_3638 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3637 : BitVec 32 := 1#32
  let v3038 : BitVec 32 := Scalar.muli v24 c1_i32_3637
  let v3039 : BitVec 32 := Scalar.addi c0_i32_3638 v3038
  v3039.toNat
def k0_dev105 (d0 : Dev nD) : Nat :=
  let c0_i32_3671 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3670 : BitVec 32 := 1#32
  let v3056 : BitVec 32 := Scalar.muli v24 c1_i32_3670
  let v3057 : BitVec 32 := Scalar.addi c0_i32_3671 v3056
  v3057.toNat
def k0_dev106 (d0 : Dev nD) : Nat :=
  let c0_i32_3688 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3687 : BitVec 32 := 1#32
  let v3068 : BitVec 32 := Scalar.muli v13 c1_i32_3687
  let v3069 : BitVec 32 := Scalar.addi c0_i32_3688 v3068
  v3069.toNat
def k0_dev107 (d0 : Dev nD) : Nat :=
  let c0_i32_3780 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3779 : BitVec 32 := 1#32
  let v3152 : BitVec 32 := Scalar.muli v13 c1_i32_3779
  let v3153 : BitVec 32 := Scalar.addi c0_i32_3780 v3152
  v3153.toNat
def k0_dev108 (d0 : Dev nD) : Nat :=
  let c0_i32_3784 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3783 : BitVec 32 := 1#32
  let v3156 : BitVec 32 := Scalar.muli v24 c1_i32_3783
  let v3157 : BitVec 32 := Scalar.addi c0_i32_3784 v3156
  v3157.toNat
def k0_dev109 (d0 : Dev nD) : Nat :=
  let c0_i32_3817 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3816 : BitVec 32 := 1#32
  let v3174 : BitVec 32 := Scalar.muli v24 c1_i32_3816
  let v3175 : BitVec 32 := Scalar.addi c0_i32_3817 v3174
  v3175.toNat
def k0_dev110 (d0 : Dev nD) : Nat :=
  let c0_i32_3834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3833 : BitVec 32 := 1#32
  let v3186 : BitVec 32 := Scalar.muli v13 c1_i32_3833
  let v3187 : BitVec 32 := Scalar.addi c0_i32_3834 v3186
  v3187.toNat
def k0_dev111 (d0 : Dev nD) : Nat :=
  let c0_i32_3926 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3925 : BitVec 32 := 1#32
  let v3270 : BitVec 32 := Scalar.muli v13 c1_i32_3925
  let v3271 : BitVec 32 := Scalar.addi c0_i32_3926 v3270
  v3271.toNat
def k0_dev112 (d0 : Dev nD) : Nat :=
  let c0_i32_3930 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3929 : BitVec 32 := 1#32
  let v3274 : BitVec 32 := Scalar.muli v24 c1_i32_3929
  let v3275 : BitVec 32 := Scalar.addi c0_i32_3930 v3274
  v3275.toNat
def k0_dev113 (d0 : Dev nD) : Nat :=
  let c0_i32_3963 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3962 : BitVec 32 := 1#32
  let v3292 : BitVec 32 := Scalar.muli v24 c1_i32_3962
  let v3293 : BitVec 32 := Scalar.addi c0_i32_3963 v3292
  v3293.toNat
def k0_dev114 (d0 : Dev nD) : Nat :=
  let c0_i32_3980 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3979 : BitVec 32 := 1#32
  let v3304 : BitVec 32 := Scalar.muli v13 c1_i32_3979
  let v3305 : BitVec 32 := Scalar.addi c0_i32_3980 v3304
  v3305.toNat
def k0_dev115 (d0 : Dev nD) : Nat :=
  let c0_i32_4072 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4071 : BitVec 32 := 1#32
  let v3388 : BitVec 32 := Scalar.muli v13 c1_i32_4071
  let v3389 : BitVec 32 := Scalar.addi c0_i32_4072 v3388
  v3389.toNat
def k0_dev116 (d0 : Dev nD) : Nat :=
  let c0_i32_4076 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4075 : BitVec 32 := 1#32
  let v3392 : BitVec 32 := Scalar.muli v24 c1_i32_4075
  let v3393 : BitVec 32 := Scalar.addi c0_i32_4076 v3392
  v3393.toNat
def k0_dev117 (d0 : Dev nD) : Nat :=
  let c0_i32_4109 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4108 : BitVec 32 := 1#32
  let v3410 : BitVec 32 := Scalar.muli v24 c1_i32_4108
  let v3411 : BitVec 32 := Scalar.addi c0_i32_4109 v3410
  v3411.toNat
def k0_dev118 (d0 : Dev nD) : Nat :=
  let c0_i32_4126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4125 : BitVec 32 := 1#32
  let v3422 : BitVec 32 := Scalar.muli v13 c1_i32_4125
  let v3423 : BitVec 32 := Scalar.addi c0_i32_4126 v3422
  v3423.toNat
def k0_dev119 (d0 : Dev nD) : Nat :=
  let c0_i32_4218 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4217 : BitVec 32 := 1#32
  let v3506 : BitVec 32 := Scalar.muli v13 c1_i32_4217
  let v3507 : BitVec 32 := Scalar.addi c0_i32_4218 v3506
  v3507.toNat
def k0_dev120 (d0 : Dev nD) : Nat :=
  let c0_i32_4222 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4221 : BitVec 32 := 1#32
  let v3510 : BitVec 32 := Scalar.muli v24 c1_i32_4221
  let v3511 : BitVec 32 := Scalar.addi c0_i32_4222 v3510
  v3511.toNat
def k0_dev121 (d0 : Dev nD) : Nat :=
  let c0_i32_4255 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4254 : BitVec 32 := 1#32
  let v3528 : BitVec 32 := Scalar.muli v24 c1_i32_4254
  let v3529 : BitVec 32 := Scalar.addi c0_i32_4255 v3528
  v3529.toNat
def k0_dev122 (d0 : Dev nD) : Nat :=
  let c0_i32_4272 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4271 : BitVec 32 := 1#32
  let v3540 : BitVec 32 := Scalar.muli v13 c1_i32_4271
  let v3541 : BitVec 32 := Scalar.addi c0_i32_4272 v3540
  v3541.toNat
def k0_dev123 (d0 : Dev nD) : Nat :=
  let c0_i32_4364 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4363 : BitVec 32 := 1#32
  let v3624 : BitVec 32 := Scalar.muli v13 c1_i32_4363
  let v3625 : BitVec 32 := Scalar.addi c0_i32_4364 v3624
  v3625.toNat
def k0_dev124 (d0 : Dev nD) : Nat :=
  let c0_i32_4368 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4367 : BitVec 32 := 1#32
  let v3628 : BitVec 32 := Scalar.muli v24 c1_i32_4367
  let v3629 : BitVec 32 := Scalar.addi c0_i32_4368 v3628
  v3629.toNat
def k0_dev125 (d0 : Dev nD) : Nat :=
  let c0_i32_4401 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4400 : BitVec 32 := 1#32
  let v3646 : BitVec 32 := Scalar.muli v24 c1_i32_4400
  let v3647 : BitVec 32 := Scalar.addi c0_i32_4401 v3646
  v3647.toNat
def k0_dev126 (d0 : Dev nD) : Nat :=
  let c0_i32_4418 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4417 : BitVec 32 := 1#32
  let v3658 : BitVec 32 := Scalar.muli v13 c1_i32_4417
  let v3659 : BitVec 32 := Scalar.addi c0_i32_4418 v3658
  v3659.toNat
def k0_dev127 (d0 : Dev nD) : Nat :=
  let c0_i32_4510 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4509 : BitVec 32 := 1#32
  let v3742 : BitVec 32 := Scalar.muli v13 c1_i32_4509
  let v3743 : BitVec 32 := Scalar.addi c0_i32_4510 v3742
  v3743.toNat
def k0_dev128 (d0 : Dev nD) : Nat :=
  let c0_i32_4514 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4513 : BitVec 32 := 1#32
  let v3746 : BitVec 32 := Scalar.muli v24 c1_i32_4513
  let v3747 : BitVec 32 := Scalar.addi c0_i32_4514 v3746
  v3747.toNat
def k0_dev129 (d0 : Dev nD) : Nat :=
  let c0_i32_4547 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4546 : BitVec 32 := 1#32
  let v3764 : BitVec 32 := Scalar.muli v24 c1_i32_4546
  let v3765 : BitVec 32 := Scalar.addi c0_i32_4547 v3764
  v3765.toNat
def k0_dev130 (d0 : Dev nD) : Nat :=
  let c0_i32_4564 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4563 : BitVec 32 := 1#32
  let v3776 : BitVec 32 := Scalar.muli v13 c1_i32_4563
  let v3777 : BitVec 32 := Scalar.addi c0_i32_4564 v3776
  v3777.toNat
def k0_dev131 (d0 : Dev nD) : Nat :=
  let c0_i32_4656 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4655 : BitVec 32 := 1#32
  let v3860 : BitVec 32 := Scalar.muli v13 c1_i32_4655
  let v3861 : BitVec 32 := Scalar.addi c0_i32_4656 v3860
  v3861.toNat
def k0_dev132 (d0 : Dev nD) : Nat :=
  let c0_i32_4660 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4659 : BitVec 32 := 1#32
  let v3864 : BitVec 32 := Scalar.muli v24 c1_i32_4659
  let v3865 : BitVec 32 := Scalar.addi c0_i32_4660 v3864
  v3865.toNat
def k0_dev133 (d0 : Dev nD) : Nat :=
  let c0_i32_4693 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4692 : BitVec 32 := 1#32
  let v3882 : BitVec 32 := Scalar.muli v24 c1_i32_4692
  let v3883 : BitVec 32 := Scalar.addi c0_i32_4693 v3882
  v3883.toNat
def k0_dev134 (d0 : Dev nD) : Nat :=
  let c0_i32_4710 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4709 : BitVec 32 := 1#32
  let v3894 : BitVec 32 := Scalar.muli v13 c1_i32_4709
  let v3895 : BitVec 32 := Scalar.addi c0_i32_4710 v3894
  v3895.toNat
def k0_dev135 (d0 : Dev nD) : Nat :=
  let c0_i32_4802 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4801 : BitVec 32 := 1#32
  let v3978 : BitVec 32 := Scalar.muli v13 c1_i32_4801
  let v3979 : BitVec 32 := Scalar.addi c0_i32_4802 v3978
  v3979.toNat
def k0_dev136 (d0 : Dev nD) : Nat :=
  let c0_i32_4806 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4805 : BitVec 32 := 1#32
  let v3982 : BitVec 32 := Scalar.muli v24 c1_i32_4805
  let v3983 : BitVec 32 := Scalar.addi c0_i32_4806 v3982
  v3983.toNat
def k0_dev137 (d0 : Dev nD) : Nat :=
  let c0_i32_4839 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4838 : BitVec 32 := 1#32
  let v4000 : BitVec 32 := Scalar.muli v24 c1_i32_4838
  let v4001 : BitVec 32 := Scalar.addi c0_i32_4839 v4000
  v4001.toNat
def k0_dev138 (d0 : Dev nD) : Nat :=
  let c0_i32_4856 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4855 : BitVec 32 := 1#32
  let v4012 : BitVec 32 := Scalar.muli v13 c1_i32_4855
  let v4013 : BitVec 32 := Scalar.addi c0_i32_4856 v4012
  v4013.toNat
def k0_dev139 (d0 : Dev nD) : Nat :=
  let c0_i32_4947 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4946 : BitVec 32 := 1#32
  let v4096 : BitVec 32 := Scalar.muli v13 c1_i32_4946
  let v4097 : BitVec 32 := Scalar.addi c0_i32_4947 v4096
  v4097.toNat
def k0_dev140 (d0 : Dev nD) : Nat :=
  let c0_i32_4951 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4950 : BitVec 32 := 1#32
  let v4100 : BitVec 32 := Scalar.muli v24 c1_i32_4950
  let v4101 : BitVec 32 := Scalar.addi c0_i32_4951 v4100
  v4101.toNat
def k0_dev141 (d0 : Dev nD) : Nat :=
  let c0_i32_4984 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4983 : BitVec 32 := 1#32
  let v4118 : BitVec 32 := Scalar.muli v24 c1_i32_4983
  let v4119 : BitVec 32 := Scalar.addi c0_i32_4984 v4118
  v4119.toNat
def k0_dev142 (d0 : Dev nD) : Nat :=
  let c0_i32_5001 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5000 : BitVec 32 := 1#32
  let v4130 : BitVec 32 := Scalar.muli v13 c1_i32_5000
  let v4131 : BitVec 32 := Scalar.addi c0_i32_5001 v4130
  v4131.toNat
def k0_dev143 (d0 : Dev nD) : Nat :=
  let c0_i32_5093 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5092 : BitVec 32 := 1#32
  let v4214 : BitVec 32 := Scalar.muli v13 c1_i32_5092
  let v4215 : BitVec 32 := Scalar.addi c0_i32_5093 v4214
  v4215.toNat
def k0_dev144 (d0 : Dev nD) : Nat :=
  let c0_i32_5097 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5096 : BitVec 32 := 1#32
  let v4218 : BitVec 32 := Scalar.muli v24 c1_i32_5096
  let v4219 : BitVec 32 := Scalar.addi c0_i32_5097 v4218
  v4219.toNat
def k0_dev145 (d0 : Dev nD) : Nat :=
  let c0_i32_5130 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5129 : BitVec 32 := 1#32
  let v4236 : BitVec 32 := Scalar.muli v24 c1_i32_5129
  let v4237 : BitVec 32 := Scalar.addi c0_i32_5130 v4236
  v4237.toNat
def k0_dev146 (d0 : Dev nD) : Nat :=
  let c0_i32_5147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5146 : BitVec 32 := 1#32
  let v4248 : BitVec 32 := Scalar.muli v13 c1_i32_5146
  let v4249 : BitVec 32 := Scalar.addi c0_i32_5147 v4248
  v4249.toNat
def k0_dev147 (d0 : Dev nD) : Nat :=
  let c0_i32_5239 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5238 : BitVec 32 := 1#32
  let v4332 : BitVec 32 := Scalar.muli v13 c1_i32_5238
  let v4333 : BitVec 32 := Scalar.addi c0_i32_5239 v4332
  v4333.toNat
def k0_dev148 (d0 : Dev nD) : Nat :=
  let c0_i32_5243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5242 : BitVec 32 := 1#32
  let v4336 : BitVec 32 := Scalar.muli v24 c1_i32_5242
  let v4337 : BitVec 32 := Scalar.addi c0_i32_5243 v4336
  v4337.toNat
def k0_dev149 (d0 : Dev nD) : Nat :=
  let c0_i32_5276 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5275 : BitVec 32 := 1#32
  let v4354 : BitVec 32 := Scalar.muli v24 c1_i32_5275
  let v4355 : BitVec 32 := Scalar.addi c0_i32_5276 v4354
  v4355.toNat
def k0_dev150 (d0 : Dev nD) : Nat :=
  let c0_i32_5293 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5292 : BitVec 32 := 1#32
  let v4366 : BitVec 32 := Scalar.muli v13 c1_i32_5292
  let v4367 : BitVec 32 := Scalar.addi c0_i32_5293 v4366
  v4367.toNat
def k0_dev151 (d0 : Dev nD) : Nat :=
  let c0_i32_5385 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5384 : BitVec 32 := 1#32
  let v4450 : BitVec 32 := Scalar.muli v13 c1_i32_5384
  let v4451 : BitVec 32 := Scalar.addi c0_i32_5385 v4450
  v4451.toNat
def k0_dev152 (d0 : Dev nD) : Nat :=
  let c0_i32_5389 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5388 : BitVec 32 := 1#32
  let v4454 : BitVec 32 := Scalar.muli v24 c1_i32_5388
  let v4455 : BitVec 32 := Scalar.addi c0_i32_5389 v4454
  v4455.toNat
def k0_dev153 (d0 : Dev nD) : Nat :=
  let c0_i32_5422 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5421 : BitVec 32 := 1#32
  let v4472 : BitVec 32 := Scalar.muli v24 c1_i32_5421
  let v4473 : BitVec 32 := Scalar.addi c0_i32_5422 v4472
  v4473.toNat
def k0_dev154 (d0 : Dev nD) : Nat :=
  let c0_i32_5439 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5438 : BitVec 32 := 1#32
  let v4484 : BitVec 32 := Scalar.muli v13 c1_i32_5438
  let v4485 : BitVec 32 := Scalar.addi c0_i32_5439 v4484
  v4485.toNat
def k0_dev155 (d0 : Dev nD) : Nat :=
  let c0_i32_5530 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5529 : BitVec 32 := 1#32
  let v4568 : BitVec 32 := Scalar.muli v13 c1_i32_5529
  let v4569 : BitVec 32 := Scalar.addi c0_i32_5530 v4568
  v4569.toNat
def k0_dev156 (d0 : Dev nD) : Nat :=
  let c0_i32_5534 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5533 : BitVec 32 := 1#32
  let v4572 : BitVec 32 := Scalar.muli v24 c1_i32_5533
  let v4573 : BitVec 32 := Scalar.addi c0_i32_5534 v4572
  v4573.toNat
def k0_dev157 (d0 : Dev nD) : Nat :=
  let c0_i32_5567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5566 : BitVec 32 := 1#32
  let v4590 : BitVec 32 := Scalar.muli v24 c1_i32_5566
  let v4591 : BitVec 32 := Scalar.addi c0_i32_5567 v4590
  v4591.toNat
def k0_dev158 (d0 : Dev nD) : Nat :=
  let c0_i32_5584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5583 : BitVec 32 := 1#32
  let v4602 : BitVec 32 := Scalar.muli v13 c1_i32_5583
  let v4603 : BitVec 32 := Scalar.addi c0_i32_5584 v4602
  v4603.toNat
def k0_dev159 (d0 : Dev nD) : Nat :=
  let c0_i32_5676 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5675 : BitVec 32 := 1#32
  let v4686 : BitVec 32 := Scalar.muli v13 c1_i32_5675
  let v4687 : BitVec 32 := Scalar.addi c0_i32_5676 v4686
  v4687.toNat
def k0_dev160 (d0 : Dev nD) : Nat :=
  let c0_i32_5680 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5679 : BitVec 32 := 1#32
  let v4690 : BitVec 32 := Scalar.muli v24 c1_i32_5679
  let v4691 : BitVec 32 := Scalar.addi c0_i32_5680 v4690
  v4691.toNat
def k0_dev161 (d0 : Dev nD) : Nat :=
  let c0_i32_5713 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5712 : BitVec 32 := 1#32
  let v4708 : BitVec 32 := Scalar.muli v24 c1_i32_5712
  let v4709 : BitVec 32 := Scalar.addi c0_i32_5713 v4708
  v4709.toNat
def k0_dev162 (d0 : Dev nD) : Nat :=
  let c0_i32_5730 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5729 : BitVec 32 := 1#32
  let v4720 : BitVec 32 := Scalar.muli v13 c1_i32_5729
  let v4721 : BitVec 32 := Scalar.addi c0_i32_5730 v4720
  v4721.toNat
def k0_dev163 (d0 : Dev nD) : Nat :=
  let c0_i32_5822 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5821 : BitVec 32 := 1#32
  let v4804 : BitVec 32 := Scalar.muli v13 c1_i32_5821
  let v4805 : BitVec 32 := Scalar.addi c0_i32_5822 v4804
  v4805.toNat
def k0_dev164 (d0 : Dev nD) : Nat :=
  let c0_i32_5826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5825 : BitVec 32 := 1#32
  let v4808 : BitVec 32 := Scalar.muli v24 c1_i32_5825
  let v4809 : BitVec 32 := Scalar.addi c0_i32_5826 v4808
  v4809.toNat
def k0_dev165 (d0 : Dev nD) : Nat :=
  let c0_i32_5859 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5858 : BitVec 32 := 1#32
  let v4826 : BitVec 32 := Scalar.muli v24 c1_i32_5858
  let v4827 : BitVec 32 := Scalar.addi c0_i32_5859 v4826
  v4827.toNat
def k0_dev166 (d0 : Dev nD) : Nat :=
  let c0_i32_5876 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5875 : BitVec 32 := 1#32
  let v4838 : BitVec 32 := Scalar.muli v13 c1_i32_5875
  let v4839 : BitVec 32 := Scalar.addi c0_i32_5876 v4838
  v4839.toNat
def k0_dev167 (d0 : Dev nD) : Nat :=
  let c0_i32_5968 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5967 : BitVec 32 := 1#32
  let v4922 : BitVec 32 := Scalar.muli v13 c1_i32_5967
  let v4923 : BitVec 32 := Scalar.addi c0_i32_5968 v4922
  v4923.toNat
def k0_dev168 (d0 : Dev nD) : Nat :=
  let c0_i32_5972 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5971 : BitVec 32 := 1#32
  let v4926 : BitVec 32 := Scalar.muli v24 c1_i32_5971
  let v4927 : BitVec 32 := Scalar.addi c0_i32_5972 v4926
  v4927.toNat
def k0_dev169 (d0 : Dev nD) : Nat :=
  let c0_i32_6005 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6004 : BitVec 32 := 1#32
  let v4944 : BitVec 32 := Scalar.muli v24 c1_i32_6004
  let v4945 : BitVec 32 := Scalar.addi c0_i32_6005 v4944
  v4945.toNat
def k0_dev170 (d0 : Dev nD) : Nat :=
  let c0_i32_6022 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6021 : BitVec 32 := 1#32
  let v4956 : BitVec 32 := Scalar.muli v13 c1_i32_6021
  let v4957 : BitVec 32 := Scalar.addi c0_i32_6022 v4956
  v4957.toNat
def k0_dev171 (d0 : Dev nD) : Nat :=
  let c0_i32_6113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6112 : BitVec 32 := 1#32
  let v5040 : BitVec 32 := Scalar.muli v13 c1_i32_6112
  let v5041 : BitVec 32 := Scalar.addi c0_i32_6113 v5040
  v5041.toNat
def k0_dev172 (d0 : Dev nD) : Nat :=
  let c0_i32_6117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6116 : BitVec 32 := 1#32
  let v5044 : BitVec 32 := Scalar.muli v24 c1_i32_6116
  let v5045 : BitVec 32 := Scalar.addi c0_i32_6117 v5044
  v5045.toNat
def k0_dev173 (d0 : Dev nD) : Nat :=
  let c0_i32_6150 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6149 : BitVec 32 := 1#32
  let v5062 : BitVec 32 := Scalar.muli v24 c1_i32_6149
  let v5063 : BitVec 32 := Scalar.addi c0_i32_6150 v5062
  v5063.toNat
def k0_dev174 (d0 : Dev nD) : Nat :=
  let c0_i32_6167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6166 : BitVec 32 := 1#32
  let v5074 : BitVec 32 := Scalar.muli v13 c1_i32_6166
  let v5075 : BitVec 32 := Scalar.addi c0_i32_6167 v5074
  v5075.toNat
def k0_dev175 (d0 : Dev nD) : Nat :=
  let c0_i32_6259 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6258 : BitVec 32 := 1#32
  let v5158 : BitVec 32 := Scalar.muli v13 c1_i32_6258
  let v5159 : BitVec 32 := Scalar.addi c0_i32_6259 v5158
  v5159.toNat
def k0_dev176 (d0 : Dev nD) : Nat :=
  let c0_i32_6263 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6262 : BitVec 32 := 1#32
  let v5162 : BitVec 32 := Scalar.muli v24 c1_i32_6262
  let v5163 : BitVec 32 := Scalar.addi c0_i32_6263 v5162
  v5163.toNat
def k0_dev177 (d0 : Dev nD) : Nat :=
  let c0_i32_6296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6295 : BitVec 32 := 1#32
  let v5180 : BitVec 32 := Scalar.muli v24 c1_i32_6295
  let v5181 : BitVec 32 := Scalar.addi c0_i32_6296 v5180
  v5181.toNat
def k0_dev178 (d0 : Dev nD) : Nat :=
  let c0_i32_6313 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6312 : BitVec 32 := 1#32
  let v5192 : BitVec 32 := Scalar.muli v13 c1_i32_6312
  let v5193 : BitVec 32 := Scalar.addi c0_i32_6313 v5192
  v5193.toNat
def k0_dev179 (d0 : Dev nD) : Nat :=
  let c0_i32_6405 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6404 : BitVec 32 := 1#32
  let v5276 : BitVec 32 := Scalar.muli v13 c1_i32_6404
  let v5277 : BitVec 32 := Scalar.addi c0_i32_6405 v5276
  v5277.toNat
def k0_dev180 (d0 : Dev nD) : Nat :=
  let c0_i32_6409 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6408 : BitVec 32 := 1#32
  let v5280 : BitVec 32 := Scalar.muli v24 c1_i32_6408
  let v5281 : BitVec 32 := Scalar.addi c0_i32_6409 v5280
  v5281.toNat
def k0_dev181 (d0 : Dev nD) : Nat :=
  let c0_i32_6442 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6441 : BitVec 32 := 1#32
  let v5298 : BitVec 32 := Scalar.muli v24 c1_i32_6441
  let v5299 : BitVec 32 := Scalar.addi c0_i32_6442 v5298
  v5299.toNat
def k0_dev182 (d0 : Dev nD) : Nat :=
  let c0_i32_6459 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6458 : BitVec 32 := 1#32
  let v5310 : BitVec 32 := Scalar.muli v13 c1_i32_6458
  let v5311 : BitVec 32 := Scalar.addi c0_i32_6459 v5310
  v5311.toNat
def k0_dev183 (d0 : Dev nD) : Nat :=
  let c0_i32_6551 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6550 : BitVec 32 := 1#32
  let v5394 : BitVec 32 := Scalar.muli v13 c1_i32_6550
  let v5395 : BitVec 32 := Scalar.addi c0_i32_6551 v5394
  v5395.toNat
def k0_dev184 (d0 : Dev nD) : Nat :=
  let c0_i32_6555 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6554 : BitVec 32 := 1#32
  let v5398 : BitVec 32 := Scalar.muli v24 c1_i32_6554
  let v5399 : BitVec 32 := Scalar.addi c0_i32_6555 v5398
  v5399.toNat
def k0_dev185 (d0 : Dev nD) : Nat :=
  let c0_i32_6588 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6587 : BitVec 32 := 1#32
  let v5416 : BitVec 32 := Scalar.muli v24 c1_i32_6587
  let v5417 : BitVec 32 := Scalar.addi c0_i32_6588 v5416
  v5417.toNat
def k0_dev186 (d0 : Dev nD) : Nat :=
  let c0_i32_6605 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6604 : BitVec 32 := 1#32
  let v5428 : BitVec 32 := Scalar.muli v13 c1_i32_6604
  let v5429 : BitVec 32 := Scalar.addi c0_i32_6605 v5428
  v5429.toNat
def k0_dev187 (d0 : Dev nD) : Nat :=
  let c0_i32_6696 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6695 : BitVec 32 := 1#32
  let v5512 : BitVec 32 := Scalar.muli v13 c1_i32_6695
  let v5513 : BitVec 32 := Scalar.addi c0_i32_6696 v5512
  v5513.toNat
def k0_dev188 (d0 : Dev nD) : Nat :=
  let c0_i32_6700 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6699 : BitVec 32 := 1#32
  let v5516 : BitVec 32 := Scalar.muli v24 c1_i32_6699
  let v5517 : BitVec 32 := Scalar.addi c0_i32_6700 v5516
  v5517.toNat
def k0_dev189 (d0 : Dev nD) : Nat :=
  let c0_i32_6733 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6732 : BitVec 32 := 1#32
  let v5534 : BitVec 32 := Scalar.muli v24 c1_i32_6732
  let v5535 : BitVec 32 := Scalar.addi c0_i32_6733 v5534
  v5535.toNat
def k0_dev190 (d0 : Dev nD) : Nat :=
  let c0_i32_6750 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6749 : BitVec 32 := 1#32
  let v5546 : BitVec 32 := Scalar.muli v13 c1_i32_6749
  let v5547 : BitVec 32 := Scalar.addi c0_i32_6750 v5546
  v5547.toNat
def k0_dev191 (d0 : Dev nD) : Nat :=
  let c0_i32_6842 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6841 : BitVec 32 := 1#32
  let v5630 : BitVec 32 := Scalar.muli v13 c1_i32_6841
  let v5631 : BitVec 32 := Scalar.addi c0_i32_6842 v5630
  v5631.toNat
def k0_dev192 (d0 : Dev nD) : Nat :=
  let c0_i32_6846 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6845 : BitVec 32 := 1#32
  let v5634 : BitVec 32 := Scalar.muli v24 c1_i32_6845
  let v5635 : BitVec 32 := Scalar.addi c0_i32_6846 v5634
  v5635.toNat
def k0_dev193 (d0 : Dev nD) : Nat :=
  let c0_i32_6879 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6878 : BitVec 32 := 1#32
  let v5652 : BitVec 32 := Scalar.muli v24 c1_i32_6878
  let v5653 : BitVec 32 := Scalar.addi c0_i32_6879 v5652
  v5653.toNat
def k0_dev194 (d0 : Dev nD) : Nat :=
  let c0_i32_6896 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6895 : BitVec 32 := 1#32
  let v5664 : BitVec 32 := Scalar.muli v13 c1_i32_6895
  let v5665 : BitVec 32 := Scalar.addi c0_i32_6896 v5664
  v5665.toNat
def k0_dev195 (d0 : Dev nD) : Nat :=
  let c0_i32_6988 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6987 : BitVec 32 := 1#32
  let v5748 : BitVec 32 := Scalar.muli v13 c1_i32_6987
  let v5749 : BitVec 32 := Scalar.addi c0_i32_6988 v5748
  v5749.toNat
def k0_dev196 (d0 : Dev nD) : Nat :=
  let c0_i32_6992 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6991 : BitVec 32 := 1#32
  let v5752 : BitVec 32 := Scalar.muli v24 c1_i32_6991
  let v5753 : BitVec 32 := Scalar.addi c0_i32_6992 v5752
  v5753.toNat
def k0_dev197 (d0 : Dev nD) : Nat :=
  let c0_i32_7025 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7024 : BitVec 32 := 1#32
  let v5770 : BitVec 32 := Scalar.muli v24 c1_i32_7024
  let v5771 : BitVec 32 := Scalar.addi c0_i32_7025 v5770
  v5771.toNat
def k0_dev198 (d0 : Dev nD) : Nat :=
  let c0_i32_7042 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7041 : BitVec 32 := 1#32
  let v5782 : BitVec 32 := Scalar.muli v13 c1_i32_7041
  let v5783 : BitVec 32 := Scalar.addi c0_i32_7042 v5782
  v5783.toNat
def k0_dev199 (d0 : Dev nD) : Nat :=
  let c0_i32_7134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7133 : BitVec 32 := 1#32
  let v5866 : BitVec 32 := Scalar.muli v13 c1_i32_7133
  let v5867 : BitVec 32 := Scalar.addi c0_i32_7134 v5866
  v5867.toNat
def k0_dev200 (d0 : Dev nD) : Nat :=
  let c0_i32_7138 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7137 : BitVec 32 := 1#32
  let v5870 : BitVec 32 := Scalar.muli v24 c1_i32_7137
  let v5871 : BitVec 32 := Scalar.addi c0_i32_7138 v5870
  v5871.toNat
def k0_dev201 (d0 : Dev nD) : Nat :=
  let c0_i32_7171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7170 : BitVec 32 := 1#32
  let v5888 : BitVec 32 := Scalar.muli v24 c1_i32_7170
  let v5889 : BitVec 32 := Scalar.addi c0_i32_7171 v5888
  v5889.toNat
def k0_dev202 (d0 : Dev nD) : Nat :=
  let c0_i32_7188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7187 : BitVec 32 := 1#32
  let v5900 : BitVec 32 := Scalar.muli v13 c1_i32_7187
  let v5901 : BitVec 32 := Scalar.addi c0_i32_7188 v5900
  v5901.toNat
def k0_dev203 (d0 : Dev nD) : Nat :=
  let c0_i32_7308 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7307 : BitVec 32 := 1#32
  let v5998 : BitVec 32 := Scalar.muli v24 c1_i32_7307
  let v5999 : BitVec 32 := Scalar.addi c0_i32_7308 v5998
  v5999.toNat
def k0_dev204 (d0 : Dev nD) : Nat :=
  let c0_i32_7325 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7324 : BitVec 32 := 1#32
  let v6010 : BitVec 32 := Scalar.muli v13 c1_i32_7324
  let v6011 : BitVec 32 := Scalar.addi c0_i32_7325 v6010
  v6011.toNat
def k0_dev205 (d0 : Dev nD) : Nat :=
  let c0_i32_7446 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7445 : BitVec 32 := 1#32
  let v6108 : BitVec 32 := Scalar.muli v24 c1_i32_7445
  let v6109 : BitVec 32 := Scalar.addi c0_i32_7446 v6108
  v6109.toNat
def k0_dev206 (d0 : Dev nD) : Nat :=
  let c0_i32_7463 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7462 : BitVec 32 := 1#32
  let v6120 : BitVec 32 := Scalar.muli v13 c1_i32_7462
  let v6121 : BitVec 32 := Scalar.addi c0_i32_7463 v6120
  v6121.toNat
def k0_dev207 (d0 : Dev nD) : Nat :=
  let c0_i32_7584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7583 : BitVec 32 := 1#32
  let v6218 : BitVec 32 := Scalar.muli v24 c1_i32_7583
  let v6219 : BitVec 32 := Scalar.addi c0_i32_7584 v6218
  v6219.toNat
def k0_dev208 (d0 : Dev nD) : Nat :=
  let c0_i32_7601 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7600 : BitVec 32 := 1#32
  let v6230 : BitVec 32 := Scalar.muli v13 c1_i32_7600
  let v6231 : BitVec 32 := Scalar.addi c0_i32_7601 v6230
  v6231.toNat
def k0_dev209 (d0 : Dev nD) : Nat :=
  let c0_i32_7722 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7721 : BitVec 32 := 1#32
  let v6328 : BitVec 32 := Scalar.muli v24 c1_i32_7721
  let v6329 : BitVec 32 := Scalar.addi c0_i32_7722 v6328
  v6329.toNat
def k0_dev210 (d0 : Dev nD) : Nat :=
  let c0_i32_7739 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7738 : BitVec 32 := 1#32
  let v6340 : BitVec 32 := Scalar.muli v13 c1_i32_7738
  let v6341 : BitVec 32 := Scalar.addi c0_i32_7739 v6340
  v6341.toNat
def k0_dev211 (d0 : Dev nD) : Nat :=
  let c0_i32_7859 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7858 : BitVec 32 := 1#32
  let v6438 : BitVec 32 := Scalar.muli v24 c1_i32_7858
  let v6439 : BitVec 32 := Scalar.addi c0_i32_7859 v6438
  v6439.toNat
def k0_dev212 (d0 : Dev nD) : Nat :=
  let c0_i32_7876 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_7875 : BitVec 32 := 1#32
  let v6450 : BitVec 32 := Scalar.muli v13 c1_i32_7875
  let v6451 : BitVec 32 := Scalar.addi c0_i32_7876 v6450
  v6451.toNat
def k0_dev213 (d0 : Dev nD) : Nat :=
  let c0_i32_7997 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_7996 : BitVec 32 := 1#32
  let v6548 : BitVec 32 := Scalar.muli v24 c1_i32_7996
  let v6549 : BitVec 32 := Scalar.addi c0_i32_7997 v6548
  v6549.toNat
def k0_dev214 (d0 : Dev nD) : Nat :=
  let c0_i32_8014 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8013 : BitVec 32 := 1#32
  let v6560 : BitVec 32 := Scalar.muli v13 c1_i32_8013
  let v6561 : BitVec 32 := Scalar.addi c0_i32_8014 v6560
  v6561.toNat
def k0_dev215 (d0 : Dev nD) : Nat :=
  let c0_i32_8135 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8134 : BitVec 32 := 1#32
  let v6658 : BitVec 32 := Scalar.muli v24 c1_i32_8134
  let v6659 : BitVec 32 := Scalar.addi c0_i32_8135 v6658
  v6659.toNat
def k0_dev216 (d0 : Dev nD) : Nat :=
  let c0_i32_8152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8151 : BitVec 32 := 1#32
  let v6670 : BitVec 32 := Scalar.muli v13 c1_i32_8151
  let v6671 : BitVec 32 := Scalar.addi c0_i32_8152 v6670
  v6671.toNat
def k0_dev217 (d0 : Dev nD) : Nat :=
  let c0_i32_8273 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_8272 : BitVec 32 := 1#32
  let v6768 : BitVec 32 := Scalar.muli v24 c1_i32_8272
  let v6769 : BitVec 32 := Scalar.addi c0_i32_8273 v6768
  v6769.toNat
def k0_dev218 (d0 : Dev nD) : Nat :=
  let c0_i32_8290 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_8289 : BitVec 32 := 1#32
  let v6780 : BitVec 32 := Scalar.muli v13 c1_i32_8289
  let v6781 : BitVec 32 := Scalar.addi c0_i32_8290 v6780
  v6781.toNat
def k0_off5 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v7212 : Index := Scalar.indexCast v2
  let c0_8759 : Index := 0#32
  let c0_8760 : Index := 0#32
  ![v7212.toNat, 0, 0]
def k0_off6 (d0 : Dev nD) (c1_i32_8761 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v7216 : BitVec 32 := Scalar.addi v2 c1_i32_8761
  let c16_i32_8762 : BitVec 32 := 16#32
  let c0_i32_8763 : BitVec 32 := 0#32
  let v7217 : BitVec 1 := Scalar.cmpi .eq c16_i32_8762 c0_i32_8763
  let c1_i32_8764 : BitVec 32 := 1#32
  let v7218 : BitVec 32 := Scalar.select v7217 c1_i32_8764 c16_i32_8762
  let v7219 : BitVec 32 := Scalar.remsi v7216 v7218
  let c0_i32_8766 : BitVec 32 := 0#32
  let v7221 : BitVec 1 := Scalar.cmpi .slt v7219 c0_i32_8766
  let c0_i32_8767 : BitVec 32 := 0#32
  let v7222 : BitVec 1 := Scalar.cmpi .slt v7218 c0_i32_8767
  let v7223 : BitVec 1 := Scalar.xori v7221 v7222
  let c0_i32_8765 : BitVec 32 := 0#32
  let v7220 : BitVec 1 := Scalar.cmpi .ne v7219 c0_i32_8765
  let v7224 : BitVec 1 := Scalar.andi v7223 v7220
  let v7225 : BitVec 32 := Scalar.addi v7219 v7218
  let v7226 : BitVec 32 := Scalar.select v7224 v7225 v7219
  ![v7226.toNat]
def k0_off7 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_8770 : BitVec 32 := 0#32
  let c0_i32_8771 : BitVec 32 := 0#32
  ![v2.toNat, 0, 0]
def k0_dev219 (d0 : Dev nD) : Nat :=
  let c0_i32_8769 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_8761 : BitVec 32 := 1#32
  let v7216 : BitVec 32 := Scalar.addi v2 c1_i32_8761
  let c16_i32_8762 : BitVec 32 := 16#32
  let c0_i32_8763 : BitVec 32 := 0#32
  let v7217 : BitVec 1 := Scalar.cmpi .eq c16_i32_8762 c0_i32_8763
  let c1_i32_8764 : BitVec 32 := 1#32
  let v7218 : BitVec 32 := Scalar.select v7217 c1_i32_8764 c16_i32_8762
  let v7219 : BitVec 32 := Scalar.remsi v7216 v7218
  let c0_i32_8766 : BitVec 32 := 0#32
  let v7221 : BitVec 1 := Scalar.cmpi .slt v7219 c0_i32_8766
  let c0_i32_8767 : BitVec 32 := 0#32
  let v7222 : BitVec 1 := Scalar.cmpi .slt v7218 c0_i32_8767
  let v7223 : BitVec 1 := Scalar.xori v7221 v7222
  let c0_i32_8765 : BitVec 32 := 0#32
  let v7220 : BitVec 1 := Scalar.cmpi .ne v7219 c0_i32_8765
  let v7224 : BitVec 1 := Scalar.andi v7223 v7220
  let v7225 : BitVec 32 := Scalar.addi v7219 v7218
  let v7226 : BitVec 32 := Scalar.select v7224 v7225 v7219
  let c1_i32_8768 : BitVec 32 := 1#32
  let v7227 : BitVec 32 := Scalar.muli v7226 c1_i32_8768
  let v7228 : BitVec 32 := Scalar.addi c0_i32_8769 v7227
  v7228.toNat
def k0_dev220 (d0 : Dev nD) : Nat :=
  let c0_i32_8782 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_8774 : BitVec 32 := 2#32
  let v7237 : BitVec 32 := Scalar.addi v2 c2_i32_8774
  let c16_i32_8775 : BitVec 32 := 16#32
  let c0_i32_8776 : BitVec 32 := 0#32
  let v7238 : BitVec 1 := Scalar.cmpi .eq c16_i32_8775 c0_i32_8776
  let c1_i32_8777 : BitVec 32 := 1#32
  let v7239 : BitVec 32 := Scalar.select v7238 c1_i32_8777 c16_i32_8775
  let v7240 : BitVec 32 := Scalar.remsi v7237 v7239
  let c0_i32_8779 : BitVec 32 := 0#32
  let v7242 : BitVec 1 := Scalar.cmpi .slt v7240 c0_i32_8779
  let c0_i32_8780 : BitVec 32 := 0#32
  let v7243 : BitVec 1 := Scalar.cmpi .slt v7239 c0_i32_8780
  let v7244 : BitVec 1 := Scalar.xori v7242 v7243
  let c0_i32_8778 : BitVec 32 := 0#32
  let v7241 : BitVec 1 := Scalar.cmpi .ne v7240 c0_i32_8778
  let v7245 : BitVec 1 := Scalar.andi v7244 v7241
  let v7246 : BitVec 32 := Scalar.addi v7240 v7239
  let v7247 : BitVec 32 := Scalar.select v7245 v7246 v7240
  let c1_i32_8781 : BitVec 32 := 1#32
  let v7248 : BitVec 32 := Scalar.muli v7247 c1_i32_8781
  let v7249 : BitVec 32 := Scalar.addi c0_i32_8782 v7248
  v7249.toNat
def k0_dev221 (d0 : Dev nD) : Nat :=
  let c0_i32_8795 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_8787 : BitVec 32 := 3#32
  let v7258 : BitVec 32 := Scalar.addi v2 c3_i32_8787
  let c16_i32_8788 : BitVec 32 := 16#32
  let c0_i32_8789 : BitVec 32 := 0#32
  let v7259 : BitVec 1 := Scalar.cmpi .eq c16_i32_8788 c0_i32_8789
  let c1_i32_8790 : BitVec 32 := 1#32
  let v7260 : BitVec 32 := Scalar.select v7259 c1_i32_8790 c16_i32_8788
  let v7261 : BitVec 32 := Scalar.remsi v7258 v7260
  let c0_i32_8792 : BitVec 32 := 0#32
  let v7263 : BitVec 1 := Scalar.cmpi .slt v7261 c0_i32_8792
  let c0_i32_8793 : BitVec 32 := 0#32
  let v7264 : BitVec 1 := Scalar.cmpi .slt v7260 c0_i32_8793
  let v7265 : BitVec 1 := Scalar.xori v7263 v7264
  let c0_i32_8791 : BitVec 32 := 0#32
  let v7262 : BitVec 1 := Scalar.cmpi .ne v7261 c0_i32_8791
  let v7266 : BitVec 1 := Scalar.andi v7265 v7262
  let v7267 : BitVec 32 := Scalar.addi v7261 v7260
  let v7268 : BitVec 32 := Scalar.select v7266 v7267 v7261
  let c1_i32_8794 : BitVec 32 := 1#32
  let v7269 : BitVec 32 := Scalar.muli v7268 c1_i32_8794
  let v7270 : BitVec 32 := Scalar.addi c0_i32_8795 v7269
  v7270.toNat
def k0_dev222 (d0 : Dev nD) : Nat :=
  let c0_i32_8808 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_8800 : BitVec 32 := 4#32
  let v7279 : BitVec 32 := Scalar.addi v2 c4_i32_8800
  let c16_i32_8801 : BitVec 32 := 16#32
  let c0_i32_8802 : BitVec 32 := 0#32
  let v7280 : BitVec 1 := Scalar.cmpi .eq c16_i32_8801 c0_i32_8802
  let c1_i32_8803 : BitVec 32 := 1#32
  let v7281 : BitVec 32 := Scalar.select v7280 c1_i32_8803 c16_i32_8801
  let v7282 : BitVec 32 := Scalar.remsi v7279 v7281
  let c0_i32_8805 : BitVec 32 := 0#32
  let v7284 : BitVec 1 := Scalar.cmpi .slt v7282 c0_i32_8805
  let c0_i32_8806 : BitVec 32 := 0#32
  let v7285 : BitVec 1 := Scalar.cmpi .slt v7281 c0_i32_8806
  let v7286 : BitVec 1 := Scalar.xori v7284 v7285
  let c0_i32_8804 : BitVec 32 := 0#32
  let v7283 : BitVec 1 := Scalar.cmpi .ne v7282 c0_i32_8804
  let v7287 : BitVec 1 := Scalar.andi v7286 v7283
  let v7288 : BitVec 32 := Scalar.addi v7282 v7281
  let v7289 : BitVec 32 := Scalar.select v7287 v7288 v7282
  let c1_i32_8807 : BitVec 32 := 1#32
  let v7290 : BitVec 32 := Scalar.muli v7289 c1_i32_8807
  let v7291 : BitVec 32 := Scalar.addi c0_i32_8808 v7290
  v7291.toNat
def k0_dev223 (d0 : Dev nD) : Nat :=
  let c0_i32_8821 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_8813 : BitVec 32 := 5#32
  let v7300 : BitVec 32 := Scalar.addi v2 c5_i32_8813
  let c16_i32_8814 : BitVec 32 := 16#32
  let c0_i32_8815 : BitVec 32 := 0#32
  let v7301 : BitVec 1 := Scalar.cmpi .eq c16_i32_8814 c0_i32_8815
  let c1_i32_8816 : BitVec 32 := 1#32
  let v7302 : BitVec 32 := Scalar.select v7301 c1_i32_8816 c16_i32_8814
  let v7303 : BitVec 32 := Scalar.remsi v7300 v7302
  let c0_i32_8818 : BitVec 32 := 0#32
  let v7305 : BitVec 1 := Scalar.cmpi .slt v7303 c0_i32_8818
  let c0_i32_8819 : BitVec 32 := 0#32
  let v7306 : BitVec 1 := Scalar.cmpi .slt v7302 c0_i32_8819
  let v7307 : BitVec 1 := Scalar.xori v7305 v7306
  let c0_i32_8817 : BitVec 32 := 0#32
  let v7304 : BitVec 1 := Scalar.cmpi .ne v7303 c0_i32_8817
  let v7308 : BitVec 1 := Scalar.andi v7307 v7304
  let v7309 : BitVec 32 := Scalar.addi v7303 v7302
  let v7310 : BitVec 32 := Scalar.select v7308 v7309 v7303
  let c1_i32_8820 : BitVec 32 := 1#32
  let v7311 : BitVec 32 := Scalar.muli v7310 c1_i32_8820
  let v7312 : BitVec 32 := Scalar.addi c0_i32_8821 v7311
  v7312.toNat
def k0_dev224 (d0 : Dev nD) : Nat :=
  let c0_i32_8834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_8826 : BitVec 32 := 6#32
  let v7321 : BitVec 32 := Scalar.addi v2 c6_i32_8826
  let c16_i32_8827 : BitVec 32 := 16#32
  let c0_i32_8828 : BitVec 32 := 0#32
  let v7322 : BitVec 1 := Scalar.cmpi .eq c16_i32_8827 c0_i32_8828
  let c1_i32_8829 : BitVec 32 := 1#32
  let v7323 : BitVec 32 := Scalar.select v7322 c1_i32_8829 c16_i32_8827
  let v7324 : BitVec 32 := Scalar.remsi v7321 v7323
  let c0_i32_8831 : BitVec 32 := 0#32
  let v7326 : BitVec 1 := Scalar.cmpi .slt v7324 c0_i32_8831
  let c0_i32_8832 : BitVec 32 := 0#32
  let v7327 : BitVec 1 := Scalar.cmpi .slt v7323 c0_i32_8832
  let v7328 : BitVec 1 := Scalar.xori v7326 v7327
  let c0_i32_8830 : BitVec 32 := 0#32
  let v7325 : BitVec 1 := Scalar.cmpi .ne v7324 c0_i32_8830
  let v7329 : BitVec 1 := Scalar.andi v7328 v7325
  let v7330 : BitVec 32 := Scalar.addi v7324 v7323
  let v7331 : BitVec 32 := Scalar.select v7329 v7330 v7324
  let c1_i32_8833 : BitVec 32 := 1#32
  let v7332 : BitVec 32 := Scalar.muli v7331 c1_i32_8833
  let v7333 : BitVec 32 := Scalar.addi c0_i32_8834 v7332
  v7333.toNat
def k0_dev225 (d0 : Dev nD) : Nat :=
  let c0_i32_8847 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_8839 : BitVec 32 := 7#32
  let v7342 : BitVec 32 := Scalar.addi v2 c7_i32_8839
  let c16_i32_8840 : BitVec 32 := 16#32
  let c0_i32_8841 : BitVec 32 := 0#32
  let v7343 : BitVec 1 := Scalar.cmpi .eq c16_i32_8840 c0_i32_8841
  let c1_i32_8842 : BitVec 32 := 1#32
  let v7344 : BitVec 32 := Scalar.select v7343 c1_i32_8842 c16_i32_8840
  let v7345 : BitVec 32 := Scalar.remsi v7342 v7344
  let c0_i32_8844 : BitVec 32 := 0#32
  let v7347 : BitVec 1 := Scalar.cmpi .slt v7345 c0_i32_8844
  let c0_i32_8845 : BitVec 32 := 0#32
  let v7348 : BitVec 1 := Scalar.cmpi .slt v7344 c0_i32_8845
  let v7349 : BitVec 1 := Scalar.xori v7347 v7348
  let c0_i32_8843 : BitVec 32 := 0#32
  let v7346 : BitVec 1 := Scalar.cmpi .ne v7345 c0_i32_8843
  let v7350 : BitVec 1 := Scalar.andi v7349 v7346
  let v7351 : BitVec 32 := Scalar.addi v7345 v7344
  let v7352 : BitVec 32 := Scalar.select v7350 v7351 v7345
  let c1_i32_8846 : BitVec 32 := 1#32
  let v7353 : BitVec 32 := Scalar.muli v7352 c1_i32_8846
  let v7354 : BitVec 32 := Scalar.addi c0_i32_8847 v7353
  v7354.toNat
def k0_dev226 (d0 : Dev nD) : Nat :=
  let c0_i32_8860 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_8852 : BitVec 32 := 8#32
  let v7363 : BitVec 32 := Scalar.addi v2 c8_i32_8852
  let c16_i32_8853 : BitVec 32 := 16#32
  let c0_i32_8854 : BitVec 32 := 0#32
  let v7364 : BitVec 1 := Scalar.cmpi .eq c16_i32_8853 c0_i32_8854
  let c1_i32_8855 : BitVec 32 := 1#32
  let v7365 : BitVec 32 := Scalar.select v7364 c1_i32_8855 c16_i32_8853
  let v7366 : BitVec 32 := Scalar.remsi v7363 v7365
  let c0_i32_8857 : BitVec 32 := 0#32
  let v7368 : BitVec 1 := Scalar.cmpi .slt v7366 c0_i32_8857
  let c0_i32_8858 : BitVec 32 := 0#32
  let v7369 : BitVec 1 := Scalar.cmpi .slt v7365 c0_i32_8858
  let v7370 : BitVec 1 := Scalar.xori v7368 v7369
  let c0_i32_8856 : BitVec 32 := 0#32
  let v7367 : BitVec 1 := Scalar.cmpi .ne v7366 c0_i32_8856
  let v7371 : BitVec 1 := Scalar.andi v7370 v7367
  let v7372 : BitVec 32 := Scalar.addi v7366 v7365
  let v7373 : BitVec 32 := Scalar.select v7371 v7372 v7366
  let c1_i32_8859 : BitVec 32 := 1#32
  let v7374 : BitVec 32 := Scalar.muli v7373 c1_i32_8859
  let v7375 : BitVec 32 := Scalar.addi c0_i32_8860 v7374
  v7375.toNat
def k0_dev227 (d0 : Dev nD) : Nat :=
  let c0_i32_8873 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_8865 : BitVec 32 := 9#32
  let v7384 : BitVec 32 := Scalar.addi v2 c9_i32_8865
  let c16_i32_8866 : BitVec 32 := 16#32
  let c0_i32_8867 : BitVec 32 := 0#32
  let v7385 : BitVec 1 := Scalar.cmpi .eq c16_i32_8866 c0_i32_8867
  let c1_i32_8868 : BitVec 32 := 1#32
  let v7386 : BitVec 32 := Scalar.select v7385 c1_i32_8868 c16_i32_8866
  let v7387 : BitVec 32 := Scalar.remsi v7384 v7386
  let c0_i32_8870 : BitVec 32 := 0#32
  let v7389 : BitVec 1 := Scalar.cmpi .slt v7387 c0_i32_8870
  let c0_i32_8871 : BitVec 32 := 0#32
  let v7390 : BitVec 1 := Scalar.cmpi .slt v7386 c0_i32_8871
  let v7391 : BitVec 1 := Scalar.xori v7389 v7390
  let c0_i32_8869 : BitVec 32 := 0#32
  let v7388 : BitVec 1 := Scalar.cmpi .ne v7387 c0_i32_8869
  let v7392 : BitVec 1 := Scalar.andi v7391 v7388
  let v7393 : BitVec 32 := Scalar.addi v7387 v7386
  let v7394 : BitVec 32 := Scalar.select v7392 v7393 v7387
  let c1_i32_8872 : BitVec 32 := 1#32
  let v7395 : BitVec 32 := Scalar.muli v7394 c1_i32_8872
  let v7396 : BitVec 32 := Scalar.addi c0_i32_8873 v7395
  v7396.toNat
def k0_dev228 (d0 : Dev nD) : Nat :=
  let c0_i32_8886 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_8878 : BitVec 32 := 10#32
  let v7405 : BitVec 32 := Scalar.addi v2 c10_i32_8878
  let c16_i32_8879 : BitVec 32 := 16#32
  let c0_i32_8880 : BitVec 32 := 0#32
  let v7406 : BitVec 1 := Scalar.cmpi .eq c16_i32_8879 c0_i32_8880
  let c1_i32_8881 : BitVec 32 := 1#32
  let v7407 : BitVec 32 := Scalar.select v7406 c1_i32_8881 c16_i32_8879
  let v7408 : BitVec 32 := Scalar.remsi v7405 v7407
  let c0_i32_8883 : BitVec 32 := 0#32
  let v7410 : BitVec 1 := Scalar.cmpi .slt v7408 c0_i32_8883
  let c0_i32_8884 : BitVec 32 := 0#32
  let v7411 : BitVec 1 := Scalar.cmpi .slt v7407 c0_i32_8884
  let v7412 : BitVec 1 := Scalar.xori v7410 v7411
  let c0_i32_8882 : BitVec 32 := 0#32
  let v7409 : BitVec 1 := Scalar.cmpi .ne v7408 c0_i32_8882
  let v7413 : BitVec 1 := Scalar.andi v7412 v7409
  let v7414 : BitVec 32 := Scalar.addi v7408 v7407
  let v7415 : BitVec 32 := Scalar.select v7413 v7414 v7408
  let c1_i32_8885 : BitVec 32 := 1#32
  let v7416 : BitVec 32 := Scalar.muli v7415 c1_i32_8885
  let v7417 : BitVec 32 := Scalar.addi c0_i32_8886 v7416
  v7417.toNat
def k0_dev229 (d0 : Dev nD) : Nat :=
  let c0_i32_8899 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_8891 : BitVec 32 := 11#32
  let v7426 : BitVec 32 := Scalar.addi v2 c11_i32_8891
  let c16_i32_8892 : BitVec 32 := 16#32
  let c0_i32_8893 : BitVec 32 := 0#32
  let v7427 : BitVec 1 := Scalar.cmpi .eq c16_i32_8892 c0_i32_8893
  let c1_i32_8894 : BitVec 32 := 1#32
  let v7428 : BitVec 32 := Scalar.select v7427 c1_i32_8894 c16_i32_8892
  let v7429 : BitVec 32 := Scalar.remsi v7426 v7428
  let c0_i32_8896 : BitVec 32 := 0#32
  let v7431 : BitVec 1 := Scalar.cmpi .slt v7429 c0_i32_8896
  let c0_i32_8897 : BitVec 32 := 0#32
  let v7432 : BitVec 1 := Scalar.cmpi .slt v7428 c0_i32_8897
  let v7433 : BitVec 1 := Scalar.xori v7431 v7432
  let c0_i32_8895 : BitVec 32 := 0#32
  let v7430 : BitVec 1 := Scalar.cmpi .ne v7429 c0_i32_8895
  let v7434 : BitVec 1 := Scalar.andi v7433 v7430
  let v7435 : BitVec 32 := Scalar.addi v7429 v7428
  let v7436 : BitVec 32 := Scalar.select v7434 v7435 v7429
  let c1_i32_8898 : BitVec 32 := 1#32
  let v7437 : BitVec 32 := Scalar.muli v7436 c1_i32_8898
  let v7438 : BitVec 32 := Scalar.addi c0_i32_8899 v7437
  v7438.toNat
def k0_dev230 (d0 : Dev nD) : Nat :=
  let c0_i32_8912 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_8904 : BitVec 32 := 12#32
  let v7447 : BitVec 32 := Scalar.addi v2 c12_i32_8904
  let c16_i32_8905 : BitVec 32 := 16#32
  let c0_i32_8906 : BitVec 32 := 0#32
  let v7448 : BitVec 1 := Scalar.cmpi .eq c16_i32_8905 c0_i32_8906
  let c1_i32_8907 : BitVec 32 := 1#32
  let v7449 : BitVec 32 := Scalar.select v7448 c1_i32_8907 c16_i32_8905
  let v7450 : BitVec 32 := Scalar.remsi v7447 v7449
  let c0_i32_8909 : BitVec 32 := 0#32
  let v7452 : BitVec 1 := Scalar.cmpi .slt v7450 c0_i32_8909
  let c0_i32_8910 : BitVec 32 := 0#32
  let v7453 : BitVec 1 := Scalar.cmpi .slt v7449 c0_i32_8910
  let v7454 : BitVec 1 := Scalar.xori v7452 v7453
  let c0_i32_8908 : BitVec 32 := 0#32
  let v7451 : BitVec 1 := Scalar.cmpi .ne v7450 c0_i32_8908
  let v7455 : BitVec 1 := Scalar.andi v7454 v7451
  let v7456 : BitVec 32 := Scalar.addi v7450 v7449
  let v7457 : BitVec 32 := Scalar.select v7455 v7456 v7450
  let c1_i32_8911 : BitVec 32 := 1#32
  let v7458 : BitVec 32 := Scalar.muli v7457 c1_i32_8911
  let v7459 : BitVec 32 := Scalar.addi c0_i32_8912 v7458
  v7459.toNat
def k0_dev231 (d0 : Dev nD) : Nat :=
  let c0_i32_8925 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_8917 : BitVec 32 := 13#32
  let v7468 : BitVec 32 := Scalar.addi v2 c13_i32_8917
  let c16_i32_8918 : BitVec 32 := 16#32
  let c0_i32_8919 : BitVec 32 := 0#32
  let v7469 : BitVec 1 := Scalar.cmpi .eq c16_i32_8918 c0_i32_8919
  let c1_i32_8920 : BitVec 32 := 1#32
  let v7470 : BitVec 32 := Scalar.select v7469 c1_i32_8920 c16_i32_8918
  let v7471 : BitVec 32 := Scalar.remsi v7468 v7470
  let c0_i32_8922 : BitVec 32 := 0#32
  let v7473 : BitVec 1 := Scalar.cmpi .slt v7471 c0_i32_8922
  let c0_i32_8923 : BitVec 32 := 0#32
  let v7474 : BitVec 1 := Scalar.cmpi .slt v7470 c0_i32_8923
  let v7475 : BitVec 1 := Scalar.xori v7473 v7474
  let c0_i32_8921 : BitVec 32 := 0#32
  let v7472 : BitVec 1 := Scalar.cmpi .ne v7471 c0_i32_8921
  let v7476 : BitVec 1 := Scalar.andi v7475 v7472
  let v7477 : BitVec 32 := Scalar.addi v7471 v7470
  let v7478 : BitVec 32 := Scalar.select v7476 v7477 v7471
  let c1_i32_8924 : BitVec 32 := 1#32
  let v7479 : BitVec 32 := Scalar.muli v7478 c1_i32_8924
  let v7480 : BitVec 32 := Scalar.addi c0_i32_8925 v7479
  v7480.toNat
def k0_dev232 (d0 : Dev nD) : Nat :=
  let c0_i32_8938 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_8930 : BitVec 32 := 14#32
  let v7489 : BitVec 32 := Scalar.addi v2 c14_i32_8930
  let c16_i32_8931 : BitVec 32 := 16#32
  let c0_i32_8932 : BitVec 32 := 0#32
  let v7490 : BitVec 1 := Scalar.cmpi .eq c16_i32_8931 c0_i32_8932
  let c1_i32_8933 : BitVec 32 := 1#32
  let v7491 : BitVec 32 := Scalar.select v7490 c1_i32_8933 c16_i32_8931
  let v7492 : BitVec 32 := Scalar.remsi v7489 v7491
  let c0_i32_8935 : BitVec 32 := 0#32
  let v7494 : BitVec 1 := Scalar.cmpi .slt v7492 c0_i32_8935
  let c0_i32_8936 : BitVec 32 := 0#32
  let v7495 : BitVec 1 := Scalar.cmpi .slt v7491 c0_i32_8936
  let v7496 : BitVec 1 := Scalar.xori v7494 v7495
  let c0_i32_8934 : BitVec 32 := 0#32
  let v7493 : BitVec 1 := Scalar.cmpi .ne v7492 c0_i32_8934
  let v7497 : BitVec 1 := Scalar.andi v7496 v7493
  let v7498 : BitVec 32 := Scalar.addi v7492 v7491
  let v7499 : BitVec 32 := Scalar.select v7497 v7498 v7492
  let c1_i32_8937 : BitVec 32 := 1#32
  let v7500 : BitVec 32 := Scalar.muli v7499 c1_i32_8937
  let v7501 : BitVec 32 := Scalar.addi c0_i32_8938 v7500
  v7501.toNat
def k0_dev233 (d0 : Dev nD) : Nat :=
  let c0_i32_8950 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v7510 : BitVec 32 := Scalar.addi v2 c15_i32
  let c16_i32_8943 : BitVec 32 := 16#32
  let c0_i32_8944 : BitVec 32 := 0#32
  let v7511 : BitVec 1 := Scalar.cmpi .eq c16_i32_8943 c0_i32_8944
  let c1_i32_8945 : BitVec 32 := 1#32
  let v7512 : BitVec 32 := Scalar.select v7511 c1_i32_8945 c16_i32_8943
  let v7513 : BitVec 32 := Scalar.remsi v7510 v7512
  let c0_i32_8947 : BitVec 32 := 0#32
  let v7515 : BitVec 1 := Scalar.cmpi .slt v7513 c0_i32_8947
  let c0_i32_8948 : BitVec 32 := 0#32
  let v7516 : BitVec 1 := Scalar.cmpi .slt v7512 c0_i32_8948
  let v7517 : BitVec 1 := Scalar.xori v7515 v7516
  let c0_i32_8946 : BitVec 32 := 0#32
  let v7514 : BitVec 1 := Scalar.cmpi .ne v7513 c0_i32_8946
  let v7518 : BitVec 1 := Scalar.andi v7517 v7514
  let v7519 : BitVec 32 := Scalar.addi v7513 v7512
  let v7520 : BitVec 32 := Scalar.select v7518 v7519 v7513
  let c1_i32_8949 : BitVec 32 := 1#32
  let v7521 : BitVec 32 := Scalar.muli v7520 c1_i32_8949
  let v7522 : BitVec 32 := Scalar.addi c0_i32_8950 v7521
  v7522.toNat
def k0_off9 (d0 : Dev nD) (c1_i32_8955 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v7531 : BitVec 32 := Scalar.addi v2 c1_i32_8955
  let c16_i32_8956 : BitVec 32 := 16#32
  let c0_i32_8957 : BitVec 32 := 0#32
  let v7532 : BitVec 1 := Scalar.cmpi .eq c16_i32_8956 c0_i32_8957
  let c1_i32_8958 : BitVec 32 := 1#32
  let v7533 : BitVec 32 := Scalar.select v7532 c1_i32_8958 c16_i32_8956
  let v7534 : BitVec 32 := Scalar.remsi v7531 v7533
  let c0_i32_8960 : BitVec 32 := 0#32
  let v7536 : BitVec 1 := Scalar.cmpi .slt v7534 c0_i32_8960
  let c0_i32_8961 : BitVec 32 := 0#32
  let v7537 : BitVec 1 := Scalar.cmpi .slt v7533 c0_i32_8961
  let v7538 : BitVec 1 := Scalar.xori v7536 v7537
  let c0_i32_8959 : BitVec 32 := 0#32
  let v7535 : BitVec 1 := Scalar.cmpi .ne v7534 c0_i32_8959
  let v7539 : BitVec 1 := Scalar.andi v7538 v7535
  let v7540 : BitVec 32 := Scalar.addi v7534 v7533
  let v7541 : BitVec 32 := Scalar.select v7539 v7540 v7534
  let c0_i32_8964 : BitVec 32 := 0#32
  let c0_i32_8965 : BitVec 32 := 0#32
  ![v7541.toNat, 0, 0]
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Proof.Frag.lean ====
module

public import proofs.«01_k».proof.Proof.Gen.KernelIdeal

@[expose] public section

set_option maxRecDepth 65536

noncomputable section

namespace Cert.KernelIdeal.Ring

open Cert.KernelIdeal Cert.KernelIdeal.Gen
open Idealize.ShloMosaic Idealize.ShloMosaic.TcCoe
open Idealize.SL.Sem

variable {F : FTy → Type} [FloatOps F]

/-- A piece of the body: a program with no result. -/
abbrev Piece (F : FTy → Type) : Type 1 := Prog (TpuEff nD τ sig (Elt F) Λ₀ .tc) PUnit

/-! ## The operands the body is called with -/

abbrev xM : Memref sig .tc .vmem S4096x256 .f32 := win0_0.stage 0
abbrev wM : Memref sig .tc .vmem S256x2048 .f32 := win0_1.stage 0
abbrev oM : Memref sig .tc .vmem S256x2048 .f32 := win0_2.stage 0
abbrev cM : Memref sig .tc .vmem S8x4x256x256 .f32 := Memref.whole cc0_scratch0
abbrev gM : Memref sig .tc .vmem S16x8x128 .f32 := Memref.whole cc0_scratch3

/-- The staging tile of a ring: the first scratch tile for the rings going right, the second for those
    going left. -/
def tM (r : Fin 8) : Memref sig .tc .vmem S256x256 .f32 :=
  if r.val < 4 then Memref.whole cc0_scratch1 else Memref.whole cc0_scratch2

/-! ## Places: slots, semaphores, neighbours -/

theorem inb_slot (r : Fin 8) (j : Fin 4) : ∀ a, (![r.val, j.val, 0, 0] : Fin 4 → Nat) a + S1x1x256x256.size a ≤ S8x4x256x256.size a := by
  revert r j; decide

theorem inb_col (r : Fin 8) : ∀ a, (![0, 256 * r.val] : Fin 2 → Nat) a + S256x256.size a ≤ S256x2048.size a := by
  revert r; decide

theorem inb_sem (r : Fin 8) (j : Fin 4) : ∀ a, (![r.val, j.val] : Fin 2 → Nat) a + S1x1.size a ≤ S8x4.size a := by
  revert r j; decide

theorem inb_cred (r : Fin 8) : ∀ a, (![r.val] : Fin 1 → Nat) a + S1.size a ≤ S8.size a := by
  revert r; decide

/-- Slot `j` of ring `r` in the communication buffer, as the rectangle loads and stores name. -/
abbrev slotR (r : Fin 8) (j : Fin 4) : Rect S8x4x256x256 :=
  Rect.unit (s := S8x4x256x256) ![r.val, j.val, 0, 0] S1x1x256x256.size (inb_slot r j)

/-- The same slot as the tile a copy moves. -/
abbrev slotM (r : Fin 8) (j : Fin 4) : Memref sig .tc .vmem S256x256 .f32 :=
  (cM.slice (slotR r j) (fun _ => rfl)).squeeze S256x256 squeezes_S1x1x256x256_S256x256

/-- The columns of the weights, and of the result, that ring `r` computes. -/
abbrev colR (r : Fin 8) : Rect S256x2048 :=
  Rect.unit (s := S256x2048) ![0, 256 * r.val] S256x256.size (inb_col r)

abbrev sendSem (r : Fin 8) (j : Fin 4) : DmaSem sig :=
  ((cc0_scratch4.slice (Rect.unit (s := S8x4) ![r.val, j.val] S1x1.size (inb_sem r j))).squeeze S_ squeezes_S1x1_S_).sem

abbrev recvSem (r : Fin 8) (j : Fin 4) : DmaSem sig :=
  ((cc0_scratch5.slice (Rect.unit (s := S8x4) ![r.val, j.val] S1x1.size (inb_sem r j))).squeeze S_ squeezes_S1x1_S_).sem

abbrev credSem (r : Fin 8) : Sem sig :=
  ((cc0_scratch6.slice (Rect.unit (s := S8) ![r.val] S1.size (inb_cred r))).squeeze S_ squeezes_S1_S_).sem

abbrev barSem : Sem sig := sig.barrier 0 rfl

/-- The neighbour on the left and the one on the right. -/
def leftOf (d : Dev nD) : Dev nD := ⟨k0_dev1 d, k0_dev1_lt d⟩
def rightOf (d : Dev nD) : Dev nD := ⟨k0_dev2 d, k0_dev2_lt d⟩

/-- Where ring `r` sends, and where it receives from. -/
def down (r : Fin 8) (d : Dev nD) : Dev nD := if r.val < 4 then rightOf d else leftOf d
def up (r : Fin 8) (d : Dev nD) : Dev nD := if r.val < 4 then leftOf d else rightOf d

/-- The rows of `x` multiplied before the ring starts, and at hop `s`. -/
def seedOff (r : Fin 8) (d : Dev nD) : Fin 2 → Nat := if r.val < 4 then k0_off1 d else k0_off2 d
def hopOff (r : Fin 8) (d : Dev nD) (s : Fin 15) : Fin 2 → Nat :=
  if r.val < 4 then k0_off3 d (BitVec.ofNat 32 s.val) else k0_off4 d (BitVec.ofNat 32 s.val)

theorem seedOff_inb (r : Fin 8) (d : Dev nD) : ∀ a, seedOff r d a + S256x256.size a ≤ S4096x256.size a := by
  unfold seedOff; split
  · exact k0_off1_inb d
  · exact k0_off2_inb d

theorem hopOff_inb (r : Fin 8) (d : Dev nD) (s : Fin 15) : ∀ a, hopOff r d s a + S256x256.size a ≤ S4096x256.size a := by
  unfold hopOff; split
  · exact k0_off3_inb d s
  · exact k0_off4_inb d s

/-! ## Values -/

/-- A tile of `x` times a tile of `w`. -/
def mm (xv wv : Vec F S256x256 .f32) : FVec F S256x256 .f32 :=
  matmul dot_S256x256_S256x256_S256x256_1_0_0_1_n_n none
    (shapeCast S256x256 xv shapeCasts_S256x256_S256x256) (shapeCast S256x256 wv shapeCasts_S256x256_S256x256)
    (constant S256x256 .f32 0x00000000#32)

/-- The running sum in a slot plus the staging tile. -/
def addSlot (cv : Vec F S1x1x256x256 .f32) (tv : Vec F S256x256 .f32) : FVec F S1x1x256x256 .f32 :=
  shapeCast S1x1x256x256 (addf (shapeCast S256x256 cv shapeCasts_S1x1x256x256_S256x256) tv) shapeCasts_S256x256_S1x1x256x256

/-- The rectified tile of a final slot. -/
def relu (cv : Vec F S1x1x256x256 .f32) : FVec F S256x256 .f32 :=
  maximumf (shapeCast S256x256 cv shapeCasts_S1x1x256x256_S256x256) (broadcast S256x256 (Scalar.ofBits .f32 0x00000000#32 : F .f32))

/-- The largest entry of a tile. -/
def tileMax (v : FVec F S256x256 .f32) : F .f32 :=
  extractAt ![0, 0, 0] (shapeCast S1x1x1 (multiReduction .maximumf [1, 2] S1
    (shapeCast S1x256x256 v shapeCasts_S256x256_S1x256x256) 0xFF800000#32 reduces_S1x256x256_S1 (.inl rfl) rfl)
    shapeCasts_S1_S1x1x1) inpos_S1x1x1_p0_0_0

/-- The largest entry of the eight tiles, spread over a gather tile. -/
def ownMax (y : Fin 8 → FVec F S256x256 .f32) : FVec F S1x8x128 .f32 :=
  shapeCast S1x8x128 (broadcast S1x8x128 (extractAt ![0, 0] (shapeCast S1x1 (multiReduction .maximumf [1] S1
    (shapeCast S1x8 (concatenate S8 0 [⟨S1, broadcast S1 (tileMax (y 0))⟩, ⟨S1, broadcast S1 (tileMax (y 1))⟩,
      ⟨S1, broadcast S1 (tileMax (y 2))⟩, ⟨S1, broadcast S1 (tileMax (y 3))⟩, ⟨S1, broadcast S1 (tileMax (y 4))⟩,
      ⟨S1, broadcast S1 (tileMax (y 5))⟩, ⟨S1, broadcast S1 (tileMax (y 6))⟩, ⟨S1, broadcast S1 (tileMax (y 7))⟩]
      concatenates_S1_S1_S1_S1_S1_S1_S1_S1_S8_d0) shapeCasts_S8_S1x8)
    0xFF800000#32 reduces_S1x8_S1 (.inl rfl) rfl) shapeCasts_S1_S1x1) inpos_S1x1_p0_0)) shapeCasts_S1x8x128_S1x8x128

/-- The scale: the largest gathered entry over 127. -/
def scaleOf (gv : Vec F S16x8x128 .f32) : F .f32 :=
  Scalar.divf (extractAt ![0, 0, 0, 0] (shapeCast S1x1x1x1 (multiReduction .maximumf [1, 2, 3] S1
    (shapeCast S1x16x8x128 gv shapeCasts_S16x8x128_S1x16x8x128) 0xFF800000#32 reduces_S1x16x8x128_S1 (.inl rfl) rfl)
    shapeCasts_S1_S1x1x1x1) inpos_S1x1x1x1_p0_0_0_0) (Scalar.ofBits .f32 0x42FE0000#32)

/-- A tile quantised and scaled back. -/
def quant (y : FVec F S256x256 .f32) (sc : F .f32) : FVec F S256x256 .f32 :=
  mulf (minimumf (broadcast S256x256 (Scalar.ofBits .f32 0x42FE0000#32 : F .f32))
    (maximumf (broadcast S256x256 (Scalar.ofBits .f32 0xC2FE0000#32 : F .f32)) (roundeven (divf y (broadcast S256x256 sc)))))
    (broadcast S256x256 sc)

/-! ## The pieces -/

/-- Meeting both neighbours. -/
def meet (d : Dev nD) : Piece F := do
  semSignalWord (leftOf d) barSem 1#32
  semSignalWord (rightOf d) barSem 1#32
  semWaitWord barSem 2#32

/-- The first product of a ring, into slot 0. -/
def seed (r : Fin 8) (d : Dev nD) : Piece F := do
  let xv ← Prog.lift (.load xM (Rect.unit (s := S4096x256) (seedOff r d) S256x256.size (seedOff_inb r d)).toLoadRect (View.loadsAt_vmem h_S256x256))
  let wv ← Prog.lift (.load wM (colR r).toLoadRect (View.loadsAt_vmem h_S256x256))
  let _ ← Prog.lift (.load cM (slotR r 0).toLoadRect (View.loadsAt_vmem h_S1x1x256x256))
  Prog.lift (.store cM (slotR r 0) (shapeCast S1x1x256x256 (mm xv wv) shapeCasts_S256x256_S1x1x256x256) Finset.univ (View.stores_vmem_bits_univ h_S1x1x256x256 rfl) (.inl rfl))

/-- The copy of slot `j` to slot `j'` of the neighbour. -/
def send (r : Fin 8) (j j' : Fin 4) (d : Dev nD) : Piece F :=
  Prog.lift (.enqueueDma (slotM r j) (.remote (Dev.tc (down r d)) (slotM r j') (.dma (sendSem r j))) (.dma (recvSem r j'))
    ((View.wordExact_bits rfl).reshape _ _) ((View.wordExact_bits rfl).reshape _ _) ⟨⟨rfl, Or.inl rfl⟩, trivial⟩)

/-- The product of hop `s`, into the staging tile. -/
def tmp (r : Fin 8) (s : Fin 15) (d : Dev nD) : Piece F := do
  let xv ← Prog.lift (.load xM (Rect.unit (s := S4096x256) (hopOff r d s) S256x256.size (hopOff_inb r d s)).toLoadRect (View.loadsAt_vmem h_S256x256))
  let wv ← Prog.lift (.load wM (colR r).toLoadRect (View.loadsAt_vmem h_S256x256))
  let _ ← Prog.lift (.load (tM r) (Rect.unit (s := S256x256) ![0, 0] S256x256.size inb_S256x256_S256x256_0_0).toLoadRect (View.loadsAt_vmem h_S256x256))
  Prog.lift (.store (tM r) (Rect.unit (s := S256x256) ![0, 0] S256x256.size inb_S256x256_S256x256_0_0)
    (shapeCast S256x256 (mm xv wv) shapeCasts_S256x256_S256x256) Finset.univ (View.stores_vmem_bits_univ h_S256x256 rfl) (.inl rfl))

/-- The waits of a hop: the copy into slot `j'` has arrived, the copy out of slot `j` has left. -/
def waitHop (r : Fin 8) (j j' : Fin 4) : Piece F := do
  Prog.lift (.waitDma2 (recvSem r j') (slotM r j') (slotM r j') ((View.wordExact_bits rfl).reshape _ _) ((View.wordExact_bits rfl).reshape _ _))
  Prog.lift (.waitDma2 (sendSem r j) (slotM r j') (slotM r j) ((View.wordExact_bits rfl).reshape _ _) ((View.wordExact_bits rfl).reshape _ _))

/-- Telling the neighbour that a slot may be written again. -/
def creditOut (r : Fin 8) (d : Dev nD) : Piece F := semSignalWord (up r d) (credSem r) 1#32

/-- Adding the staging tile to slot `j`. -/
def accum (r : Fin 8) (j : Fin 4) : Piece F := do
  let cv ← Prog.lift (.load cM (slotR r j).toLoadRect (View.loadsAt_vmem h_S1x1x256x256))
  let tv ← Prog.lift (.load (tM r) (Rect.unit (s := S256x256) ![0, 0] S256x256.size inb_S256x256_S256x256_0_0).toLoadRect (View.loadsAt_vmem h_S256x256))
  let _ ← Prog.lift (.load cM (slotR r j).toLoadRect (View.loadsAt_vmem h_S1x1x256x256))
  Prog.lift (.store cM (slotR r j) (addSlot cv tv) Finset.univ (View.stores_vmem_bits_univ h_S1x1x256x256 rfl) (.inl rfl))

/-- Waiting for leave to write. -/
def creditIn (r : Fin 8) : Piece F := semWaitWord (credSem r) 1#32

/-- The pieces of two rings, one going right and one going left, run one after the other. -/
def both (g : Fin 4) (p : Fin 8 → Piece F) : Piece F := do
  p (g.castLE (by decide))
  p (g.natAdd 4)

/-- Slot `k` modulo 4. -/
abbrev slotOf (k : Nat) : Fin 4 := ⟨k % 4, Nat.mod_lt _ (by decide)⟩

/-- Leave to write, when the target slot has been written before, and the copy. -/
def sendOn (s : Fin 15) (d : Dev nD) (r : Fin 8) : Piece F :=
  if s.val < 14 then
    if 2 ≤ s.val then do creditIn r; send r (slotOf (s.val + 1)) (slotOf (s.val + 2)) d
    else send r (slotOf (s.val + 1)) (slotOf (s.val + 2)) d
  else pure ⟨⟩

/-- The credit of hop `s`, for the hops that give one. -/
def creditOn (s : Fin 15) (d : Dev nD) (r : Fin 8) : Piece F :=
  if s.val < 12 then creditOut r d else pure ⟨⟩

/-- Hop `s` of the two rings numbered `g`. -/
def hop (d : Dev nD) (s : Fin 15) (g : Fin 4) : Piece F := do
  both g fun r => tmp r s d
  both g fun r => waitHop r (slotOf s.val) (slotOf (s.val + 1))
  both g fun r => creditOn s d r
  both g fun r => accum r (slotOf (s.val + 1))
  both g fun r => sendOn s d r

/-- The start of the two rings numbered `g`. -/
def start (d : Dev nD) (g : Fin 4) : Piece F := do
  both g fun r => seed r d
  both g fun r => send r 0 1 d

/-- All four rings of a hop. -/
def each (p : Fin 4 → Piece F) : Piece F := do p 0; p 1; p 2; p 3

/-- The hops from `s` on, `n` of them. -/
def hopsFrom (d : Dev nD) : (n s : Nat) → n + s ≤ 15 → Piece F
  | 0, _, _ => pure ⟨⟩
  | n + 1, s, h => do each (hop d ⟨s, by omega⟩); hopsFrom d n (s + 1) (by omega)

/-! ## The gather -/

/-- The number of the device `w` to the right, as the kernel computes it: the remainder by 16, moved into
    range when negative. -/
def gdevN (d : Dev nD) (w : BitVec 32) : Nat :=
  let n : BitVec 32 := Scalar.select (Scalar.cmpi .eq 16#32 0#32) 1#32 16#32
  let a : BitVec 32 := Scalar.remsi (Scalar.addi (Scalar.remsi (Scalar.divsi (Dev.word d) 1#32) 16#32) w) n
  let out : BitVec 1 := Scalar.andi (Scalar.xori (Scalar.cmpi .slt a 0#32) (Scalar.cmpi .slt n 0#32)) (Scalar.cmpi .ne a 0#32)
  (Scalar.addi 0#32 (Scalar.muli (Scalar.select out (Scalar.addi a n) a) 1#32)).toNat

theorem gdevN_eq (d : Dev nD) (k : Fin 15) : gdevN d (BitVec.ofNat 32 (1 + k.val)) = (d.val + 1 + k.val) % 16 := by
  revert d k; decide +kernel

/-- The device `k + 1` to the right. -/
def gdev (d : Dev nD) (k : Fin 15) : Dev nD :=
  ⟨gdevN d (BitVec.ofNat 32 (1 + k.val)), by rw [gdevN_eq]; exact Nat.mod_lt _ (by decide)⟩

abbrev gSendSem (d : Dev nD) (k : Fin 15) : DmaSem sig :=
  ((cc0_scratch7.slice (Rect.unit (s := S16) (k0_off6 d (BitVec.ofNat 32 (1 + k.val))) S1.size (k0_off6_inb d k))).squeeze S_ squeezes_S1_S_).sem
abbrev gRecvSem (d : Dev nD) (k : Fin 15) : DmaSem sig :=
  ((cc0_scratch8.slice (Rect.unit (s := S16) (k0_off6 d (BitVec.ofNat 32 (1 + k.val))) S1.size (k0_off6_inb d k))).squeeze S_ squeezes_S1_S_).sem
abbrev gMineSem (d : Dev nD) : DmaSem sig :=
  ((cc0_scratch8.slice (Rect.unit (s := S16) (k0_off7 d) S1.size (k0_off7_inb d))).squeeze S_ squeezes_S1_S_).sem
abbrev gMine (d : Dev nD) : Memref sig .tc .vmem S8x128 .f32 :=
  (gM.slice (Rect.unit (s := S16x8x128) (k0_off8 d) S1x8x128.size (k0_off8_inb d)) (fun _ => rfl)).squeeze S8x128 squeezes_S1x8x128_S8x128
abbrev gFrom (d : Dev nD) (k : Fin 15) : Memref sig .tc .vmem S8x128 .f32 :=
  (gM.slice (Rect.unit (s := S16x8x128) (k0_off9 d (BitVec.ofNat 32 (1 + k.val))) S1x8x128.size (k0_off9_inb d k)) (fun _ => rfl)).squeeze S8x128 squeezes_S1x8x128_S8x128

def gStore (y : Fin 8 → FVec F S256x256 .f32) (d : Dev nD) : Piece F := do
  let _ ← Prog.lift (.load gM (Rect.unit (s := S16x8x128) (k0_off5 d) S1x8x128.size (k0_off5_inb d)).toLoadRect (View.loadsAt_vmem h_S1x8x128))
  Prog.lift (.store gM (Rect.unit (s := S16x8x128) (k0_off5 d) S1x8x128.size (k0_off5_inb d)) (ownMax y) Finset.univ (View.stores_vmem_bits_univ h_S1x8x128 rfl) (.inl rfl))

def gSend (d : Dev nD) (k : Fin 15) : Piece F :=
  Prog.lift (.enqueueDma (gMine d) (.remote (Dev.tc (gdev d k)) (gMine d) (.dma (gSendSem d k))) (.dma (gMineSem d))
    ((View.wordExact_bits rfl).reshape _ _) ((View.wordExact_bits rfl).reshape _ _) ⟨⟨rfl, Or.inl rfl⟩, trivial⟩)

def gRecvWait (d : Dev nD) (k : Fin 15) : Piece F :=
  Prog.lift (.waitDma2 (gRecvSem d k) (gFrom d k) (gFrom d k) ((View.wordExact_bits rfl).reshape _ _) ((View.wordExact_bits rfl).reshape _ _))

def gSendWait (d : Dev nD) (k : Fin 15) : Piece F :=
  Prog.lift (.waitDma2 (gSendSem d k) (gMine d) (gMine d) ((View.wordExact_bits rfl).reshape _ _) ((View.wordExact_bits rfl).reshape _ _))

/-- The same piece at the next fifteen devices. -/
def others (p : Fin 15 → Piece F) : (n k : Nat) → n + k ≤ 15 → Piece F
  | 0, _, _ => pure ⟨⟩
  | n + 1, k, h => do p ⟨k, by omega⟩; others p n (k + 1) (by omega)

/-- Tile `r` of the result. -/
def outStore (y : Fin 8 → FVec F S256x256 .f32) (sc : F .f32) (r : Fin 8) : Piece F := do
  let _ ← Prog.lift (.load oM (colR r).toLoadRect (View.loadsAt_vmem h_S256x256))
  Prog.lift (.store oM (colR r) (quant (y r) sc) Finset.univ (View.stores_vmem_bits_univ h_S256x256 rfl) (.inl rfl))

/-- From the rectified tiles on: the gather of the maxima, and the result. -/
def finish (d : Dev nD) (y : Fin 8 → FVec F S256x256 .f32) : Piece F := do
  gStore y d
  others (gSend d) 15 0 (by decide)
  others (gRecvWait d) 15 0 (by decide)
  others (gSendWait d) 15 0 (by decide)
  let gv ← Prog.lift (.load gM (Rect.unit (s := S16x8x128) ![0, 0, 0] S16x8x128.size inb_S16x8x128_S16x8x128_0_0_0).toLoadRect (View.loadsAt_vmem h_S16x8x128))
  outStore y (scaleOf gv) 0
  outStore y (scaleOf gv) 1
  outStore y (scaleOf gv) 2
  outStore y (scaleOf gv) 3
  outStore y (scaleOf gv) 4
  outStore y (scaleOf gv) 5
  outStore y (scaleOf gv) 6
  outStore y (scaleOf gv) 7

/-- The final slots read back. -/
def readOut (k : (Fin 8 → FVec F S256x256 .f32) → Piece F) : Piece F := do
  let rd (r : Fin 8) := Prog.lift (.load (cM) (slotR r 3).toLoadRect (View.loadsAt_vmem h_S1x1x256x256))
  let v0 ← rd 0
  let v1 ← rd 1
  let v2 ← rd 2
  let v3 ← rd 3
  let v4 ← rd 4
  let v5 ← rd 5
  let v6 ← rd 6
  let v7 ← rd 7
  k ![relu v0, relu v1, relu v2, relu v3, relu v4, relu v5, relu v6, relu v7]

/-- The body, in pieces. -/
def wholeBody (d : Dev nD) : Piece F := do
  meet d
  each (start d)
  hopsFrom d 15 0 (by decide)
  readOut (finish d)

end Cert.KernelIdeal.Ring

end
-- ==== Proof.Geom.lean ====
module

public import proofs.«01_k».proof.Proof.Frag
public import Idealize.ShloMosaic.Lib.Tactic
public import Idealize.ShloMosaic.Lib.Pipeline.Value
public import Idealize.ShloMosaic.Lib.ViewIndex
public import Idealize.ShloMosaic.Lib.Pipeline.ValueKit.Geometry

@[expose] public section

set_option maxRecDepth 65536

noncomputable section

namespace Cert.KernelIdeal.Ring

open Cert.KernelIdeal Cert.KernelIdeal.Gen
open Idealize.ShloMosaic Idealize.ShloMosaic.TcCoe
open Idealize.SL.Sem

variable {F : FTy → Type} [FloatOps F]

/-! ## Neighbours -/

theorem down_val (r : Fin 8) (d : Dev nD) : (down r d).val = (d.val + if r.val < 4 then 1 else 15) % 16 := by
  revert r d; decide +kernel
theorem up_val (r : Fin 8) (d : Dev nD) : (up r d).val = (d.val + if r.val < 4 then 15 else 1) % 16 := by
  revert r d; decide +kernel
theorem down_up (r : Fin 8) (d : Dev nD) : down r (up r d) = d := by revert r d; decide +kernel
theorem up_down (r : Fin 8) (d : Dev nD) : up r (down r d) = d := by revert r d; decide +kernel
theorem left_right (d : Dev nD) : leftOf (rightOf d) = d := by revert d; decide +kernel
theorem right_left (d : Dev nD) : rightOf (leftOf d) = d := by revert d; decide +kernel

/-- Ring `r` as a permutation of the devices. -/
def downE (r : Fin 8) : Dev nD ≃ Dev nD := ⟨down r, up r, up_down r, down_up r⟩

/-- Going upstream fifteen times at most reaches every device. -/
theorem up_reaches (r : Fin 8) (d e : Dev nD) : ∃ k, k < 16 ∧ (up r)^[k] d = e := by
  revert r d e; decide +kernel

theorem gdev_val (d : Dev nD) (k : Fin 15) : (gdev d k).val = (d.val + 1 + k.val) % 16 := gdevN_eq d k
theorem gdev_ne (d : Dev nD) (k : Fin 15) : gdev d k ≠ d := by
  intro h
  have h1 := gdev_val d k
  rw [h] at h1
  have := d.isLt; have := k.isLt
  simp only [nD] at *
  omega
theorem gdev_inj (d : Dev nD) {k k' : Fin 15} (h : gdev d k = gdev d k') : k = k' := by
  have h1 := gdev_val d k; have h2 := gdev_val d k'
  rw [h] at h1
  have := d.isLt; have := k.isLt; have := k'.isLt
  simp only [nD] at *
  exact Fin.ext (by omega)
theorem gdev_surj (d e : Dev nD) (h : e ≠ d) : ∃ k, gdev d k = e := by
  revert d e; decide +kernel
/-- The same distance, from every device, is a permutation. -/
theorem gdev_inj_dev (k : Fin 15) {d d' : Dev nD} (h : gdev d k = gdev d' k) : d = d' := by
  have h1 := gdev_val d k; have h2 := gdev_val d' k
  rw [h] at h1
  have := d.isLt; have := d'.isLt
  simp only [nD] at *
  exact Fin.ext (by omega)
/-- The distance back. -/
def opp (k : Fin 15) : Fin 15 := ⟨14 - k.val, by omega⟩
theorem gdev_opp (d : Dev nD) (k : Fin 15) : gdev (gdev d k) (opp k) = d := by
  apply Fin.ext
  rw [gdev_val, gdev_val]
  have := d.isLt; have := k.isLt
  simp only [nD, opp] at *
  omega
theorem opp_opp (k : Fin 15) : opp (opp k) = k := Fin.ext (by simp only [opp]; have := k.isLt; omega)

/-! ## Offsets -/

/-- The rows of `x` device `d` multiplies as its step `u` on ring `r`: those of the device the sum ends at. -/
theorem seedOff_eq (r : Fin 8) (d : Dev nD) : seedOff r d = ![256 * ((down r)^[15] d).val, 0] := by
  revert r d; decide +kernel
theorem hopOff_eq (r : Fin 8) (d : Dev nD) (s : Fin 15) : hopOff r d s = ![256 * ((down r)^[14 - s.val] d).val, 0] := by
  revert r d s; decide +kernel

theorem inb_row (s : Dev nD) : ∀ a, (![s.val, 0, 0] : Fin 3 → Nat) a + S1x8x128.size a ≤ S16x8x128.size a := by
  revert s; decide

/-- Row `s` of the gather buffer, as the rectangle loads and stores name. -/
abbrev rowR (s : Dev nD) : Rect S16x8x128 := Rect.unit (s := S16x8x128) ![s.val, 0, 0] S1x8x128.size (inb_row s)
/-- The same row as the tile a copy moves. -/
abbrev rowM (s : Dev nD) : Memref sig .tc .vmem S8x128 .f32 :=
  (gM.slice (rowR s) (fun _ => rfl)).squeeze S8x128 squeezes_S1x8x128_S8x128

theorem off9_eq (d : Dev nD) (k : Fin 15) : k0_off9 d (BitVec.ofNat 32 (1 + k.val)) = ![(gdev d k).val, 0, 0] := by
  revert d k; decide +kernel
theorem off6_eq (d : Dev nD) (k : Fin 15) : k0_off6 d (BitVec.ofNat 32 (1 + k.val)) = ![(gdev d k).val] := by
  revert d k; decide +kernel

theorem rowM_of_off (s : Dev nD) (off : Fin 3 → Nat) (h : off = ![s.val, 0, 0]) (inb : ∀ a, off a + S1x8x128.size a ≤ S16x8x128.size a) :
    (gM.slice (Rect.unit (s := S16x8x128) off S1x8x128.size inb) (fun _ => rfl)).squeeze S8x128 squeezes_S1x8x128_S8x128 = rowM s := by
  subst h; rfl
theorem gMine_eq (d : Dev nD) : gMine d = rowM d := rowM_of_off d _ (k0_off8_eq d) _
theorem gFrom_eq (d : Dev nD) (k : Fin 15) : gFrom d k = rowM (gdev d k) := rowM_of_off _ _ (off9_eq d k) _

/-! ## Semaphores -/

/-- The gather semaphores by the device they speak of. -/
def gsSem (t : Dev nD) : DmaSem sig := ⟨67 + t.val, by have := t.isLt; revert this; generalize t.val = v; intro h; exact lt_of_lt_of_le (Nat.add_lt_add_left h 67) (by decide)⟩
def grSem (s : Dev nD) : DmaSem sig := ⟨83 + s.val, by have := s.isLt; revert this; generalize s.val = v; intro h; exact lt_of_lt_of_le (Nat.add_lt_add_left h 83) (by decide)⟩
theorem gSendSem_eq (d : Dev nD) (k : Fin 15) : gSendSem d k = gsSem (gdev d k) := by revert d k; decide +kernel
theorem gRecvSem_eq (d : Dev nD) (k : Fin 15) : gRecvSem d k = grSem (gdev d k) := by revert d k; decide +kernel
theorem gMineSem_eq (d : Dev nD) : gMineSem d = grSem d := by revert d; decide +kernel

/-- What a semaphore is for. -/
inductive Kind
  | cred (r : Fin 8) | bar | send (r : Fin 8) (j : Fin 4) | recv (r : Fin 8) (j : Fin 4) | gs (t : Dev nD) | gr (s : Dev nD) | other
  deriving DecidableEq

def kindOf : SemLoc sig → Kind
  | .reg s => if h : s.val < 8 then .cred ⟨s.val, h⟩ else if s.val = 8 then .bar else .other
  | .dma q =>
    if q.val < 3 then .other
    else if h : q.val < 35 then .send ⟨(q.val - 3) / 4, by omega⟩ ⟨(q.val - 3) % 4, by omega⟩
    else if h : q.val < 67 then .recv ⟨(q.val - 35) / 4, by omega⟩ ⟨(q.val - 35) % 4, by omega⟩
    else if h : q.val < 83 then .gs ⟨q.val - 67, by have : nD = 16 := rfl; omega⟩
    else if h : q.val < 99 then .gr ⟨q.val - 83, by have : nD = 16 := rfl; omega⟩
    else .other

theorem kind_cred (r : Fin 8) : kindOf (.reg (credSem r)) = .cred r := by revert r; decide +kernel
theorem kind_bar : kindOf (.reg barSem) = .bar := by decide +kernel
theorem kind_send (r : Fin 8) (j : Fin 4) : kindOf (.dma (sendSem r j)) = .send r j := by revert r j; decide +kernel
theorem kind_recv (r : Fin 8) (j : Fin 4) : kindOf (.dma (recvSem r j)) = .recv r j := by revert r j; decide +kernel
theorem kind_gs (t : Dev nD) : kindOf (.dma (gsSem t)) = .gs t := by revert t; decide +kernel
theorem kind_gr (s : Dev nD) : kindOf (.dma (grSem s)) = .gr s := by revert s; decide +kernel

/-! ## Slots -/

theorem slot_set (r : Fin 8) (j : Fin 4) : (slotM r j).view.set = (cM.access (slotR r j)).set := View.set_reshape _ _
theorem row_set (s : Dev nD) : (rowM s).view.set = (gM.access (rowR s)).set := View.set_reshape _ _

/-- The tile in a slot. -/
def slotTile (r : Fin 8) (j : Fin 4) (f : Vec F S8x4x256x256 .f32) : FVec F S256x256 .f32 :=
  shapeCast S256x256 (cM.view.readAt (Elt F) (slotR r j).toLoadRect f) shapeCasts_S1x1x256x256_S256x256

theorem read_slotM (r : Fin 8) (j : Fin 4) (f : Vec F S8x4x256x256 .f32) : (slotM r j).view.read (Elt F) f = slotTile r j f := rfl

/-- A store of a tile into a slot leaves the tile there. -/
theorem slotTile_store (r : Fin 8) (j : Fin 4) (f : Vec F S8x4x256x256 .f32) (v : FVec F S256x256 .f32) :
    slotTile r j ((cM.access (slotR r j)).write (Elt F) f (shapeCast S1x1x256x256 v shapeCasts_S256x256_S1x1x256x256) Finset.univ) = v := by
  unfold slotTile
  have h : cM.view.readAt (Elt F) (slotR r j).toLoadRect ((cM.access (slotR r j)).write (Elt F) f (shapeCast S1x1x256x256 v shapeCasts_S256x256_S1x1x256x256) Finset.univ)
      = shapeCast S1x1x256x256 v shapeCasts_S256x256_S1x1x256x256 := View.read_write_univ (v := cM.access (slotR r j)) f _
  rw [h]; exact shapeCast_shapeCast v _ _

/-- A copy of a tile into a slot leaves the tile there. -/
theorem slotTile_copy (r : Fin 8) (j : Fin 4) (f : Vec F S8x4x256x256 .f32) (v : FVec F S256x256 .f32) :
    slotTile r j ((slotM r j).view.write (Elt F) f v Finset.univ) = v := by
  rw [← read_slotM]; exact View.read_write_univ (v := (slotM r j).view) f v

/-- The gather buffer once every row is filled: row `s` holds `mx s` throughout. -/
def gAll (mx : Dev nD → F .f32) : Vec F S16x8x128 .f32 := fun i => mx ⟨(i 0).val, (i 0).isLt⟩

/-- The scalar every entry of `ownMax` is. -/
def topOf (y : Fin 8 → FVec F S256x256 .f32) : F .f32 := ownMax y (fun _ => ⟨0, by rename_i a; revert a; decide⟩)
theorem ownMax_eq (y : Fin 8 → FVec F S256x256 .f32) : ownMax y = fun _ => topOf y := rfl

/-- Two contents a view reads alike agree on the view's elements. -/
theorem eq_on_of_read {sp : Space} {s : Shape} {e : EltTy} (v : View sig .tc sp s e) (f g : v.ty.Contents (Elt F))
    (h : v.read (Elt F) f = v.read (Elt F) g) : ∀ i ∈ v.set, f i = g i := by
  intro i hi
  obtain ⟨x, -, rfl⟩ := Finset.mem_map.mp hi
  exact View.eq_of_read_eq (congrFun h x)

theorem read_gAll (s : Dev nD) (mx : Dev nD → F .f32) :
    (gM.access (rowR s)).read (Elt F) (gAll mx) = fun _ => mx s := by
  funext x
  show gAll mx ((rowR s).emb x) = mx s
  unfold gAll
  congr 1
  apply Fin.ext
  show (![s.val, 0, 0] : Fin 3 → Nat) 0 + 1 * (x 0).val = s.val
  have h : (x 0).val < 1 := (x 0).isLt
  show s.val + 1 * (x 0).val = s.val
  omega

/-- Storing the maxima of device `s` into its row. -/
theorem row_store (s : Dev nD) (mx : Dev nD → F .f32) (f : Vec F S16x8x128 .f32) (v : FVec F S1x8x128 .f32) (hv : v = fun _ => mx s) :
    ∀ i ∈ (rowM s).view.set, (gM.access (rowR s)).write (Elt F) f v Finset.univ i = gAll mx i := by
  rw [row_set]
  refine eq_on_of_read (gM.access (rowR s)) _ _ ?_
  rw [read_gAll, hv]
  exact View.read_write_univ (v := gM.access (rowR s)) f _

/-- Copying row `s`. -/
theorem row_copy (s : Dev nD) (f g : Vec F S16x8x128 .f32) :
    ∀ i ∈ (rowM s).view.set, (rowM s).view.write (Elt F) f ((rowM s).view.read (Elt F) g) Finset.univ i = g i :=
  eq_on_of_read (rowM s).view _ _ (View.read_write_univ (v := (rowM s).view) f _)

theorem slot_bytes (r : Fin 8) (j : Fin 4) : (slotM r j).view.dmaCredit = (slotM 0 0).view.dmaCredit := rfl
theorem row_bytes (s : Dev nD) : (rowM s).view.dmaCredit = (rowM 0).view.dmaCredit := rfl

theorem mem_slot {r : Fin 8} {j : Fin 4} {i : S8x4x256x256.Idx} : i ∈ (slotM r j).view.set ↔ (i 0).val = r.val ∧ (i 1).val = j.val := by
  rw [slot_set]
  refine ValueKit.mem_set_slice_whole_iff cc0_scratch0 (slotR r j) i ?_
  rw [Rect.mem_set_unit]
  constructor
  · intro h
    have h0 : r.val ≤ (i 0).val ∧ (i 0).val < r.val + 1 := h 0
    have h1 : j.val ≤ (i 1).val ∧ (i 1).val < j.val + 1 := h 1
    omega
  · rintro ⟨h0, h1⟩ a
    have h2 : (i 2).val < 256 := (i 2).isLt
    have h3 : (i 3).val < 256 := (i 3).isLt
    match a with
    | 0 => show r.val ≤ (i 0).val ∧ (i 0).val < r.val + 1; omega
    | 1 => show j.val ≤ (i 1).val ∧ (i 1).val < j.val + 1; omega
    | 2 => show 0 ≤ (i 2).val ∧ (i 2).val < 0 + 256; omega
    | 3 => show 0 ≤ (i 3).val ∧ (i 3).val < 0 + 256; omega

theorem mem_row {s : Dev nD} {i : S16x8x128.Idx} : i ∈ (rowM s).view.set ↔ (i 0).val = s.val := by
  rw [row_set]
  refine ValueKit.mem_set_slice_whole_iff cc0_scratch3 (rowR s) i ?_
  rw [Rect.mem_set_unit]
  constructor
  · intro h
    have h0 : s.val ≤ (i 0).val ∧ (i 0).val < s.val + 1 := h 0
    omega
  · rintro h0 a
    have h2 : (i 1).val < 8 := (i 1).isLt
    have h3 : (i 2).val < 128 := (i 2).isLt
    match a with
    | 0 => show s.val ≤ (i 0).val ∧ (i 0).val < s.val + 1; omega
    | 1 => show 0 ≤ (i 1).val ∧ (i 1).val < 0 + 8; omega
    | 2 => show 0 ≤ (i 2).val ∧ (i 2).val < 0 + 128; omega

/-- The elements of a slot, and of a row. -/
abbrev slotI (b : Fin 8 × Fin 4) : Finset S8x4x256x256.Idx := (slotM b.1 b.2).view.set
abbrev rowI (s : Dev nD) : Finset S16x8x128.Idx := (rowM s).view.set

theorem slots_disjoint (b b' : Fin 8 × Fin 4) (h : b ≠ b') : Disjoint (slotI b) (slotI b') := by
  refine Finset.disjoint_left.mpr fun i hi hi' => h ?_
  have h1 := mem_slot.mp hi; have h2 := mem_slot.mp hi'
  exact Prod.ext (Fin.ext (h1.1.symm.trans h2.1)) (Fin.ext (h1.2.symm.trans h2.2))
theorem slots_cover : Finset.univ.biUnion slotI = (Finset.univ : Finset S8x4x256x256.Idx) := by
  refine Finset.eq_univ_iff_forall.mpr fun i => Finset.mem_biUnion.mpr ⟨(⟨(i 0).val, (i 0).isLt⟩, ⟨(i 1).val, (i 1).isLt⟩), Finset.mem_univ _, mem_slot.mpr ⟨rfl, rfl⟩⟩
theorem rows_disjoint (s s' : Dev nD) (h : s ≠ s') : Disjoint (rowI s) (rowI s') := by
  refine Finset.disjoint_left.mpr fun i hi hi' => h (Fin.ext ((mem_row.mp hi).symm.trans (mem_row.mp hi')))
theorem rows_cover : Finset.univ.biUnion rowI = (Finset.univ : Finset S16x8x128.Idx) :=
  Finset.eq_univ_iff_forall.mpr fun i => Finset.mem_biUnion.mpr ⟨⟨(i 0).val, (i 0).isLt⟩, Finset.mem_univ _, mem_row.mpr rfl⟩
theorem slot_nonempty (r : Fin 8) (j : Fin 4) : (slotM r j).view.set.Nonempty :=
  ⟨(slotM r j).view.emb (fun a => ⟨0, by revert a; decide⟩), View.emb_mem_set _ _⟩
theorem row_nonempty (s : Dev nD) : (rowM s).view.set.Nonempty :=
  ⟨(rowM s).view.emb (fun a => ⟨0, by revert a; decide⟩), View.emb_mem_set _ _⟩

/-! ## The body is the pieces -/

theorem body_eq : (cc0_body xM (hstage0_0 0) wM (hstage0_1 0) oM (hstage0_2 0) cM (Memref.isWhole_whole _) (Memref.whole cc0_scratch1)
    (Memref.isWhole_whole _) (Memref.whole cc0_scratch2) (Memref.isWhole_whole _) gM (Memref.isWhole_whole _)
    cc0_scratch4 cc0_scratch5 cc0_scratch6 cc0_scratch7 cc0_scratch8 : Piece F) = Prog.op .deviceId wholeBody := by
  sl_kernel_rfl

end Cert.KernelIdeal.Ring

end
-- ==== Proof.Sched.lean ====
module

public import proofs.«01_k».proof.Proof.Geom
public import proofs.«01_k».proof.Proof.Gen.KernelIdeal.Launch
public import Idealize.ShloMosaic.Lib.Pipeline.Launch
public import Idealize.ShloMosaic.Lib.Pipeline.Kit
public import Idealize.ShloMosaic.Lib.Release
public import Idealize.ShloMosaic.Lib.SparseCore.Stream

@[expose] public section

set_option maxRecDepth 65536

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

/-! ## Ghost state -/

/-- One key per write into another device's memory: the device written, and either the ring (below 8) with
    the number of the write, or 8 with the device whose maximum is written. -/
abbrev Key : Type := Dev nD × Fin 9 × Fin 16

abbrev UU : Type := UR sig nD τ × (URounds (GSem nD τ sig) ℕ × USlots Key)

local notation "𝕄" => MT nD τ sig ℕ (Elt F) ℕ UU ℕ

abbrev EP : Emb (UR sig nD τ) (MT nD τ sig ℕ (Elt F) ℕ UU ℕ) := embL
abbrev ER : Emb (URounds (GSem nD τ sig) ℕ) (MT nD τ sig ℕ (Elt F) ℕ UU ℕ) := Emb.inl.trans embR
abbrev ES : Emb (USlots Key) (MT nD τ sig ℕ (Elt F) ℕ UU ℕ) := Emb.inr.trans embR

abbrev 𝒱₀ : Variants := Variants.none

/-! ## Cells -/

abbrev credCell (c : Dev nD) (r : Fin 8) : GSem nD τ sig := ((c : Thread nD τ), .reg (credSem r))
abbrev barCell (c : Dev nD) : GSem nD τ sig := ((c : Thread nD τ), .reg barSem)
abbrev sendCell (c : Dev nD) (r : Fin 8) (j : Fin 4) : GSem nD τ sig := ((c : Thread nD τ), .dma (sendSem r j))
abbrev recvCell (c : Dev nD) (r : Fin 8) (j : Fin 4) : GSem nD τ sig := ((c : Thread nD τ), .dma (recvSem r j))
abbrev gsCell (c t : Dev nD) : GSem nD τ sig := ((c : Thread nD τ), .dma (gsSem t))
abbrev grCell (c s : Dev nD) : GSem nD τ sig := ((c : Thread nD τ), .dma (grSem s))

/-- The bytes of a slot, and of a row. -/
abbrev NS : ℕ := (slotM 0 0).view.dmaCredit
abbrev NG : ℕ := (rowM 0).view.dmaCredit
theorem NS_pos : 0 < NS := View.dmaCredit_pos _ (by decide)
theorem NG_pos : 0 < NG := View.dmaCredit_pos _ (by decide)

/-! ## Contents -/

/-- What the kernel computes from the shards `X` of `x` and `Y` of `w`, device by device. -/
structure Inputs (F : FTy → Type) where
  X : Dev nD → Vec F S4096x256 .f32
  Y : Dev nD → Vec F S256x2048 .f32

variable (D : Inputs F)

/-- The product device `d` computes as step `u` on ring `r`. -/
def part (r : Fin 8) (d : Dev nD) : ℕ → FVec F S256x256 .f32
  | 0 => mm (xM.view.readAt (Elt F) (Rect.unit (s := S4096x256) (seedOff r d) S256x256.size (seedOff_inb r d)).toLoadRect (D.X d))
      (wM.view.readAt (Elt F) (colR r).toLoadRect (D.Y d))
  | s + 1 => if h : s < 15 then
      mm (xM.view.readAt (Elt F) (Rect.unit (s := S4096x256) (hopOff r d ⟨s, h⟩) S256x256.size (hopOff_inb r d ⟨s, h⟩)).toLoadRect (D.X d))
        (wM.view.readAt (Elt F) (colR r).toLoadRect (D.Y d))
    else fun _ => Scalar.ofBits .f32 0x00000000#32

/-- The running sum device `d` sends as write `u` of ring `r`; after step 15, the finished tile. -/
def acc (r : Fin 8) (d : Dev nD) : ℕ → FVec F S256x256 .f32
  | 0 => part D r d 0
  | u + 1 => addf (acc r (up r d) u) (part D r d (u + 1))

/-- The rectified tiles of device `d`. -/
def tiles (d : Dev nD) (r : Fin 8) : FVec F S256x256 .f32 :=
  maximumf (acc D r d 15) (broadcast S256x256 (Scalar.ofBits .f32 0x00000000#32 : F .f32))

/-- The largest entry of device `d`. -/
def top (d : Dev nD) : F .f32 := topOf (tiles D d)

abbrev slotLoc (d : Dev nD) : Loc nD τ sig := cM.view.loc (d : Thread nD τ)
abbrev rowLoc (d : Dev nD) : Loc nD τ sig := gM.view.loc (d : Thread nD τ)

/-- Slot `j` of ring `r` on device `d`, holding anything. -/
def slotAny (d : Dev nD) (r : Fin 8) (j : Fin 4) : sProp 𝕄 := iprop(∃ f : Vec F S8x4x256x256 .f32, slotLoc d ↦[slotI (r, j)]{fullShare} f)
/-- The same, holding the tile `v`. -/
def slotOwn (d : Dev nD) (r : Fin 8) (j : Fin 4) (v : FVec F S256x256 .f32) : sProp 𝕄 :=
  iprop(∃ f : Vec F S8x4x256x256 .f32, ⌜slotTile r j f = v⌝ ∗ slotLoc d ↦[slotI (r, j)]{fullShare} f)
/-- Row `s` on device `d`, holding anything, or the maximum of device `s`. -/
def rowAny (d s : Dev nD) : sProp 𝕄 := iprop(∃ f : Vec F S16x8x128 .f32, rowLoc d ↦[rowI s]{fullShare} f)
def rowOwn (q : PosShare TreeShare) (d s : Dev nD) : sProp 𝕄 := rowLoc d ↦[rowI s]{q} gAll (top D)

instance slotAny_storable (d : Dev nD) (r : Fin 8) (j : Fin 4) : BI.Storable (upEmb : UEmb _ 𝕄) (slotAny (F := F) d r j) := by
  unfold slotAny; infer_instance
instance slotOwn_storable (d : Dev nD) (r : Fin 8) (j : Fin 4) (v : FVec F S256x256 .f32) :
    BI.Storable (upEmb : UEmb _ 𝕄) (slotOwn (F := F) d r j v) := by unfold slotOwn; infer_instance
instance rowAny_storable (d s : Dev nD) : BI.Storable (upEmb : UEmb _ 𝕄) (rowAny (F := F) d s) := by unfold rowAny; infer_instance
instance rowOwn_storable (q : PosShare TreeShare) (d s : Dev nD) : BI.Storable (upEmb : UEmb _ 𝕄) (rowOwn D q d s) := by
  unfold rowOwn; infer_instance

theorem slotOwn_any (d : Dev nD) (r : Fin 8) (j : Fin 4) (v : FVec F S256x256 .f32) : slotOwn d r j v ⊢ (slotAny d r j : sProp 𝕄) := by
  unfold slotOwn slotAny
  iintro ⟨%f, -, H⟩
  iexists f; iexact H

/-! ## Facts that travel -/

/-- The key of write `u` of ring `r` into device `d`, and of row `s` of device `d`. -/
abbrev ringKey (d : Dev nD) (r : Fin 8) (u : ℕ) : Key := (d, r.castSucc, ⟨u % 16, Nat.mod_lt _ (by decide)⟩)
abbrev rowKey (d s : Dev nD) : Key := (d, Fin.last 8, s)

/-- The slot that write `u` fills. -/
abbrev dstSlot (u : ℕ) : Fin 4 := slotOf (u + 1)

/-- Device `d` may be written for the `u`-th time on ring `r`. -/
def Fact (d : Dev nD) (r : Fin 8) (u : ℕ) : sProp 𝕄 :=
  iprop(released ES (ringKey d r u) 1 ∗ reached ER (recvCell d r (dstSlot u)) (u / 4))
/-- The rows of device `d` may be written. -/
def RowFact (d : Dev nD) : sProp 𝕄 := bigSep Finset.univ fun s : Dev nD => released ES (rowKey d s) 1
/-- The rows may be written on the devices `k ≤ n` steps upstream of `d`. -/
def Heard (r : Fin 8) (d : Dev nD) (n : ℕ) : sProp 𝕄 := bigSep (Finset.range (n + 1)) fun k => RowFact ((up r)^[k] d)

instance Fact_persistent (d : Dev nD) (r : Fin 8) (u : ℕ) : BI.Persistent (Fact (F := F) d r u) := by unfold Fact; infer_instance
instance RowFact_persistent (d : Dev nD) : BI.Persistent (RowFact (F := F) d) := by unfold RowFact; infer_instance
instance Heard_persistent (r : Fin 8) (d : Dev nD) (n : ℕ) : BI.Persistent (Heard (F := F) r d n) := by unfold Heard; infer_instance
instance Fact_storable (d : Dev nD) (r : Fin 8) (u : ℕ) : BI.Storable (upEmb : UEmb _ 𝕄) (Fact (F := F) d r u) := by
  unfold Fact; infer_instance
instance RowFact_storable (d : Dev nD) : BI.Storable (upEmb : UEmb _ 𝕄) (RowFact (F := F) d) := by unfold RowFact; infer_instance
instance Heard_storable (r : Fin 8) (d : Dev nD) (n : ℕ) : BI.Storable (upEmb : UEmb _ 𝕄) (Heard (F := F) r d n) := by
  unfold Heard; infer_instance

/-! ## The schedule -/

/-- The rings that reach a device from its left neighbour's side (`b = 0`: those it sends left on) and from
    its right neighbour's (`b = 1`). -/
def ringsOf (b : ℕ) : Finset (Fin 8) := Finset.univ.filter fun r => (r.val < 4) = (b = 1)

/-- The first three facts of the rings `b` of the neighbours downstream of `c`. -/
def barPay (c : Dev nD) (b : ℕ) : sProp 𝕄 :=
  bigSep (ringsOf b) fun r => bigSep (Finset.range 3) fun u => Fact (down r c) r u
/-- The facts a credit brings: those of its hop and of all before it. -/
def credPay (c : Dev nD) (r : Fin 8) (e : ℕ) : sProp 𝕄 := bigSep (Finset.range (e + 1)) fun i => Fact (down r c) r (i + 3)

instance barPay_storable (c : Dev nD) (b : ℕ) : BI.Storable (upEmb : UEmb _ 𝕄) (barPay (F := F) c b) := by unfold barPay; infer_instance
instance credPay_storable (c : Dev nD) (r : Fin 8) (e : ℕ) : BI.Storable (upEmb : UEmb _ 𝕄) (credPay (F := F) c r e) := by
  unfold credPay; infer_instance
instance barPay_persistent (c : Dev nD) (b : ℕ) : BI.Persistent (barPay (F := F) c b) := by unfold barPay; infer_instance
instance credPay_persistent (c : Dev nD) (r : Fin 8) (e : ℕ) : BI.Persistent (credPay (F := F) c r e) := by unfold credPay; infer_instance

/-- The piece of its own row device `c` gives the copy to device `t`. -/
def pieceIx (c t : Dev nD) : Fin 15 := ⟨(t.val + 15 - c.val) % 16 % 15, Nat.mod_lt _ (by decide)⟩
def gShare (c t : Dev nD) : PosShare TreeShare := piece fullShare 14 (pieceIx c t)
theorem pieceIx_gdev (c : Dev nD) (k : Fin 15) : pieceIx c (gdev c k) = k := by revert c k; decide +kernel

def dutiesK (c : Dev nD) (n : ℕ) : Kind → Finset ℕ
  | .cred r => if n = 0 then Finset.range 12 else ∅
  | .bar => if n = 0 then Finset.range 2 else ∅
  | .send r j => if 4 * n + j.val ≤ 14 then {0} else ∅
  | .recv r j => if 4 * n + (j.val + 3) % 4 ≤ 14 then {0} else ∅
  | .gs t => if n = 0 ∧ t ≠ c then {0} else ∅
  | .gr s => if n = 0 ∧ s ≠ c then {0} else ∅
  | .other => ∅

def amountK : Kind → ℕ
  | .send _ _ => NS | .recv _ _ => NS | .gs _ => NG | .gr _ => NG | _ => 1

def payloadK (c : Dev nD) (n d : ℕ) : Kind → sProp 𝕄
  | .cred r => credPay c r d
  | .bar => barPay c d
  | .send r j => slotAny c r j
  | .recv r j => iprop(slotOwn c r j (acc D r (up r c) (4 * n + (j.val + 3) % 4)) ∗ Heard r (up r c) (4 * n + (j.val + 3) % 4))
  | .gs t => rowOwn D (gShare c t) c c
  | .gr s => rowOwn D fullShare c s
  | .other => iprop(emp)

theorem amountK_pos (k : Kind) : 0 < amountK k := by
  cases k <;> first | exact NS_pos | exact NG_pos | exact Nat.one_pos

instance payloadK_storable (c : Dev nD) (n d : ℕ) (k : Kind) : BI.Storable (upEmb : UEmb _ 𝕄) (payloadK D c n d k) := by
  cases k <;> unfold payloadK <;> infer_instance

def ringRd : Rounds.Schedule (GSem nD τ sig) ℕ 𝕄 where
  duties g n := if g.1.2 = .tc then dutiesK g.1.1 n (kindOf g.2) else ∅
  amount g _ _ := amountK (kindOf g.2)
  payload g n d := payloadK D g.1.1 n d (kindOf g.2)
  amount_pos g _ _ _ := amountK_pos _

instance ringRd_payload_storable (g : GSem nD τ sig) (n d : ℕ) : BI.Storable (upEmb : UEmb _ 𝕄) ((ringRd D).payload g n d) :=
  payloadK_storable D _ _ _ _

section
variable (c : Dev nD) (n d : ℕ) {sm : SemLoc sig} {k : Kind}

theorem duties_of (h : kindOf sm = k) : (ringRd D).duties ((c : Thread nD τ), sm) n = dutiesK c n k := by
  subst h; dsimp only [ringRd]; exact if_pos rfl
theorem amount_of (h : kindOf sm = k) : (ringRd D).amount ((c : Thread nD τ), sm) n d = amountK k := by subst h; rfl
theorem payload_of (h : kindOf sm = k) : (ringRd D).payload ((c : Thread nD τ), sm) n d = payloadK D c n d k := by subst h; rfl
theorem expect_of (h : kindOf sm = k) : (ringRd D).expect ((c : Thread nD τ), sm) n = (dutiesK c n k).card * amountK k := by
  unfold Schedule.expect Schedule.amountOf
  rw [duties_of D c n h, Finset.sum_congr rfl fun d _ => amount_of D c n d h, Finset.sum_const, smul_eq_mul]
end

/-! ## What each device owes -/

/-- Everything a device does for another: the two barrier signals, the writes and the credits of each ring, and the
    fifteen copies of its maximum. -/
abbrev Pay : Type := Fin 2 ⊕ (Fin 8 × Fin 15) ⊕ (Fin 8 × Fin 12) ⊕ Fin 15

abbrev Pay.bar (b : Fin 2) : Pay := .inl b
abbrev Pay.send (r : Fin 8) (u : Fin 15) : Pay := .inr (.inl (r, u))
abbrev Pay.cred (r : Fin 8) (e : Fin 12) : Pay := .inr (.inr (.inl (r, e)))
abbrev Pay.gat (k : Fin 15) : Pay := .inr (.inr (.inr k))

def pcell (d : Dev nD) : Pay → GSem nD τ sig
  | .inl b => barCell (if b = 0 then rightOf d else leftOf d)
  | .inr (.inl (r, u)) => recvCell (down r d) r (dstSlot u)
  | .inr (.inr (.inl (r, e))) => credCell (up r d) r
  | .inr (.inr (.inr k)) => grCell (gdev d k) d
def pround : Pay → ℕ
  | .inr (.inl (_, u)) => u.val / 4
  | _ => 0
def pduty : Pay → ℕ
  | .inl b => b.val
  | .inr (.inr (.inl (_, e))) => e.val
  | _ => 0
/-- The index a payment is owed under. -/
def pix : Pay → ℕ
  | .inr (.inl (_, u)) => u.val
  | .inr (.inr (.inl (_, e))) => e.val
  | _ => 0
def pamt : Pay → ℕ
  | .inr (.inl _) => NS
  | .inr (.inr (.inr _)) => NG
  | _ => 1
/-- The order the payments are made in. -/
def rank : Pay → ℕ
  | .inl _ => 1
  | .inr (.inl (r, u)) => 2 + 4 * u.val + r.val % 4
  | .inr (.inr (.inl (r, e))) => 2 + 4 * (e.val + 1) + r.val % 4
  | .inr (.inr (.inr _)) => 100

/-- What device `d` owes while the payments `S` are still to be made. -/
def owed (d : Dev nD) (S : Finset Pay) : CellTallies nD τ sig ℕ := ∑ p ∈ S, tallyAt (pcell d p) (pix p) (pamt p)

theorem owed_erase (d : Dev nD) {S : Finset Pay} {p : Pay} (h : p ∈ S) :
    owed d S = owed d (S.erase p) + tallyAt (pcell d p) (pix p) (pamt p) := (Finset.sum_erase_add S _ h).symm
theorem owed_empty (d : Dev nD) : owed d ∅ = 0 := rfl

/-- The payments still to be made at time `t`. -/
def later (t : ℕ) : Finset Pay := Finset.univ.filter fun p => t ≤ rank p

def L (g : GSem nD τ sig) : Finset ℕ := if g.1.2 = .tc then Finset.range 16 else ∅
def lvK (ι : ℕ) : Kind → ℕ
  | .bar => 1
  | .recv r _ => 2 + 4 * ι + r.val % 4
  | .cred r => 2 + 4 * (ι + 1) + r.val % 4
  | .gr _ => 100
  | _ => 0
def lv (g : GSem nD τ sig) (ι : ℕ) : ℕ := lvK ι (kindOf g.2)

theorem L_of_ne (g : GSem nD τ sig) (h : g.1.2 ≠ .tc) : L g = ∅ := if_neg h
theorem L_tc (c : Dev nD) (sm : SemLoc sig) : L ((c : Thread nD τ), sm) = Finset.range 16 := if_pos rfl
theorem lv_of (c : Dev nD) {sm : SemLoc sig} {k : Kind} (ι : ℕ) (h : kindOf sm = k) : lv ((c : Thread nD τ), sm) ι = lvK ι k := by
  subst h; rfl

theorem lv_pay (d : Dev nD) (p : Pay) : lv (pcell d p) (pix p) = rank p := by
  rcases p with b | ⟨r, u⟩ | ⟨r, e⟩ | k
  · exact lv_of _ _ kind_bar
  · exact lv_of _ _ (kind_recv _ _)
  · exact lv_of _ _ (kind_cred _)
  · exact lv_of _ _ (kind_gr _)
theorem L_pay (d : Dev nD) (p : Pay) : pix p ∈ L (pcell d p) := by
  rcases p with b | ⟨r, u⟩ | ⟨r, e⟩ | k <;>
    (refine (L_tc _ _).symm ▸ Finset.mem_range.mpr ?_; simp only [pix]; omega)

theorem owed_pos {d : Dev nD} {S : Finset Pay} {g : GSem nD τ sig} {u : ℕ} (h : 0 < owed d S g u) :
    ∃ p ∈ S, g = pcell d p ∧ u = pix p := by
  by_contra hn
  refine absurd h (Nat.not_lt.mpr (Nat.le_of_eq ?_))
  unfold owed
  rw [Finset.sum_apply, Finsupp.finset_sum_apply]
  refine Finset.sum_eq_zero fun p hp => ?_
  rw [tallyAt_apply]
  exact if_neg fun h => hn ⟨p, hp, h.1, h.2⟩

/-- A wait below every payment still to be made is allowed. -/
theorem mayOwe (c : Dev nD) (S : Finset Pay) (N : Finset (SemLoc sig × ℕ)) (n : ℕ)
    (hN : ∀ p ∈ N, p.2 < 16 ∧ lv ((c : Thread nD τ), p.1) p.2 ≤ n) (hS : ∀ p ∈ S, n < rank p) :
    (levAts L lv : sProp 𝕄) ⊢ MayOwe (c : Thread nD τ) N (owed c S) :=
  MayOwe.of_cut (L := L) (lev := lv) n
    (fun p hp => by rw [L_tc]; exact Finset.mem_range.mpr (hN p hp).1)
    (fun g u hg => by obtain ⟨p, hp, rfl, rfl⟩ := owed_pos hg; exact L_pay c p)
    (fun p hp => (hN p hp).2)
    (fun g u hg => by obtain ⟨p, hp, rfl, rfl⟩ := owed_pos hg; rw [lv_pay]; exact hS p hp)

end Cert.KernelIdeal.Ring

end
-- ==== Proof.Ctx.lean ====
module

public import proofs.«01_k».proof.Proof.Sched

@[expose] public section

set_option maxRecDepth 65536

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-- One of a family. -/
theorem elim_at {I : Type} [DecidableEq I] {S : Finset I} {i : I} (h : i ∈ S) {Φ : I → sProp 𝕄} : (bigSep S Φ : sProp 𝕄) ⊢ Φ i := bigSep_elim h

/-! ## Triples -/

/-- From `P` the piece `p` runs on device `c` to `Q`. -/
def Tri (c : Dev nD) (P : sProp 𝕄) (p : Piece F) (Q : sProp 𝕄) : Prop :=
  P ⊢ wp frame (wpE (defs₀ (F := F)) 𝒱₀ (c : Thread nD τ) none) Set.univ p (fun _ => Q)

theorem Tri.use {c : Dev nD} {P Q : sProp 𝕄} {p : Piece F} (h : Tri c P p Q) {α : Type}
    (k : PUnit → Prog (TpuEff nD τ sig (Elt F) Λ₀ .tc) α) (R : α → sProp 𝕄) :
    P ⊢ iprop((Q -∗ wp frame (wpE (defs₀ (F := F)) 𝒱₀ (c : Thread nD τ) none) Set.univ (k ⟨⟩) R)
      -∗ wp frame (wpE (defs₀ (F := F)) 𝒱₀ (c : Thread nD τ) none) Set.univ (p >>= k) R) := by
  rw [wp_bind]
  unfold Tri at h
  iintro HP Hk
  ihave H := h $$ HP
  ihave H := (wp_frame_r (M := 𝕄) frame (wpE (defs₀ (F := F)) 𝒱₀ (c : Thread nD τ) none) Set.univ
    (R := iprop(Q -∗ wp frame (wpE (defs₀ (F := F)) 𝒱₀ (c : Thread nD τ) none) Set.univ (k ⟨⟩) R))) $$ [H Hk]
  · isplitl [H]; · iexact H
    iexact Hk
  iapply (wp_mono frame (wpE (defs₀ (F := F)) 𝒱₀ (c : Thread nD τ) none) Set.univ (Q' := fun a => wp frame (wpE (defs₀ (F := F)) 𝒱₀ (c : Thread nD τ) none) Set.univ (k a) R) ?_) $$ H
  intro a
  iintro ⟨HQ, Hk⟩
  iapply Hk; iexact HQ

theorem Tri.last {c : Dev nD} {P Q : sProp 𝕄} {p : Piece F} (h : Tri c P p Q) (R : PUnit → sProp 𝕄) :
    P ⊢ iprop((Q -∗ R ⟨⟩) -∗ wp frame (wpE (defs₀ (F := F)) 𝒱₀ (c : Thread nD τ) none) Set.univ p R) := by
  unfold Tri at h
  iintro HP Hk
  ihave H := h $$ HP
  ihave H := (wp_frame_r (M := 𝕄) frame (wpE (defs₀ (F := F)) 𝒱₀ (c : Thread nD τ) none) Set.univ
    (R := iprop(Q -∗ R ⟨⟩))) $$ [H Hk]
  · isplitl [H]; · iexact H
    iexact Hk
  iapply (wp_mono frame (wpE (defs₀ (F := F)) 𝒱₀ (c : Thread nD τ) none) Set.univ (Q' := R) ?_) $$ H
  intro a
  iintro ⟨HQ, Hk⟩
  iapply Hk; iexact HQ

/-! ## What every device knows throughout -/

variable (D : Inputs F)

/-- The cell `g` follows the schedule. -/
def cinv (g : GSem nD τ sig) : sProp 𝕄 := iprop(∃ κ, cellInv ER (ringRd D) κ g)
instance cinv_persistent (g : GSem nD τ sig) : BI.Persistent (cinv D g) := by unfold cinv; infer_instance

/-- The memory a key speaks of. -/
def keySlot (k : Key) : sProp 𝕄 := if h : k.2.1.val < 8 then slotAny k.1 ⟨k.2.1.val, h⟩ (dstSlot k.2.2.val) else rowAny k.1 k.2.2
instance keySlot_storable (k : Key) : BI.Storable (upEmb : UEmb _ 𝕄) (keySlot (F := F) k) := by
  unfold keySlot; split <;> infer_instance

theorem keySlot_ring (d : Dev nD) (r : Fin 8) (u : ℕ) : (keySlot (ringKey d r u) : sProp 𝕄) = slotAny d r (dstSlot u) := by
  unfold keySlot
  rw [dif_pos (show (ringKey d r u).2.1.val < 8 from r.isLt)]
  have : dstSlot (ringKey d r u).2.2.val = dstSlot u := Fin.ext (by show (u % 16 + 1) % 4 = (u + 1) % 4; omega)
  rw [this]; rfl
theorem keySlot_row (d s : Dev nD) : (keySlot (rowKey d s) : sProp 𝕄) = rowAny d s := dif_neg fun h => Nat.lt_irrefl 8 h

theorem keySlot_excl (k : Key) : iprop(keySlot k ∗ keySlot k) ⊢ (False : sProp 𝕄) := by
  unfold keySlot
  split
  · exact slot_slot_false (ℓ := slotLoc k.1) (I := slotI (_, _)) (slot_nonempty _ _)
  · exact slot_slot_false (ℓ := rowLoc k.1) (I := rowI _) (row_nonempty _)

/-- The key's memory passes from reader to writer. -/
def sinv (k : Key) : sProp 𝕄 := iprop(∃ ι, slotInv ES ι k (keySlot k))
instance sinv_persistent (k : Key) : BI.Persistent (sinv (F := F) k) := by unfold sinv; infer_instance

/-- The semaphores of the protocol: the eight credits, the barrier, and the copies' own. -/
def semOf (i : Fin 105) : SemLoc sig :=
  if i.val < 9 then .reg ⟨i.val % 9, Nat.lt_of_lt_of_le (Nat.mod_lt _ (by decide)) (by decide)⟩
  else .dma ⟨(i.val - 6) % 99, Nat.lt_of_lt_of_le (Nat.mod_lt _ (by decide)) (by decide)⟩
abbrev kcell (ck : Dev nD × Fin 105) : GSem nD τ sig := ((ck.1 : Thread nD τ), semOf ck.2)

def Ctx : sProp 𝕄 :=
  iprop(bigSep Finset.univ (fun ck : Dev nD × Fin 105 => iprop(cinv D (kcell ck) ∗ reached ER (kcell ck) 0))
    ∗ bigSep Finset.univ (fun k : Key => sinv k) ∗ levAts L lv)
instance Ctx_persistent : BI.Persistent (Ctx D) := by unfold Ctx; infer_instance

theorem ctx_cell (c : Dev nD) {sm : SemLoc sig} (h : ∃ i, semOf i = sm) :
    Ctx D ⊢ iprop(cinv D ((c : Thread nD τ), sm) ∗ reached ER ((c : Thread nD τ), sm) 0) := by
  obtain ⟨i, rfl⟩ := h
  unfold Ctx
  iintro ⟨H, -, -⟩
  iapply (elim_at (Finset.mem_univ (c, i)) (Φ := fun ck : Dev nD × Fin 105 => iprop(cinv D (kcell ck) ∗ reached ER (kcell ck) 0)))
  iexact H
theorem ctx_key (k : Key) : Ctx D ⊢ sinv k := by
  unfold Ctx
  iintro ⟨-, H, -⟩
  iapply (elim_at (Finset.mem_univ k) (Φ := fun k : Key => (sinv k : sProp 𝕄)))
  iexact H
theorem ctx_lev : Ctx D ⊢ (levAts L lv : sProp 𝕄) := by
  unfold Ctx
  iintro ⟨-, -, H⟩
  iexact H

theorem sem_cred (r : Fin 8) : ∃ i, semOf i = .reg (credSem r) := by revert r; decide +kernel
theorem sem_bar : ∃ i, semOf i = .reg barSem := by decide +kernel
theorem sem_send (r : Fin 8) (j : Fin 4) : ∃ i, semOf i = .dma (sendSem r j) := by revert r j; decide +kernel
theorem sem_recv (r : Fin 8) (j : Fin 4) : ∃ i, semOf i = .dma (recvSem r j) := by revert r j; decide +kernel
theorem sem_gs (t : Dev nD) : ∃ i, semOf i = .dma (gsSem t) := by revert t; decide +kernel
theorem sem_gr (s : Dev nD) : ∃ i, semOf i = .dma (grSem s) := by revert s; decide +kernel

/-- What device `c` owes while the payments `S` are still to be made, whatever it has waited for. -/
def Owes (c : Dev nD) (S : Finset Pay) : sProp 𝕄 := iprop(∃ W, owes (c : Thread nD τ) (owed c S) W)

/-! ## Giving and taking memory -/

theorem give (k : Key) : iprop(sinv k ∗ readerAt ES k 0 ∗ keySlot k) ⊢ (|={Set.univ}=> released ES k 1 : sProp 𝕄) := by
  unfold sinv
  iintro ⟨⟨%ι, #Hi⟩, Hr, Hs⟩
  imod (slot_release ES (Set.mem_univ ι) (keySlot_excl k) 0) $$ [Hr Hs] with ⟨-, H⟩
  · isplitr; · iexact Hi
    isplitl [Hr] <;> iassumption
  imodintro; iexact H

theorem take (k : Key) : iprop(sinv k ∗ released ES k 1 ∗ writeTok ES k 1) ⊢ (|={Set.univ}=> keySlot k : sProp 𝕄) := by
  unfold sinv
  iintro ⟨⟨%ι, #Hi⟩, Hr, Hs⟩
  imod (slot_take ES (Set.mem_univ ι) 1) $$ [Hr Hs] with H
  · isplitr; · iexact Hi
    isplitl [Hr] <;> iassumption
  imodintro; iexact H

/-! ## Waiting for one copy -/

/-- The wait that ends round `n` of a cell with one duty. -/
theorem wait_one (c : Dev nD) {sm : SemLoc sig} {K : Kind} (hK : kindOf sm = K) (hs : ∃ i, semOf i = sm) {n k' ι m : ℕ} {S : Finset Pay}
    (hd : dutiesK c n K = {0}) (hk : amountK K = k') (hι : ι < 16) (hl : lvK ι K ≤ m) (hS : ∀ p ∈ S, m < rank p)
    {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ sm k' Kt)
    {α : Type} (k : PUnit → Prog (TpuEff nD τ sig (Elt F) Λ₀ .tc) α) (R : α → sProp 𝕄) :
    iprop(Ctx D ∗ cred (tallyAt ((c : Thread nD τ), sm) ι k') ∗ Owes c S ∗ atPos ER ((c : Thread nD τ), sm) n ∅ 0)
      ⊢ iprop(((Owes c S ∗ atPos ER ((c : Thread nD τ), sm) (n + 1) ∅ 0 ∗ reached ER ((c : Thread nD τ), sm) (n + 1) ∗ payloadK D c n 0 K)
          -∗ wp frame (wpE (defs₀ (F := F)) 𝒱₀ (c : Thread nD τ) none) Set.univ (k ⟨⟩) R)
        -∗ wp frame (wpE (defs₀ (F := F)) 𝒱₀ (c : Thread nD τ) none) Set.univ (.op w k) R) := by
  unfold Owes
  iintro ⟨#HC, Hc, ⟨%W, HO⟩, Hat⟩ Hk
  ihave Hci := (ctx_cell D c hs) $$ HC
  unfold cinv
  icases Hci with ⟨⟨%κ, #Hi⟩, -⟩
  iapply (Rounds.wp_wait_rest_token 𝒱₀ ER (ringRd D) (c : Thread nD τ) none (κ := κ) hw (Set.mem_univ _) ι (O := owed c S) (W := W)
      (R := n) (m := 0) (T := ∅) (by rw [expect_of D c n hK, hd, Finset.card_singleton, hk, Nat.zero_add, Nat.one_mul])) $$ [Hc HO Hat]
  · isplitr; · iexact Hi
    isplitl [Hc]; · iexact Hc
    isplitl [HO]; · iexact HO
    isplitr
    · iapply (mayOwe c S {(sm, ι)} m (fun p hp => by
        rw [Finset.mem_singleton.mp hp]; exact ⟨hι, by rw [lv_of c ι hK]; exact hl⟩) hS)
      iapply (ctx_lev D); iexact HC
    iexact Hat
  iintro ⟨HO, Hat, Hr, Hp⟩
  iapply Hk
  isplitl [HO]; · iexists _; iexact HO
  isplitl [Hat]; · iexact Hat
  isplitl [Hr]; · iexact Hr
  have e : bigSep ((ringRd D).duties ((c : Thread nD τ), sm) n \ ∅) (fun d => (ringRd D).payload ((c : Thread nD τ), sm) n d) = payloadK D c n 0 K := by
    rw [duties_of D c n hK, hd, Finset.sdiff_empty, bigSep_singleton, payload_of D c n 0 hK]
  iapply (Entails.of_eq e); iexact Hp

/-- A signal that makes the payment `p`. -/
theorem signal_one (c dst : Dev nD) (sem : Sem sig) {K : Kind} (hK : kindOf (.reg sem) = K) (hs : ∃ i, semOf i = .reg sem) (p : Pay) {S : Finset Pay}
    (hp : p ∈ S) (hc : pcell c p = ((dst : Thread nD τ), .reg sem)) (ha : pamt p = 1) (hr : pround p = 0) (hd : pduty p ∈ dutiesK dst 0 K)
    (hk : amountK K = 1) {α : Type} (k : PUnit → Prog (TpuEff nD τ sig (Elt F) Λ₀ .tc) α) (R : α → sProp 𝕄) :
    iprop(Ctx D ∗ Owes c S ∗ dutyTok ER (pcell c p) (pround p) (pduty p) ∗ payloadK D dst 0 (pduty p) K)
      ⊢ iprop((Owes c (S.erase p) -∗ wp frame (wpE (defs₀ (F := F)) 𝒱₀ (c : Thread nD τ) none) Set.univ (k ⟨⟩) R)
        -∗ wp frame (wpE (defs₀ (F := F)) 𝒱₀ (c : Thread nD τ) none) Set.univ (.op (.semSignal (Dev.tc dst) sem 1) k) R) := by
  unfold Owes
  iintro ⟨#HC, ⟨%W, HO⟩, Ht, Hp⟩ Hk
  ihave Hci := (ctx_cell D dst hs) $$ HC
  unfold cinv
  icases Hci with ⟨⟨%κ, #Hi⟩, #Hr⟩
  rw [hc, hr]
  iapply (Rounds.wp_signal 𝒱₀ ER (ringRd D) (c : Thread nD τ) none (dst := (dst : Thread nD τ)) (κ := κ) (r := 0) (d := pduty p)
      (by rw [duties_of D dst 0 hK]; exact hd) (by rw [amount_of D dst 0 _ hK]; exact hk) (pix p) (O₀ := owed c S) (owed c (S.erase p))
      (by rw [owed_erase c hp, hc, ha])) $$ [HO Ht Hp]
  · isplitr; · iexact Hi
    isplitl [HO]; · iexact HO
    isplitl [Ht]; · iexact Ht
    isplitl [Hp]; · rw [payload_of D dst 0 _ hK]; iexact Hp
    iexact Hr
  iintro HO
  iapply Hk
  iexists _; iexact HO

end Cert.KernelIdeal.Ring

end
-- ==== Proof.Mem.lean ====
module

public import proofs.«01_k».proof.Proof.Ctx

@[expose] public section

set_option maxRecDepth 65536

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F] (D : Inputs F)

local notation "𝕄" => MT nD τ sig ℕ (Elt F) ℕ UU ℕ

/-! ## The pieces that only touch this device's memory -/

/-- The shards of `x` and `w` on device `c`. -/
def XW (c : Dev nD) : sProp 𝕄 :=
  iprop((xM.view.loc (c : Thread nD τ) ↦[Finset.univ]{fullShare} D.X c) ∗ (wM.view.loc (c : Thread nD τ) ↦[Finset.univ]{fullShare} D.Y c))

abbrev tR : Rect S256x256 := Rect.unit (s := S256x256) ![0, 0] S256x256.size inb_S256x256_S256x256_0_0

/-- The staging tile of ring `r`, holding anything, and holding `v`. -/
def tAny (c : Dev nD) (r : Fin 8) : sProp 𝕄 := iprop(∃ f, (tM r).view.loc (c : Thread nD τ) ↦[Finset.univ]{fullShare} f)
def tHas (c : Dev nD) (r : Fin 8) (v : FVec F S256x256 .f32) : sProp 𝕄 :=
  iprop(∃ f, ⌜(tM r).view.readAt (Elt F) tR.toLoadRect f = v⌝ ∗ (tM r).view.loc (c : Thread nD τ) ↦[Finset.univ]{fullShare} f)

theorem slot_load (r : Fin 8) (j : Fin 4) : (cM.access (slotR r j)).set ⊆ slotI (r, j) := (slot_set r j).symm.subset

theorem seed_tri (c : Dev nD) (r : Fin 8) : Tri c iprop(XW D c ∗ slotAny c r 0) (seed r c) iprop(XW D c ∗ slotOwn c r 0 (acc D r c 0)) := by
  unfold Tri seed XW slotAny slotOwn
  simp only [Prog.lift, Prog.bind_op, Prog.bind_ret, Prog.pure_eq_ret]
  iintro ⟨⟨Hx, Hw⟩, %f, Hs⟩
  iapply (wp_load 𝒱₀ (c : Thread nD τ) none Set.univ (m := xM) (S := Finset.univ) (Finset.subset_univ _)) $$ Hx; iintro Hx
  iapply (wp_load 𝒱₀ (c : Thread nD τ) none Set.univ (m := wM) (S := Finset.univ) (Finset.subset_univ _)) $$ Hw; iintro Hw
  iapply (wp_load_rect 𝒱₀ (c : Thread nD τ) none Set.univ (m := cM) (r := slotR r 0) (slot_load r 0)) $$ Hs; iintro Hs
  iapply (wp_store 𝒱₀ (c : Thread nD τ) none Set.univ (m := cM) (r := slotR r 0) (Mk := Finset.univ) (slot_load r 0)) $$ Hs; iintro Hs
  rw [wp_ret]; imodintro
  isplitl [Hx Hw]
  · isplitl [Hx]; · iexact Hx
    iexact Hw
  iexists _
  isplitr
  · ipureintro; exact slotTile_store r 0 f _
  iexact Hs

theorem tmp_tri (c : Dev nD) (r : Fin 8) (s : Fin 15) :
    Tri c iprop(XW D c ∗ tAny c r) (tmp r s c) iprop(XW D c ∗ tHas c r (part D r c (s.val + 1))) := by
  unfold Tri tmp XW tAny tHas
  simp only [Prog.lift, Prog.bind_op, Prog.bind_ret, Prog.pure_eq_ret]
  iintro ⟨⟨Hx, Hw⟩, %f, Hs⟩
  iapply (wp_load 𝒱₀ (c : Thread nD τ) none Set.univ (m := xM) (S := Finset.univ) (Finset.subset_univ _)) $$ Hx; iintro Hx
  iapply (wp_load 𝒱₀ (c : Thread nD τ) none Set.univ (m := wM) (S := Finset.univ) (Finset.subset_univ _)) $$ Hw; iintro Hw
  iapply (wp_load 𝒱₀ (c : Thread nD τ) none Set.univ (m := tM r) (S := Finset.univ) (Finset.subset_univ _)) $$ Hs; iintro Hs
  iapply (wp_store 𝒱₀ (c : Thread nD τ) none Set.univ (m := tM r) (r := tR) (Mk := Finset.univ) (Finset.subset_univ _)) $$ Hs; iintro Hs
  rw [wp_ret]; imodintro
  isplitl [Hx Hw]
  · isplitl [Hx]; · iexact Hx
    iexact Hw
  iexists _
  isplitr
  · ipureintro
    have hp : part D r c (s.val + 1) = mm (xM.view.readAt (Elt F) (Rect.unit (s := S4096x256) (hopOff r c s) S256x256.size (hopOff_inb r c s)).toLoadRect (D.X c))
        (wM.view.readAt (Elt F) (colR r).toLoadRect (D.Y c)) := dif_pos s.isLt
    exact (View.read_write_univ (v := (tM r).access tR) (Val := Elt F) f (shapeCast S256x256 (mm _ _) shapeCasts_S256x256_S256x256)).trans
      ((shapeCast_self _ _).trans hp.symm)
  iexact Hs

theorem addSlot_eq {r : Fin 8} {j : Fin 4} {f : Vec F S8x4x256x256 .f32} {u v : FVec F S256x256 .f32} (hf : slotTile r j f = u) :
    addSlot ((cM.access (slotR r j)).read (Elt F) f) v = shapeCast S1x1x256x256 (addf u v) shapeCasts_S256x256_S1x1x256x256 := by
  subst hf; rfl

theorem accum_tri (c : Dev nD) (r : Fin 8) (j : Fin 4) (u v : FVec F S256x256 .f32) :
    Tri c iprop(slotOwn c r j u ∗ tHas c r v) (accum r j) iprop(slotOwn c r j (addf u v) ∗ tAny c r) := by
  unfold Tri accum slotOwn tAny tHas
  simp only [Prog.lift, Prog.bind_op, Prog.bind_ret, Prog.pure_eq_ret]
  iintro ⟨⟨%f, %hf, Hs⟩, %g, %hg, Ht⟩
  iapply (wp_load_rect 𝒱₀ (c : Thread nD τ) none Set.univ (m := cM) (r := slotR r j) (slot_load r j)) $$ Hs; iintro Hs
  iapply (wp_load 𝒱₀ (c : Thread nD τ) none Set.univ (m := tM r) (S := Finset.univ) (Finset.subset_univ _)) $$ Ht; iintro Ht
  iapply (wp_load_rect 𝒱₀ (c : Thread nD τ) none Set.univ (m := cM) (r := slotR r j) (slot_load r j)) $$ Hs; iintro Hs
  iapply (wp_store 𝒱₀ (c : Thread nD τ) none Set.univ (m := cM) (r := slotR r j) (Mk := Finset.univ) (slot_load r j)) $$ Hs; iintro Hs
  rw [wp_ret]; imodintro
  isplitl [Hs]
  · iexists _
    isplitr; rotate_left
    · iexact Hs
    ipureintro
    rw [hg, addSlot_eq hf]
    exact slotTile_store r j f _
  iexists _; iexact Ht

end Cert.KernelIdeal.Ring

end
-- ==== Proof.RingSteps.lean ====
module

public import proofs.«01_k».proof.Proof.Mem
public import Idealize.SL.BI.BigOpNat

@[expose] public section

set_option maxRecDepth 65536

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F] (D : Inputs F)

local notation "𝕄" => MT nD τ sig ℕ (Elt F) ℕ UU ℕ

/-! ## One write of a ring -/

theorem round_of (u : ℕ) : 4 * (u / 4) + ((dstSlot u).val + 3) % 4 = u := by
  show 4 * (u / 4) + ((u + 1) % 4 + 3) % 4 = u
  omega
theorem round_from (u : ℕ) : 4 * (u / 4) + (slotOf u).val = u := by
  show 4 * (u / 4) + u % 4 = u
  omega

theorem duties_send (c : Dev nD) (r : Fin 8) {u : ℕ} (h : u < 15) : dutiesK c (u / 4) (.send r (slotOf u)) = {0} :=
  if_pos (by rw [round_from]; omega)
theorem duties_recv (c : Dev nD) (r : Fin 8) {u : ℕ} (h : u < 15) : dutiesK c (u / 4) (.recv r (dstSlot u)) = {0} :=
  if_pos (by rw [round_of]; omega)
theorem payload_recv (c : Dev nD) (r : Fin 8) (u d : ℕ) :
    payloadK D c (u / 4) d (.recv r (dstSlot u)) = iprop(slotOwn c r (dstSlot u) (acc D r (up r c) u) ∗ Heard r (up r c) u) := by
  dsimp only [payloadK]; rw [round_of]

/-- What write `u` spends. -/
def OutTok (c : Dev nD) (r : Fin 8) (u : ℕ) : sProp 𝕄 :=
  iprop(dutyTok ER (sendCell c r (slotOf u)) (u / 4) 0 ∗ dutyTok ER (recvCell (down r c) r (dstSlot u)) (u / 4) 0
    ∗ writeTok ES (ringKey (down r c) r u) 1)

set_option maxHeartbeats 400000 in
theorem send_tri (c : Dev nD) (r : Fin 8) (u : ℕ) (hu : u < 15) {S : Finset Pay} (hS : Pay.send r ⟨u, hu⟩ ∈ S) :
    Tri c iprop(Ctx D ∗ Owes c S ∗ Fact (down r c) r u ∗ Heard r c u ∗ slotOwn c r (slotOf u) (acc D r c u) ∗ OutTok c r u
        ∗ reached ER (sendCell c r (slotOf u)) (u / 4))
      (send r (slotOf u) (dstSlot u) c)
      iprop(Owes c (S.erase (Pay.send r ⟨u, hu⟩)) ∗ cred (tallyAt (sendCell c r (slotOf u)) u NS)) := by
  unfold Tri send Owes Fact OutTok slotOwn
  simp only [Prog.lift, Prog.bind_op, Prog.bind_ret, Prog.pure_eq_ret]
  iintro ⟨#HC, ⟨%W, HO⟩, ⟨#Hrel, #Hr2⟩, #HH, ⟨%f, %hf, Hs⟩, ⟨Ht1, Ht2, Hw⟩, #Hr1⟩
  ihave Hc1 := (ctx_cell D c (sem_send r (slotOf u))) $$ HC
  ihave Hc2 := (ctx_cell D (down r c) (sem_recv r (dstSlot u))) $$ HC
  unfold cinv
  icases Hc1 with ⟨⟨%κ₁, #Hi1⟩, -⟩
  icases Hc2 with ⟨⟨%κ₂, #Hi2⟩, -⟩
  imod (take (ringKey (down r c) r u)) $$ [Hw] with Hd
  · isplitr; · iapply (ctx_key D); iexact HC
    isplitr; · iexact Hrel
    iexact Hw
  ihave Hd := (Entails.of_eq (keySlot_ring (down r c) r u)) $$ Hd
  unfold slotAny
  icases Hd with ⟨%g, Hd⟩
  have hN : (slotM r (dstSlot u)).view.amount (.dma (recvSem r (dstSlot u))) = NS := rfl
  have hO : owed c S = owed c (S.erase (Pay.send r ⟨u, hu⟩)) + tallyAt (recvCell (down r c) r (dstSlot u)) u NS := owed_erase c hS
  have hd₁ : 0 ∈ (ringRd D).duties (sendCell c r (slotOf u)) (u / 4) := by
    rw [duties_of D c _ (kind_send _ _), duties_send c r hu]; exact Finset.mem_singleton_self _
  have hd₂ : 0 ∈ (ringRd D).duties (recvCell (down r c) r (dstSlot u)) (u / 4) := by
    rw [duties_of D _ _ (kind_recv _ _), duties_recv _ r hu]; exact Finset.mem_singleton_self _
  have hk₁ : (ringRd D).amount (sendCell c r (slotOf u)) (u / 4) 0 = NS := amount_of D c _ _ (kind_send _ _)
  have hk₂ : (ringRd D).amount (recvCell (down r c) r (dstSlot u)) (u / 4) 0 = NS := amount_of D _ _ _ (kind_recv _ _)
  iapply (Rounds.wp_send_pointsTo_with 𝒱₀ ER (ringRd D) (c : Thread nD τ) none (κ₁ := κ₁) (κ₂ := κ₂) (r₁ := u / 4) (r₂ := u / 4)
    (d₁ := 0) (d₂ := 0) (fs := f) (fd := g) (F := Heard r c u) hd₁ hd₂ u u NS hN hk₁ hk₂ (O₀ := owed c S) (owed c (S.erase (Pay.send r ⟨u, hu⟩)))
    hO (W := W) ?_ ?_) $$ [HO Hs Hd Ht1 Ht2]
  · rw [payload_of D c _ _ (kind_send _ _)]
    unfold payloadK slotAny
    iintro H; iexists _; iexact H
  · rw [payload_of D _ _ _ (kind_recv _ _), payload_recv, up_down]
    unfold slotOwn
    iintro ⟨H, #HH⟩
    isplitl [H]
    · iexists _
      isplitr; rotate_left
      · iexact H
      ipureintro
      rw [← hf, ← read_slotM]
      exact slotTile_copy r (dstSlot u) g _
    iexact HH
  · isplitr; · iexact Hi1
    isplitr; · iexact Hi2
    isplitl [Hs]; · iexact Hs
    isplitl [Hd]
    · isplitl [Hd]; · iexact Hd
      iexact HH
    isplitl [HO]; · iexact HO
    isplitl [Ht1]; · iexact Ht1
    isplitr; · iexact Hr1
    isplitl [Ht2]; · iexact Ht2
    iexact Hr2
  iintro ⟨Hc, HO⟩
  rw [wp_ret]
  imodintro
  isplitl [HO]
  · iexists W
    iexact HO
  iexact Hc

/-! ## The state of a ring -/

/-- How many of the numbers below `s` are `i` modulo 4. -/
def cnt (s i : ℕ) : ℕ := (s + 3 - i) / 4
theorem cnt_at (s : ℕ) : cnt s (slotOf s).val = s / 4 := by unfold cnt; show (s + 3 - s % 4) / 4 = s / 4; omega
theorem cnt_at_succ (s : ℕ) : cnt (s + 1) (slotOf s).val = s / 4 + 1 := by unfold cnt; show (s + 1 + 3 - s % 4) / 4 = s / 4 + 1; omega
theorem cnt_off {s i : ℕ} (hi : i < 4) (h : i ≠ (slotOf s).val) : cnt s i = cnt (s + 1) i := by
  unfold cnt; replace h : i ≠ s % 4 := h; omega
theorem back_of (s : ℕ) : ((dstSlot s).val + 3) % 4 = (slotOf s).val := by show ((s + 1) % 4 + 3) % 4 = s % 4; omega

/-- One member of a family changes. -/
theorem at_step {I : Type} [Fintype I] [DecidableEq I] (i : I) {Φ Ψ : I → sProp 𝕄} (h : ∀ j, j ≠ i → Φ j = Ψ j) :
    (bigSep Finset.univ Φ : sProp 𝕄) ⊢ iprop(Φ i ∗ (Ψ i -∗ bigSep Finset.univ Ψ)) := by
  rw [bigSep_univ_at Φ i, bigSep_univ_at Ψ i, bigSep_congr (s := Finset.univ.erase i) (Φ := Φ) (Ψ := Ψ) fun j hj => h j (Finset.ne_of_mem_erase hj)]
  iintro ⟨H1, H2⟩
  isplitl [H1]; · iexact H1
  iintro H
  isplitl [H]; · iexact H
  iexact H2

/-- What device `c` knows about ring `r` after `s` hops. -/
def Knows (c : Dev nD) (r : Fin 8) (s : ℕ) : sProp 𝕄 :=
  iprop(bigSep Finset.univ (fun j : Fin 4 => reached ER (sendCell c r j) (cnt s j.val))
    ∗ bigSep Finset.univ (fun j : Fin 4 => reached ER (recvCell c r j) (cnt s ((j.val + 3) % 4)))
    ∗ Heard r c s)
instance Knows_persistent (c : Dev nD) (r : Fin 8) (s : ℕ) : BI.Persistent (Knows (F := F) c r s) := by unfold Knows; infer_instance

/-- What it has for the waits still to come. -/
def Waits (c : Dev nD) (r : Fin 8) (s : ℕ) : sProp 𝕄 :=
  iprop(bigSep Finset.univ (fun j : Fin 4 => atPos ER (sendCell c r j) (cnt s j.val) ∅ 0)
    ∗ bigSep Finset.univ (fun j : Fin 4 => atPos ER (recvCell c r j) (cnt s ((j.val + 3) % 4)) ∅ 0)
    ∗ bigSep (Finset.Ico s 15) fun u => cred (tallyAt (recvCell c r (dstSlot u)) u NS))

theorem heard_here (r : Fin 8) (c : Dev nD) (s : ℕ) : Heard r c s ⊢ (RowFact c : sProp 𝕄) := by
  unfold Heard
  exact elim_at (Finset.mem_range.mpr (Nat.succ_pos s)) (Φ := fun k => (RowFact ((up r)^[k] c) : sProp 𝕄))

theorem heard_succ (r : Fin 8) (c : Dev nD) (s : ℕ) : iprop(RowFact c ∗ Heard r (up r c) s) ⊢ (Heard r c (s + 1) : sProp 𝕄) := by
  refine bigSep_intro_persistent fun k hk => ?_
  cases k with
  | zero => iintro ⟨H, -⟩; iexact H
  | succ k =>
    iintro ⟨-, H⟩
    unfold Heard
    rw [Function.iterate_succ_apply]
    iapply (elim_at (i := k) (S := Finset.range (s + 1)) (Finset.mem_range.mpr (by have := Finset.mem_range.mp hk; omega)) (Φ := fun k => (RowFact ((up r)^[k] (up r c)) : sProp 𝕄)))
    iexact H

theorem wait_tri (c : Dev nD) (r : Fin 8) (s : ℕ) (hs : s < 15) {S : Finset Pay} (hS : ∀ p ∈ S, 2 + 4 * s + r.val % 4 < rank p) :
    Tri c iprop(Ctx D ∗ Owes c S ∗ Knows c r s ∗ Waits c r s ∗ cred (tallyAt (sendCell c r (slotOf s)) s NS))
      (waitHop r (slotOf s) (dstSlot s))
      iprop(Owes c S ∗ Knows c r (s + 1) ∗ Waits c r (s + 1) ∗ slotAny c r (slotOf s) ∗ slotOwn c r (dstSlot s) (acc D r (up r c) s)) := by
  unfold Tri waitHop Knows Waits
  simp only [Prog.lift, Prog.bind_op, Prog.bind_ret, Prog.pure_eq_ret]
  iintro ⟨#HC, HO, ⟨#Hks, #Hkr, #Hh⟩, ⟨Hps, Hpr, Hf⟩, Hc⟩
  ihave Hf := (Entails.of_eq (bigSep_Ico_succ_bot hs (fun u => cred (tallyAt (recvCell c r (dstSlot u)) u NS)))) $$ Hf
  icases Hf with ⟨Hf, Hfut⟩
  ihave Hps := (at_step (slotOf s) (Φ := fun j : Fin 4 => atPos ER (sendCell c r j) (cnt s j.val) ∅ 0)
    (Ψ := fun j : Fin 4 => atPos ER (sendCell c r j) (cnt (s + 1) j.val) ∅ 0) fun j hj => by
      rw [cnt_off j.isLt fun h => hj (Fin.ext h)]) $$ Hps
  ihave Hpr := (at_step (dstSlot s) (Φ := fun j : Fin 4 => atPos ER (recvCell c r j) (cnt s ((j.val + 3) % 4)) ∅ 0)
    (Ψ := fun j : Fin 4 => atPos ER (recvCell c r j) (cnt (s + 1) ((j.val + 3) % 4)) ∅ 0) fun j hj => by
      rw [cnt_off (Nat.mod_lt _ (by decide)) fun h => hj (Fin.ext (by have := back_of s; have := j.isLt; have := (dstSlot s).isLt; omega))]) $$ Hpr
  ihave Hks := (at_step (slotOf s) (Φ := fun j : Fin 4 => reached ER (sendCell c r j) (cnt s j.val))
    (Ψ := fun j : Fin 4 => reached ER (sendCell c r j) (cnt (s + 1) j.val)) fun j hj => by
      rw [cnt_off j.isLt fun h => hj (Fin.ext h)]) $$ Hks
  ihave Hkr := (at_step (dstSlot s) (Φ := fun j : Fin 4 => reached ER (recvCell c r j) (cnt s ((j.val + 3) % 4)))
    (Ψ := fun j : Fin 4 => reached ER (recvCell c r j) (cnt (s + 1) ((j.val + 3) % 4))) fun j hj => by
      rw [cnt_off (Nat.mod_lt _ (by decide)) fun h => hj (Fin.ext (by have := back_of s; have := j.isLt; have := (dstSlot s).isLt; omega))]) $$ Hkr
  dsimp only
  rw [back_of, cnt_at, cnt_at_succ]
  icases Hps with ⟨Hps, Hps'⟩
  icases Hpr with ⟨Hpr, Hpr'⟩
  icases Hks with ⟨-, Hks'⟩
  icases Hkr with ⟨-, Hkr'⟩
  iapply (wait_one D c (kind_recv r (dstSlot s)) (sem_recv r (dstSlot s)) (n := s / 4) (k' := NS) (ι := s) (m := 2 + 4 * s + r.val % 4)
    (duties_recv c r hs) rfl (by omega) (Nat.le_refl _) hS
    (w := .waitDma2 (recvSem r (dstSlot s)) (slotM r (dstSlot s)) (slotM r (dstSlot s)) ((View.wordExact_bits rfl).reshape _ _) ((View.wordExact_bits rfl).reshape _ _))
    fun _ => rfl) $$ [Hf HO Hpr]
  · iframe HC Hf HO Hpr
  iintro ⟨HO, Hpr, Hr, Hp⟩
  iapply (wait_one D c (kind_send r (slotOf s)) (sem_send r (slotOf s)) (n := s / 4) (k' := NS) (ι := s) (m := 0)
    (duties_send c r hs) rfl (by omega) (Nat.le_refl _) (fun p hp => Nat.lt_of_le_of_lt (Nat.zero_le _) (hS p hp))
    (w := .waitDma2 (sendSem r (slotOf s)) (slotM r (dstSlot s)) (slotM r (slotOf s)) ((View.wordExact_bits rfl).reshape _ _) ((View.wordExact_bits rfl).reshape _ _))
    fun _ => rfl) $$ [Hc HO Hps]
  · iframe HC Hc HO Hps
  iintro ⟨HO, Hps, Hr', Hp'⟩
  rw [wp_ret]; imodintro
  ihave Hp := (Entails.of_eq (payload_recv D c r s 0)) $$ Hp
  icases Hp with ⟨Hp, #Hup⟩
  isplitl [HO]; · iexact HO
  isplitl [Hks' Hkr' Hr Hr']
  · isplitl [Hks' Hr']
    · iapply Hks'; iexact Hr'
    isplitl [Hkr' Hr]
    · iapply Hkr'; iexact Hr
    iapply (heard_succ r c s)
    isplitr
    · iapply (heard_here r c s); iexact Hh
    iexact Hup
  isplitl [Hps Hps' Hpr Hpr' Hfut]
  · isplitl [Hps' Hps]
    · iapply Hps'; iexact Hps
    isplitl [Hpr' Hpr]
    · iapply Hpr'; iexact Hpr
    iexact Hfut
  isplitl [Hp']
  · iapply (Entails.of_eq (show payloadK D c (s / 4) 0 (.send r (slotOf s)) = slotAny c r (slotOf s) from rfl)); iexact Hp'
  iexact Hp

/-! ## Credits -/

/-- What device `c` has for the credits of ring `r` from hop `e` on, and what it has kept. -/
def Creds (c : Dev nD) (r : Fin 8) (e : ℕ) : sProp 𝕄 :=
  iprop(bigSep (Finset.Ico e 12) (fun i => iprop(dutyTok ER (credCell (up r c) r) 0 i ∗ readerAt ES (ringKey c r (i + 3)) 0))
    ∗ bigSep (Finset.range (min e 12)) (fun i => Fact c r (i + 3))
    ∗ bigSep (Finset.Ico 12 e) (fun t => slotAny c r (slotOf t)))

/-- The payments left after the credit of hop `s`, and after the write that follows it. -/
def afterCred (r : Fin 8) (s : ℕ) (S : Finset Pay) : Finset Pay := if h : s < 12 then S.erase (Pay.cred r ⟨s, h⟩) else S
def afterSend (r : Fin 8) (u : ℕ) (S : Finset Pay) : Finset Pay := if h : u < 15 then S.erase (Pay.send r ⟨u, h⟩) else S

theorem knows_free (c : Dev nD) (r : Fin 8) (s : ℕ) : Knows c r (s + 1) ⊢ (reached ER (recvCell c r (dstSlot (s + 3))) ((s + 3) / 4) : sProp 𝕄) := by
  unfold Knows
  iintro ⟨-, H, -⟩
  ihave H := (elim_at (Finset.mem_univ (dstSlot (s + 3))) (Φ := fun j : Fin 4 => reached ER (recvCell c r j) (cnt (s + 1) ((j.val + 3) % 4)))) $$ H
  have e : cnt (s + 1) (((dstSlot (s + 3)).val + 3) % 4) = (s + 3) / 4 := by
    unfold cnt; show (s + 1 + 3 - ((s + 3 + 1) % 4 + 3) % 4) / 4 = (s + 3) / 4; omega
  dsimp only
  rw [e]; iexact H
theorem knows_sent (c : Dev nD) (r : Fin 8) (s : ℕ) : Knows c r s ⊢ (reached ER (sendCell c r (slotOf s)) (s / 4) : sProp 𝕄) := by
  unfold Knows
  iintro ⟨H, -, -⟩
  ihave H := (elim_at (Finset.mem_univ (slotOf s)) (Φ := fun j : Fin 4 => reached ER (sendCell c r j) (cnt s j.val))) $$ H
  dsimp only
  rw [cnt_at]; iexact H
theorem knows_heard (c : Dev nD) (r : Fin 8) (s : ℕ) : Knows c r s ⊢ (Heard r c s : sProp 𝕄) := by
  unfold Knows
  iintro ⟨-, -, H⟩
  iexact H

theorem credit_tri (c : Dev nD) (r : Fin 8) (s : Fin 15) {S : Finset Pay} (hS : ∀ h : s.val < 12, Pay.cred r ⟨s.val, h⟩ ∈ S) :
    Tri c iprop(Ctx D ∗ Owes c S ∗ Knows c r (s.val + 1) ∗ Creds c r s.val ∗ slotAny c r (slotOf s.val))
      (creditOn s c r)
      iprop(Owes c (afterCred r s.val S) ∗ Creds c r (s.val + 1)) := by
  unfold Tri creditOn Creds afterCred
  by_cases h : s.val < 12
  · rw [if_pos h, dif_pos h]
    unfold creditOut
    simp only [semSignalWord, Prog.lift, Prog.bind_op, Prog.bind_ret, Prog.pure_eq_ret]
    iintro ⟨#HC, HO, #HK, ⟨Hc, Hf, -⟩, Hs⟩
    ihave Hc := (Entails.of_eq (bigSep_Ico_succ_bot h _)) $$ Hc
    icases Hc with ⟨⟨Ht, Hr⟩, Hc⟩
    imod (give (ringKey c r (s.val + 3))) $$ [Hr Hs] with #Hrel
    · isplitr; · iapply (ctx_key D); iexact HC
      isplitl [Hr]; · iexact Hr
      have e : dstSlot (s.val + 3) = slotOf s.val := Fin.ext (by show (s.val + 3 + 1) % 4 = s.val % 4; omega)
      iapply (Entails.of_eq ((keySlot_ring c r (s.val + 3)).trans (by rw [e])).symm); iexact Hs
    have em : min (s.val + 1) 12 = min s.val 12 + 1 := by omega
    have em' : min s.val 12 = s.val := by omega
    ihave Hf := (Entails.of_eq (show iprop(Fact c r (s.val + 3) ∗ bigSep (Finset.range (min s.val 12)) (fun i => Fact c r (i + 3))) =
      (bigSep (Finset.range (s.val + 1)) (fun i => Fact c r (i + 3)) : sProp 𝕄) by rw [em', bigSep_range_succ])) $$ [Hf]
    · isplitr; rotate_left
      · iexact Hf
      unfold Fact
      isplitr; · iexact Hrel
      iapply (knows_free c r s.val); iexact HK
    icases Hf with #Hf
    iapply (signal_one D c (up r c) (credSem r) (kind_cred r) (sem_cred r) (Pay.cred r ⟨s.val, h⟩) (hS h) rfl rfl rfl
      (by show s.val ∈ Finset.range 12; exact Finset.mem_range.mpr h) rfl) $$ [HO Ht]
    · isplitr; · iexact HC
      isplitl [HO]; · iexact HO
      isplitl [Ht]; · iexact Ht
      have e : (bigSep (Finset.range (s.val + 1)) (fun i => Fact c r (i + 3)) : sProp 𝕄)
          = payloadK D (up r c) 0 (pduty (Pay.cred r ⟨s.val, h⟩)) (.cred r) := by
        show _ = credPay (up r c) r s.val
        unfold credPay; rw [down_up]
      iapply (Entails.of_eq e); iexact Hf
    iintro HO
    rw [wp_ret]; imodintro
    isplitl [HO]; · iexact HO
    isplitl [Hc]; · iexact Hc
    isplitr
    · rw [em, em']; iexact Hf
    rw [Finset.Ico_eq_empty (by omega), bigSep_empty]; iempintro
  · rw [if_neg h, dif_neg h]
    simp only [Prog.pure_eq_ret]
    iintro ⟨-, HO, -, ⟨-, Hf, Hk⟩, Hs⟩
    rw [wp_ret]; imodintro
    isplitl [HO]; · iexact HO
    isplitr
    · rw [Finset.Ico_eq_empty (by omega), bigSep_empty]; iempintro
    rw [show min (s.val + 1) 12 = min s.val 12 by omega]
    isplitl [Hf]; · iexact Hf
    rw [bigSep_Ico_succ_top (by omega)]
    isplitl [Hs]; · iexact Hs
    iexact Hk

/-- The credits device `c` has taken: `k` of them. -/
def CredAt (c : Dev nD) (r : Fin 8) (k : ℕ) : sProp 𝕄 :=
  if 12 ≤ k then atPos ER (credCell c r) 1 ∅ 0
  else iprop(∃ T : Finset ℕ, atPos ER (credCell c r) 0 T k ∗ bigSep T (credPay c r))

theorem credPay_fact (c : Dev nD) (r : Fin 8) {e k : ℕ} (h : k ≤ e) : credPay c r e ⊢ (Fact (down r c) r (k + 3) : sProp 𝕄) := by
  unfold credPay
  exact elim_at (i := k) (S := Finset.range (e + 1)) (Finset.mem_range.mpr (by omega)) (Φ := fun i => (Fact (down r c) r (i + 3) : sProp 𝕄))
theorem credPays_fact (c : Dev nD) (r : Fin 8) {T : Finset ℕ} {e k : ℕ} (he : e ∈ T) (h : k ≤ e) :
    bigSep T (credPay c r) ⊢ (Fact (down r c) r (k + 3) : sProp 𝕄) := (elim_at he).trans (credPay_fact c r h)

theorem take_tri (c : Dev nD) (r : Fin 8) (k : ℕ) (hk : k < 12) {S : Finset Pay} (hS : ∀ p ∈ S, 2 + 4 * (k + 1) + r.val % 4 < rank p) :
    Tri c iprop(Ctx D ∗ Owes c S ∗ CredAt c r k ∗ cred (tallyAt (credCell c r) k 1))
      (creditIn r) iprop(Owes c S ∗ CredAt c r (k + 1) ∗ Fact (down r c) r (k + 3)) := by
  unfold Tri creditIn CredAt Owes
  rw [if_neg (by omega)]
  simp only [semWaitWord, Prog.lift, Prog.bind_op, Prog.bind_ret, Prog.pure_eq_ret]
  iintro ⟨#HC, ⟨%W, HO⟩, ⟨%T, Hat, #HT⟩, Hc⟩
  ihave Hci := (ctx_cell D c (sem_cred r)) $$ HC
  unfold cinv
  icases Hci with ⟨⟨%κ, #Hi⟩, -⟩
  have hdut : (ringRd D).duties (credCell c r) 0 = Finset.range 12 := duties_of D c 0 (kind_cred r)
  have hexp : (ringRd D).expect (credCell c r) 0 = 12 := (expect_of D c 0 (kind_cred r)).trans rfl
  have hpay : ∀ d, (ringRd D).payload (credCell c r) 0 d = credPay c r d := fun d => payload_of D c 0 d (kind_cred r)
  have hmay : (levAts L lv : sProp 𝕄) ⊢ MayOwe (c : Thread nD τ) {((SemLoc.reg (credSem r) : SemLoc sig), k)} (owed c S) :=
    mayOwe c S _ (2 + 4 * (k + 1) + r.val % 4) (fun p hp => by
      rw [Finset.mem_singleton.mp hp]; exact ⟨by omega, by rw [lv_of c k (kind_cred r)]; exact Nat.le_refl _⟩) hS
  by_cases h : k = 11
  · subst h
    iapply (Rounds.wp_wait_rest_token 𝒱₀ ER (ringRd D) (c : Thread nD τ) none (κ := κ) (sm := .reg (credSem r)) (k' := 1)
      (w := .semWait (credSem r) 1) (fun _ => rfl) (Set.mem_univ _) 11 (O := owed c S) (W := W) (R := 0) (m := 11) (T := T)
      hexp.symm) $$ [Hc HO Hat]
    · isplitr; · iexact Hi
      isplitl [Hc]; · iexact Hc
      isplitl [HO]; · iexact HO
      isplitr
      · iapply hmay; iapply (ctx_lev D); iexact HC
      iexact Hat
    iintro ⟨HO, Hat, -, Hp⟩
    rw [wp_ret]; imodintro
    isplitl [HO]; · iexists _; iexact HO
    isplitl [Hat]
    · rw [if_pos (by omega)]; iexact Hat
    by_cases h11 : 11 ∈ T
    · iapply (credPays_fact c r h11 (Nat.le_refl 11)); iexact HT
    · have e : bigSep ((ringRd D).duties (credCell c r) 0 \ T) (fun d => (ringRd D).payload (credCell c r) 0 d) ⊢ Fact (down r c) r (11 + 3) := by
        rw [hdut]
        refine (elim_at (i := 11) (Finset.mem_sdiff.mpr ⟨by decide, h11⟩)).trans ?_
        rw [hpay]; exact credPay_fact c r (Nat.le_refl 11)
      iapply e; iexact Hp
  · iapply (Rounds.wp_wait 𝒱₀ ER (ringRd D) (c : Thread nD τ) none (κ := κ) (sm := .reg (credSem r)) (k' := 1)
      (w := .semWait (credSem r) 1) (fun _ => rfl) (Set.mem_univ _) (cr := Finsupp.single k 1) (O := owed c S) (W := W)
      {((SemLoc.reg (credSem r) : SemLoc sig), k)} (R := 0) (m := k) (T := T)
      (Util.total_single _ _) (image_single_subset _ _ _)) $$ [Hc HO Hat]
    · isplitr; · iexact Hi
      isplitl [Hc]; · iexact Hc
      isplitl [HO]; · iexact HO
      isplitr
      · iapply hmay; iapply (ctx_lev D); iexact HC
      iexact Hat
    iintro %S' ⟨%hS', HO, Hat, Hp⟩
    rw [wp_ret]; imodintro
    rw [hdut, hexp] at hS'
    obtain ⟨hT, hsub, hcard⟩ := hS'
    have hge : ∃ e ∈ S', k ≤ e := by
      by_contra hn
      have hlt : S' ⊆ Finset.range k := fun e he => Finset.mem_range.mpr (by
        by_contra hh; exact hn ⟨e, he, by omega⟩)
      have h1 := Finset.card_le_card hlt
      have h2 := Finset.card_sdiff_add_card_eq_card hsub
      rw [Finset.card_range] at h1 h2
      omega
    obtain ⟨e, he, hke⟩ := hge
    ihave Hall := (Entails.of_eq (show iprop(bigSep T (credPay c r) ∗ bigSep (S' \ T) (fun d => (ringRd D).payload (credCell c r) 0 d)) = bigSep S' (credPay c r) by
      rw [bigSep_congr fun d _ => hpay d]; exact (bigSep_sdiff_split hT).symm)) $$ [Hp]
    · isplitr; · iexact HT
      iexact Hp
    icases Hall with #Hall
    isplitl [HO]; · iexists _; iexact HO
    isplitl [Hat]
    · rw [if_neg (by omega)]
      iexists S'
      isplitl [Hat]; · iexact Hat
      iexact Hall
    iapply (credPays_fact c r he hke); iexact Hall

/-! ## Writing on -/

/-- What device `c` has for the writes of ring `r` from `u` on. -/
def Outs (c : Dev nD) (r : Fin 8) (u : ℕ) : sProp 𝕄 :=
  iprop(CredAt c r (u - 3) ∗ bigSep (Finset.Ico (u - 3) 12) (fun e => cred (tallyAt (credCell c r) e 1))
    ∗ bigSep (Finset.range 3) (fun i => Fact (down r c) r i) ∗ bigSep (Finset.Ico u 15) (OutTok c r))

/-- Between hops: the copy on its way, or at the end the finished tile. -/
def Pend (c : Dev nD) (r : Fin 8) (s : ℕ) : sProp 𝕄 :=
  if s < 15 then cred (tallyAt (sendCell c r (slotOf s)) s NS) else slotOwn c r 3 (acc D r c 15)

theorem early_tri (c : Dev nD) (r : Fin 8) (u : ℕ) (hu : u < 3) {S : Finset Pay} (hS : Pay.send r ⟨u, by omega⟩ ∈ S) :
    Tri c iprop(Ctx D ∗ Owes c S ∗ Knows c r u ∗ Outs c r u ∗ slotOwn c r (slotOf u) (acc D r c u))
      (send r (slotOf u) (dstSlot u) c)
      iprop(Owes c (afterSend r u S) ∗ Outs c r (u + 1) ∗ Pend D c r u) := by
  unfold Tri Outs Pend afterSend
  rw [if_pos (by omega), dif_pos (show u < 15 by omega), show u + 1 - 3 = u - 3 by omega, bigSep_Ico_succ_bot (show u < 15 by omega)]
  iintro ⟨#HC, HO, #HK, ⟨Hc, Hi, #Hf, Ht, Hts⟩, Hs⟩
  iapply ((send_tri D c r u (by omega) hS).last _) $$ [HO Ht Hs]
  · isplitr; · iexact HC
    isplitl [HO]; · iexact HO
    isplitr; · iapply (elim_at (Finset.mem_range.mpr hu) (Φ := fun i => (Fact (down r c) r i : sProp 𝕄))); iexact Hf
    isplitr; · iapply (knows_heard c r u); iexact HK
    isplitl [Hs]; · iexact Hs
    isplitl [Ht]; · iexact Ht
    iapply (knows_sent c r u); iexact HK
  iintro ⟨HO, Hp⟩
  isplitl [HO]; · iexact HO
  isplitr [Hp]
  · isplitl [Hc]; · iexact Hc
    isplitl [Hi]; · iexact Hi
    isplitr; · iexact Hf
    iexact Hts
  iexact Hp

theorem late_tri (c : Dev nD) (r : Fin 8) (u : ℕ) (hu : 3 ≤ u) (hu' : u < 15) {S : Finset Pay} (hS : Pay.send r ⟨u, hu'⟩ ∈ S)
    (hS' : ∀ p ∈ S, 2 + 4 * (u - 2) + r.val % 4 < rank p) :
    Tri c iprop(Ctx D ∗ Owes c S ∗ Knows c r u ∗ Outs c r u ∗ slotOwn c r (slotOf u) (acc D r c u))
      (do creditIn r; send r (slotOf u) (dstSlot u) c)
      iprop(Owes c (afterSend r u S) ∗ Outs c r (u + 1) ∗ Pend D c r u) := by
  unfold Tri Outs Pend afterSend
  rw [if_pos (by omega), dif_pos hu', show u + 1 - 3 = u - 3 + 1 by omega, bigSep_Ico_succ_bot hu', bigSep_Ico_succ_bot (show u - 3 < 12 by omega)]
  iintro ⟨#HC, HO, #HK, ⟨Hc, ⟨Hi, His⟩, #Hf, Ht, Hts⟩, Hs⟩
  iapply ((take_tri D c r (u - 3) (by omega) (S := S) (by rw [show u - 3 + 1 = u - 2 by omega]; exact hS')).use _ _) $$ [HO Hc Hi]
  · isplitr; · iexact HC
    isplitl [HO]; · iexact HO
    isplitl [Hc]; · iexact Hc
    iexact Hi
  iintro ⟨HO, Hc, #Hu⟩
  iapply ((send_tri D c r u (by omega) hS).last _) $$ [HO Ht Hs]
  · isplitr; · iexact HC
    isplitl [HO]; · iexact HO
    isplitr
    · have e : u - 3 + 3 = u := by omega
      have e' : Fact (down r c) r (u - 3 + 3) ⊢ (Fact (down r c) r u : sProp 𝕄) := Entails.of_eq (by rw [e])
      iapply e'; iexact Hu
    isplitr; · iapply (knows_heard c r u); iexact HK
    isplitl [Hs]; · iexact Hs
    isplitl [Ht]; · iexact Ht
    iapply (knows_sent c r u); iexact HK
  iintro ⟨HO, Hp⟩
  isplitl [HO]; · iexact HO
  isplitr [Hp]
  · isplitl [Hc]; · iexact Hc
    isplitl [His]; · iexact His
    isplitr; · iexact Hf
    iexact Hts
  iexact Hp

theorem sendOn_tri (c : Dev nD) (r : Fin 8) (s : Fin 15) {S : Finset Pay} (hS : ∀ h : s.val + 1 < 15, Pay.send r ⟨s.val + 1, h⟩ ∈ S)
    (hS' : 2 ≤ s.val → ∀ p ∈ S, 2 + 4 * (s.val + 1 - 2) + r.val % 4 < rank p) :
    Tri c iprop(Ctx D ∗ Owes c S ∗ Knows c r (s.val + 1) ∗ Outs c r (s.val + 1) ∗ slotOwn c r (dstSlot s.val) (acc D r c (s.val + 1)))
      (sendOn s c r)
      iprop(Owes c (afterSend r (s.val + 1) S) ∗ Outs c r (s.val + 2) ∗ Pend D c r (s.val + 1)) := by
  unfold sendOn
  by_cases h : s.val < 14
  · rw [if_pos h]
    by_cases h2 : 2 ≤ s.val
    · rw [if_pos h2]
      exact late_tri D c r (s.val + 1) (by omega) (by omega) (hS (by omega)) (hS' h2)
    · rw [if_neg h2]
      exact early_tri D c r (s.val + 1) (by omega) (hS (by omega))
  · rw [if_neg h]
    have e : s.val = 14 := by have := s.isLt; omega
    rw [e]
    have eO : (Outs c r (14 + 1) : sProp 𝕄) = Outs c r (14 + 2) := by
      unfold Outs CredAt
      rw [show Finset.Ico (14 + 1 - 3) 12 = Finset.Ico (14 + 2 - 3) 12 by decide, show Finset.Ico (14 + 1) 15 = Finset.Ico (14 + 2) 15 by decide,
        if_pos (by decide), if_pos (by decide)]
    rw [← eO]
    unfold Tri Pend afterSend
    simp only [Prog.pure_eq_ret]
    rw [dif_neg (by decide), if_neg (by decide)]
    iintro ⟨-, HO, -, Ho, Hs⟩
    rw [wp_ret]; imodintro
    isplitl [HO]; · iexact HO
    isplitl [Ho]; · iexact Ho
    iexact Hs

end Cert.KernelIdeal.Ring

end
-- ==== Proof.Hops.lean ====
module

public import proofs.«01_k».proof.Proof.RingSteps

@[expose] public section

set_option maxRecDepth 65536

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F] (D : Inputs F)

local notation "𝕄" => MT nD τ sig ℕ (Elt F) ℕ UU ℕ

/-! ## Composing pieces -/

/-- A piece that needs only part of what is there. -/
theorem Tri.part {c : Dev nD} {P Q P' Q' R : sProp 𝕄} {p : Piece F} (h : Tri c P p Q) (hP : P' ⊢ iprop(P ∗ R)) (hQ : iprop(Q ∗ R) ⊢ Q') :
    Tri c P' p Q' := by
  unfold Tri
  iintro HP
  ihave H := hP $$ HP
  icases H with ⟨HP, HR⟩
  iapply (h.last (fun _ => Q')) $$ HP
  iintro HQ
  iapply hQ
  isplitl [HQ]; · iexact HQ
  iexact HR

theorem Tri.seq {c : Dev nD} {P Q R : sProp 𝕄} {p q : Piece F} (h : Tri c P p Q) (h' : Tri c Q q R) : Tri c P (do p; q) R := by
  unfold Tri
  iintro HP
  iapply (h.use (fun _ => q) (fun _ => R)) $$ HP
  iintro HQ
  iapply (h'.last (fun _ => R)) $$ HQ
  iintro H; iexact H

/-- The two rings numbered `g`. -/
abbrev rA (g : Fin 4) : Fin 8 := g.castLE (by decide)
abbrev rB (g : Fin 4) : Fin 8 := g.natAdd 4
theorem rA_val (g : Fin 4) : (rA g).val = g.val := rfl
theorem rB_val (g : Fin 4) : (rB g).val = 4 + g.val := rfl
theorem rA_ne_rB (g : Fin 4) : rA g ≠ rB g := fun h => by have := congrArg Fin.val h; rw [rA_val, rB_val] at this; omega

/-- The same piece on both rings. -/
theorem both_tri {c : Dev nD} {g : Fin 4} {p : Fin 8 → Piece F} {P Q P' Q' : sProp 𝕄}
    (h : Tri c P (p (rA g)) Q) (h' : Tri c P' (p (rB g)) Q') :
    Tri c iprop(P ∗ P') (both g p) iprop(Q ∗ Q') :=
  Tri.seq (Q := iprop(Q ∗ P')) (h.part (R := P') .rfl .rfl)
    (h'.part (R := Q) (by iintro ⟨H1, H2⟩; isplitl [H2]; · iexact H2
                          iexact H1) (by iintro ⟨H1, H2⟩; isplitl [H2]; · iexact H2
                                         iexact H1))

/-- The same piece on both rings, each using `C` and turning `O` into the next of its values. -/
theorem both_owes {c : Dev nD} {g : Fin 4} {p : Fin 8 → Piece F} {C P Q P' Q' O O' O'' : sProp 𝕄} [BI.Persistent C]
    (h : Tri c iprop(C ∗ O ∗ P) (p (rA g)) iprop(O' ∗ Q)) (h' : Tri c iprop(C ∗ O' ∗ P') (p (rB g)) iprop(O'' ∗ Q')) :
    Tri c iprop(C ∗ O ∗ P ∗ P') (both g p) iprop(O'' ∗ Q ∗ Q') := by
  refine Tri.seq (Q := iprop((C ∗ O' ∗ P') ∗ Q)) (h.part (R := iprop(C ∗ P')) ?_ ?_) (h'.part (R := Q) .rfl ?_)
  · iintro ⟨#HC, HO, HP, HP'⟩
    isplitr [HP']
    · isplitr; · iexact HC
      isplitl [HO]; · iexact HO
      iexact HP
    isplitr; · iexact HC
    iexact HP'
  · iintro ⟨⟨HO, HQ⟩, HC, HP'⟩
    isplitr [HQ]
    · isplitl [HC]; · iexact HC
      isplitl [HO]; · iexact HO
      iexact HP'
    iexact HQ
  · iintro ⟨⟨HO, HQ'⟩, HQ⟩
    isplitl [HO]; · iexact HO
    isplitl [HQ]; · iexact HQ
    iexact HQ'

/-! ## The payments left -/

theorem mem_afterCred {r : Fin 8} {s : ℕ} {S : Finset Pay} {p : Pay} : p ∈ afterCred r s S ↔ p ∈ S ∧ ∀ e : Fin 12, e.val = s → p ≠ Pay.cred r e := by
  unfold afterCred
  split
  · rename_i h
    rw [Finset.mem_erase]
    constructor
    · rintro ⟨h1, h2⟩; exact ⟨h2, fun e he hp => h1 (hp.trans (by rw [show e = ⟨s, h⟩ from Fin.ext he]))⟩
    · rintro ⟨h1, h2⟩; exact ⟨h2 ⟨s, h⟩ rfl, h1⟩
  · rename_i h
    exact ⟨fun hp => ⟨hp, fun e he => absurd e.isLt (by omega)⟩, fun hp => hp.1⟩
theorem mem_afterSend {r : Fin 8} {u : ℕ} {S : Finset Pay} {p : Pay} : p ∈ afterSend r u S ↔ p ∈ S ∧ ∀ e : Fin 15, e.val = u → p ≠ Pay.send r e := by
  unfold afterSend
  split
  · rename_i h
    rw [Finset.mem_erase]
    constructor
    · rintro ⟨h1, h2⟩; exact ⟨h2, fun e he hp => h1 (hp.trans (by rw [show e = ⟨u, h⟩ from Fin.ext he]))⟩
    · rintro ⟨h1, h2⟩; exact ⟨h2 ⟨u, h⟩ rfl, h1⟩
  · rename_i h
    exact ⟨fun hp => ⟨hp, fun e he => absurd e.isLt (by omega)⟩, fun hp => hp.1⟩
theorem mem_later {t : ℕ} {p : Pay} : p ∈ later t ↔ t ≤ rank p := by
  unfold later; rw [Finset.mem_filter]; exact ⟨fun h => h.2, fun h => ⟨Finset.mem_univ _, h⟩⟩

theorem ring_of {r : Fin 8} {g : Fin 4} (h : r.val % 4 = g.val) : r = rA g ∨ r = rB g := by
  have := r.isLt
  rcases Nat.lt_or_ge r.val 4 with h4 | h4
  · exact .inl (Fin.ext (by rw [rA_val]; omega))
  · exact .inr (Fin.ext (by rw [rB_val]; omega))

theorem after_start (g : Fin 4) : afterSend (rB g) 0 (afterSend (rA g) 0 (later (2 + g.val))) = later (2 + g.val + 1) := by
  ext p
  rw [mem_afterSend, mem_afterSend, mem_later, mem_later]
  have hg := g.isLt
  constructor
  · rintro ⟨⟨h, hA⟩, hB⟩
    refine Nat.lt_of_le_of_ne h fun he => ?_
    rcases p with b | ⟨r, u⟩ | ⟨r, e⟩ | k <;> simp only [rank] at he
    · omega
    · have hu : u.val = 0 := by omega
      rcases ring_of (r := r) (g := g) (by omega) with rfl | rfl
      · exact hA u hu rfl
      · exact hB u hu rfl
    · omega
    · omega
  · intro h
    refine ⟨⟨by omega, ?_⟩, ?_⟩ <;> (rintro e he rfl; simp only [rank, rA_val, rB_val] at h; omega)

theorem after_hop (g : Fin 4) (s : ℕ) (hs : s < 15) :
    afterSend (rB g) (s + 1) (afterSend (rA g) (s + 1) (afterCred (rB g) s (afterCred (rA g) s (later (2 + 4 * (s + 1) + g.val)))))
      = later (2 + 4 * (s + 1) + g.val + 1) := by
  ext p
  rw [mem_afterSend, mem_afterSend, mem_afterCred, mem_afterCred, mem_later, mem_later]
  have hg := g.isLt
  constructor
  · rintro ⟨⟨⟨⟨h, hA⟩, hB⟩, hA'⟩, hB'⟩
    refine Nat.lt_of_le_of_ne h fun he => ?_
    rcases p with b | ⟨r, u⟩ | ⟨r, e⟩ | k <;> simp only [rank] at he
    · omega
    · have hu : u.val = s + 1 := by omega
      rcases ring_of (r := r) (g := g) (by omega) with rfl | rfl
      · exact hA' u hu rfl
      · exact hB' u hu rfl
    · have hu : e.val = s := by omega
      rcases ring_of (r := r) (g := g) (by omega) with rfl | rfl
      · exact hA e hu rfl
      · exact hB e hu rfl
    · omega
  · intro h
    refine ⟨⟨⟨⟨by omega, ?_⟩, ?_⟩, ?_⟩, ?_⟩ <;> (rintro e he rfl; simp only [rank, rA_val, rB_val] at h; omega)

/-! ## A hop -/

/-- The state of ring `r` before the first product, and before hop `s`. -/
def RS0 (c : Dev nD) (r : Fin 8) : sProp 𝕄 := iprop(Knows c r 0 ∗ Waits c r 0 ∗ Creds c r 0 ∗ Outs c r 0 ∗ slotAny c r 0)
def RS (c : Dev nD) (r : Fin 8) (s : ℕ) : sProp 𝕄 := iprop(Knows c r s ∗ Waits c r s ∗ Creds c r s ∗ Outs c r (s + 1) ∗ Pend D c r s)

theorem start_tri (c : Dev nD) (g : Fin 4) :
    Tri c iprop(Ctx D ∗ XW D c ∗ Owes c (later (2 + g.val)) ∗ RS0 c (rA g) ∗ RS0 c (rB g)) (start c g)
      iprop(XW D c ∗ Owes c (later (2 + g.val + 1)) ∗ RS D c (rA g) 0 ∗ RS D c (rB g) 0) := by
  have hg := g.isLt
  have hs : ∀ r, Tri c iprop(Ctx D ∗ XW D c ∗ slotAny c r 0) (seed r c) iprop(XW D c ∗ slotOwn c r 0 (acc D r c 0)) := fun r =>
    (seed_tri D c r).part (R := Ctx D) (by iintro ⟨H1, H2⟩; isplitl [H2]; · iexact H2
                                           iexact H1) (by iintro ⟨H1, -⟩; iexact H1)
  have hm : ∀ r : Fin 8, r.val % 4 = g.val → Pay.send r ⟨0, by decide⟩ ∈ later (2 + g.val) := fun r hr => mem_later.mpr (by simp only [rank]; omega)
  unfold Tri start RS0 RS
  rw [← after_start g]
  iintro ⟨#HC, HX, HO, ⟨#HKA, HWA, HCA, HOA, HsA⟩, ⟨#HKB, HWB, HCB, HOB, HsB⟩⟩
  iapply ((both_owes (p := fun r => seed r c) (hs (rA g)) (hs (rB g))).use _ _) $$ [HX HsA HsB]
  · iframe HC HX HsA HsB
  iintro ⟨HX, HsA, HsB⟩
  iapply ((both_owes (p := fun r => send r 0 1 c) (early_tri D c (rA g) 0 (by decide) (hm _ (by rw [rA_val]; omega)))
    (early_tri D c (rB g) 0 (by decide) (mem_afterSend.mpr ⟨hm _ (by rw [rB_val]; omega), fun e _ h => rA_ne_rB g
      (by simp only [Pay.send, Sum.inr.injEq, Sum.inl.injEq, Prod.mk.injEq] at h; exact h.1.symm)⟩))).last _) $$ [HO HsA HsB HOA HOB]
  · isplitr; · iexact HC
    isplitl [HO]; · iexact HO
    isplitl [HOA HsA]
    · isplitr; · iexact HKA
      isplitl [HOA]; · iexact HOA
      iexact HsA
    isplitr; · iexact HKB
    isplitl [HOB]; · iexact HOB
    iexact HsB
  iintro ⟨HO, ⟨HOA, HpA⟩, ⟨HOB, HpB⟩⟩
  isplitl [HX]; · iexact HX
  isplitl [HO]; · iexact HO
  isplitl [HWA HCA HOA HpA]
  · iframe HKA HWA HCA HOA HpA
  iframe HKB HWB HCB HOB HpB

theorem hop_tri (c : Dev nD) (s : Fin 15) (g : Fin 4) :
    Tri c iprop(Ctx D ∗ XW D c ∗ Owes c (later (2 + 4 * (s.val + 1) + g.val)) ∗ tAny c (rA g) ∗ tAny c (rB g) ∗ RS D c (rA g) s.val ∗ RS D c (rB g) s.val) (hop c s g)
      iprop(XW D c ∗ Owes c (later (2 + 4 * (s.val + 1) + g.val + 1)) ∗ tAny c (rA g) ∗ tAny c (rB g) ∗ RS D c (rA g) (s.val + 1) ∗ RS D c (rB g) (s.val + 1)) := by
  have hg := g.isLt
  have hs := s.isLt
  have ht : ∀ r, Tri c iprop(Ctx D ∗ XW D c ∗ tAny c r) (tmp r s c) iprop(XW D c ∗ tHas c r (part D r c (s.val + 1))) := fun r =>
    (tmp_tri D c r s).part (R := Ctx D) (by iintro ⟨H1, H2⟩; isplitl [H2]; · iexact H2
                                            iexact H1) (by iintro ⟨H1, -⟩; iexact H1)
  have hw : ∀ r : Fin 8, r.val % 4 = g.val → ∀ p ∈ later (2 + 4 * (s.val + 1) + g.val), 2 + 4 * s.val + r.val % 4 < rank p := fun r hr p hp => by
    have := mem_later.mp hp; omega
  have hA : (rA g).val % 4 = g.val := by rw [rA_val]; omega
  have hB : (rB g).val % 4 = g.val := by rw [rB_val]; omega
  have hc : ∀ r : Fin 8, r.val % 4 = g.val → ∀ h : s.val < 12, Pay.cred r ⟨s.val, h⟩ ∈ later (2 + 4 * (s.val + 1) + g.val) := fun r hr h =>
    mem_later.mpr (by simp only [rank]; omega)
  have hd : ∀ r : Fin 8, r.val % 4 = g.val → ∀ h : s.val + 1 < 15, Pay.send r ⟨s.val + 1, h⟩ ∈ later (2 + 4 * (s.val + 1) + g.val) := fun r hr h =>
    mem_later.mpr (by simp only [rank]; omega)
  have hcB : ∀ h : s.val < 12, Pay.cred (rB g) ⟨s.val, h⟩ ∈ afterCred (rA g) s.val (later (2 + 4 * (s.val + 1) + g.val)) := fun h =>
    mem_afterCred.mpr ⟨hc _ hB h, fun e _ h => rA_ne_rB g (by simp only [Pay.cred, Sum.inr.injEq, Sum.inl.injEq, Prod.mk.injEq] at h; exact h.1.symm)⟩
  have hdA : ∀ h : s.val + 1 < 15, Pay.send (rA g) ⟨s.val + 1, h⟩ ∈ afterCred (rB g) s.val (afterCred (rA g) s.val (later (2 + 4 * (s.val + 1) + g.val))) := fun h =>
    mem_afterCred.mpr ⟨mem_afterCred.mpr ⟨hd _ hA h, fun e _ h => by simp [Pay.send, Pay.cred] at h⟩, fun e _ h => by simp [Pay.send, Pay.cred] at h⟩
  have hdB : ∀ h : s.val + 1 < 15, Pay.send (rB g) ⟨s.val + 1, h⟩ ∈ afterSend (rA g) (s.val + 1) (afterCred (rB g) s.val (afterCred (rA g) s.val (later (2 + 4 * (s.val + 1) + g.val)))) := fun h =>
    mem_afterSend.mpr ⟨mem_afterCred.mpr ⟨mem_afterCred.mpr ⟨hd _ hB h, fun e _ h => by simp [Pay.send, Pay.cred] at h⟩, fun e _ h => by simp [Pay.send, Pay.cred] at h⟩,
      fun e _ h => rA_ne_rB g (by simp only [Pay.send, Sum.inr.injEq, Sum.inl.injEq, Prod.mk.injEq] at h; exact h.1.symm)⟩
  have hlA : 2 ≤ s.val → ∀ p ∈ afterCred (rB g) s.val (afterCred (rA g) s.val (later (2 + 4 * (s.val + 1) + g.val))), 2 + 4 * (s.val + 1 - 2) + (rA g).val % 4 < rank p :=
    fun h2 p hp => by have := mem_later.mp (mem_afterCred.mp (mem_afterCred.mp hp).1).1; omega
  have hlB : 2 ≤ s.val → ∀ p ∈ afterSend (rA g) (s.val + 1) (afterCred (rB g) s.val (afterCred (rA g) s.val (later (2 + 4 * (s.val + 1) + g.val)))), 2 + 4 * (s.val + 1 - 2) + (rB g).val % 4 < rank p :=
    fun h2 p hp => by have := mem_later.mp (mem_afterCred.mp (mem_afterCred.mp (mem_afterSend.mp hp).1).1).1; omega
  have ePend : ∀ r, (Pend D c r s.val : sProp 𝕄) = cred (tallyAt (sendCell c r (slotOf s.val)) s.val NS) := fun r => if_pos hs
  unfold Tri hop RS
  rw [← after_hop g s.val hs, ePend, ePend]
  iintro ⟨#HC, HX, HO, HtA, HtB, ⟨#HKA, HWA, HCA, HOA, HpA⟩, ⟨#HKB, HWB, HCB, HOB, HpB⟩⟩
  iapply ((both_owes (p := fun r => tmp r s c) (ht (rA g)) (ht (rB g))).use _ _) $$ [HX HtA HtB]
  · iframe HC HX HtA HtB
  iintro ⟨HX, HtA, HtB⟩
  iapply ((both_owes (p := fun r => waitHop r (slotOf s.val) (slotOf (s.val + 1))) (wait_tri D c (rA g) s.val hs (hw _ hA)) (wait_tri D c (rB g) s.val hs (hw _ hB))).use _ _) $$ [HO HWA HWB HpA HpB]
  · iframe HC HO HKA HWA HpA HKB HWB HpB
  iintro ⟨HO, ⟨#HKA', HWA, HfA, HsA⟩, ⟨#HKB', HWB, HfB, HsB⟩⟩
  iapply ((both_owes (p := fun r => creditOn s c r) (credit_tri D c (rA g) s (hc _ hA)) (credit_tri D c (rB g) s hcB)).use _ _) $$ [HO HCA HCB HfA HfB]
  · iframe HC HO HKA' HCA HfA HKB' HCB HfB
  iintro ⟨HO, HCA, HCB⟩
  iapply ((both_tri (p := fun r => accum r (slotOf (s.val + 1))) (accum_tri c (rA g) (dstSlot s.val) _ _) (accum_tri c (rB g) (dstSlot s.val) _ _)).use _ _) $$ [HsA HtA HsB HtB]
  · isplitl [HsA HtA]
    · isplitl [HsA]; · iexact HsA
      iexact HtA
    isplitl [HsB]; · iexact HsB
    iexact HtB
  iintro ⟨⟨HsA, HtA⟩, ⟨HsB, HtB⟩⟩
  iapply ((both_owes (p := fun r => sendOn s c r) (sendOn_tri D c (rA g) s hdA hlA) (sendOn_tri D c (rB g) s hdB hlB)).last _) $$ [HO HOA HOB HsA HsB]
  · isplitr; · iexact HC
    isplitl [HO]; · iexact HO
    isplitl [HOA HsA]
    · isplitr; · iexact HKA'
      isplitl [HOA]; · iexact HOA
      iexact HsA
    isplitr; · iexact HKB'
    isplitl [HOB]; · iexact HOB
    iexact HsB
  iintro ⟨HO, ⟨HOA, HpA⟩, ⟨HOB, HpB⟩⟩
  isplitl [HX]; · iexact HX
  isplitl [HO]; · iexact HO
  isplitl [HtA]; · iexact HtA
  isplitl [HtB]; · iexact HtB
  isplitl [HWA HCA HOA HpA]
  · iframe HKA' HWA HCA HOA HpA
  iframe HKB' HWB HCB HOB HpB

end Cert.KernelIdeal.Ring

end
-- ==== Proof.Loop.lean ====
module

public import proofs.«01_k».proof.Proof.Hops

@[expose] public section

set_option maxRecDepth 65536

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F] (D : Inputs F)

local notation "𝕄" => MT nD τ sig ℕ (Elt F) ℕ UU ℕ

/-! ## All rings -/

/-- A family over the eight rings, in the order the hops take them. -/
def Quad (Φ : Fin 8 → sProp 𝕄) : sProp 𝕄 :=
  iprop((Φ (rA 0) ∗ Φ (rB 0)) ∗ (Φ (rA 1) ∗ Φ (rB 1)) ∗ (Φ (rA 2) ∗ Φ (rB 2)) ∗ (Φ (rA 3) ∗ Φ (rB 3)))

theorem assoc_eq (P Q R : sProp 𝕄) : iprop((P ∗ Q) ∗ R) = iprop(P ∗ Q ∗ R) := equiv_iff.mp ⟨BI.sep_assoc, BI.sep_assoc'⟩

theorem quad_eq (Φ : Fin 8 → sProp 𝕄) : (bigSep Finset.univ Φ : sProp 𝕄) = Quad Φ := by
  rw [bigSep_eq_bigSepL_of_eq [rA 0, rB 0, rA 1, rB 1, rA 2, rB 2, rA 3, rB 3] (by decide) (by decide)]
  unfold Quad
  simp only [assoc_eq]
  rfl

theorem quad_plain (Φ : Fin 8 → sProp 𝕄) : Quad Φ = iprop((Φ 0 ∗ Φ 4) ∗ (Φ 1 ∗ Φ 5) ∗ (Φ 2 ∗ Φ 6) ∗ (Φ 3 ∗ Φ 7)) := rfl

theorem each_tri {c : Dev nD} {p : Fin 4 → Piece F} {C T : sProp 𝕄} [BI.Persistent C] {O : ℕ → sProp 𝕄} {P Q : Fin 4 → sProp 𝕄}
    (h : ∀ g : Fin 4, Tri c iprop(C ∗ T ∗ O g.val ∗ P g) (p g) iprop(T ∗ O (g.val + 1) ∗ Q g)) :
    Tri c iprop(C ∗ T ∗ O 0 ∗ P 0 ∗ P 1 ∗ P 2 ∗ P 3) (each p) iprop(T ∗ O 4 ∗ Q 0 ∗ Q 1 ∗ Q 2 ∗ Q 3) := by
  have h0 : Tri c iprop(C ∗ T ∗ O 0 ∗ P 0) (p 0) iprop(T ∗ O 1 ∗ Q 0) := h 0
  have h1 : Tri c iprop(C ∗ T ∗ O 1 ∗ P 1) (p 1) iprop(T ∗ O 2 ∗ Q 1) := h 1
  have h2 : Tri c iprop(C ∗ T ∗ O 2 ∗ P 2) (p 2) iprop(T ∗ O 3 ∗ Q 2) := h 2
  have h3 : Tri c iprop(C ∗ T ∗ O 3 ∗ P 3) (p 3) iprop(T ∗ O 4 ∗ Q 3) := h 3
  unfold Tri each
  iintro ⟨#HC, HT, HO, H0, H1, H2, H3⟩
  iapply (h0.use _ _) $$ [HT HO H0]
  · isplitr; · iexact HC
    isplitl [HT]; · iexact HT
    isplitl [HO]; · iexact HO
    iexact H0
  iintro ⟨HT, HO, H0⟩
  iapply (h1.use _ _) $$ [HT HO H1]
  · isplitr; · iexact HC
    isplitl [HT]; · iexact HT
    isplitl [HO]; · iexact HO
    iexact H1
  iintro ⟨HT, HO, H1⟩
  iapply (h2.use _ _) $$ [HT HO H2]
  · isplitr; · iexact HC
    isplitl [HT]; · iexact HT
    isplitl [HO]; · iexact HO
    iexact H2
  iintro ⟨HT, HO, H2⟩
  iapply (h3.last _) $$ [HT HO H3]
  · isplitr; · iexact HC
    isplitl [HT]; · iexact HT
    isplitl [HO]; · iexact HO
    iexact H3
  iintro ⟨HT, HO, H3⟩
  isplitl [HT]; · iexact HT
  isplitl [HO]; · iexact HO
  isplitl [H0]; · iexact H0
  isplitl [H1]; · iexact H1
  isplitl [H2]; · iexact H2
  iexact H3

theorem tAny_eq (c : Dev nD) {r r' : Fin 8} (h : (r.val < 4) = (r'.val < 4)) : (tAny c r : sProp 𝕄) = tAny c r' := by
  unfold tAny
  rw [show tM r = tM r' by unfold tM; simp only [h]]

/-- The inputs and the two staging tiles. -/
def Tools (c : Dev nD) : sProp 𝕄 := iprop(XW D c ∗ tAny c 0 ∗ tAny c 4)

theorem starts_tri (c : Dev nD) :
    Tri c iprop(Ctx D ∗ XW D c ∗ Owes c (later 2) ∗ Quad (RS0 c)) (each (start c)) iprop(XW D c ∗ Owes c (later 6) ∗ Quad (fun r => RS D c r 0)) :=
  each_tri (C := Ctx D) (T := XW D c) (O := fun g => Owes c (later (2 + g))) (P := fun g => iprop(RS0 c (rA g) ∗ RS0 c (rB g)))
    (Q := fun g => iprop(RS D c (rA g) 0 ∗ RS D c (rB g) 0)) fun g => start_tri D c g

theorem hops_tri (c : Dev nD) (s : Fin 15) :
    Tri c iprop(Ctx D ∗ Tools D c ∗ Owes c (later (2 + 4 * (s.val + 1))) ∗ Quad (fun r => RS D c r s.val)) (each (hop c s))
      iprop(Tools D c ∗ Owes c (later (2 + 4 * (s.val + 2))) ∗ Quad (fun r => RS D c r (s.val + 1))) :=
  each_tri (C := Ctx D) (T := Tools D c) (O := fun g => Owes c (later (2 + 4 * (s.val + 1) + g))) (P := fun g => iprop(RS D c (rA g) s.val ∗ RS D c (rB g) s.val))
    (Q := fun g => iprop(RS D c (rA g) (s.val + 1) ∗ RS D c (rB g) (s.val + 1))) fun g => by
      have hA : (tAny c (rA g) : sProp 𝕄) = tAny c 0 := tAny_eq c (propext ⟨fun _ => by decide, fun _ => g.isLt⟩)
      have hB : (tAny c (rB g) : sProp 𝕄) = tAny c 4 := tAny_eq c (propext ⟨fun h => absurd h (by rw [rB_val]; omega), fun h => absurd h (by decide)⟩)
      have h := hop_tri D c s g
      rw [hA, hB] at h
      refine h.part (R := iprop(emp)) ?_ ?_
      · unfold Tools
        iintro ⟨HC, ⟨HX, H0, H4⟩, HO, HP⟩
        iframe
      · unfold Tools
        iintro ⟨⟨HX, HO, H0, H4, HP⟩, -⟩
        iframe

theorem hopsFrom_tri (c : Dev nD) : ∀ (n s : ℕ) (h : n + s ≤ 15),
    Tri c iprop(Ctx D ∗ Tools D c ∗ Owes c (later (2 + 4 * (s + 1))) ∗ Quad (fun r => RS D c r s)) (hopsFrom c n s h)
      iprop(Tools D c ∗ Owes c (later (2 + 4 * (s + n + 1))) ∗ Quad (fun r => RS D c r (s + n)))
  | 0, s, h => by
    unfold Tri hopsFrom
    iintro ⟨-, HT, HO, HQ⟩
    simp only [Prog.pure_eq_ret]
    rw [wp_ret]; imodintro
    isplitl [HT]; · iexact HT
    isplitl [HO]; · iexact HO
    iexact HQ
  | n + 1, s, h => by
    unfold Tri hopsFrom
    have ih := hopsFrom_tri c n (s + 1) (by omega)
    rw [show s + 1 + n = s + (n + 1) by omega] at ih
    iintro ⟨#HC, HT, HO, HQ⟩
    have hs : s < 15 := by omega
    iapply ((hops_tri D c ⟨s, hs⟩).use _ _) $$ [HT HO HQ]
    · isplitr; · iexact HC
      isplitl [HT]; · iexact HT
      isplitl [HO]; · iexact HO
      iexact HQ
    iintro ⟨HT, HO, HQ⟩
    iapply (ih.last _) $$ [HT HO HQ]
    · isplitr; · iexact HC
      isplitl [HT]; · iexact HT
      isplitl [HO]; · iexact HO
      iexact HQ
    iintro H; iexact H

/-! ## The final tiles -/

/-- Reading the eight finished tiles. -/
theorem readOut_use (c : Dev nD) (k : (Fin 8 → FVec F S256x256 .f32) → Piece F) (R : PUnit → sProp 𝕄) :
    Quad (fun r => slotOwn c r 3 (acc D r c 15))
      ⊢ iprop((Quad (fun r => slotAny c r 3) -∗ wp frame (wpE (defs₀ (F := F)) 𝒱₀ (c : Thread nD τ) none) Set.univ (k (tiles D c)) R)
        -∗ wp frame (wpE (defs₀ (F := F)) 𝒱₀ (c : Thread nD τ) none) Set.univ (readOut k) R) := by
  rw [quad_plain, quad_plain]
  unfold slotOwn readOut
  simp only [Prog.lift, Prog.bind_op, Prog.bind_ret, Prog.pure_eq_ret]
  iintro ⟨⟨⟨%f0, %h0, H0⟩, ⟨%f4, %h4, H4⟩⟩, ⟨⟨%f1, %h1, H1⟩, ⟨%f5, %h5, H5⟩⟩, ⟨⟨%f2, %h2, H2⟩, ⟨%f6, %h6, H6⟩⟩, ⟨⟨%f3, %h3, H3⟩, ⟨%f7, %h7, H7⟩⟩⟩ Hk
  iapply (wp_load_rect 𝒱₀ (c : Thread nD τ) none Set.univ (m := cM) (r := slotR 0 3) (slot_load 0 3)) $$ H0; iintro H0
  iapply (wp_load_rect 𝒱₀ (c : Thread nD τ) none Set.univ (m := cM) (r := slotR 1 3) (slot_load 1 3)) $$ H1; iintro H1
  iapply (wp_load_rect 𝒱₀ (c : Thread nD τ) none Set.univ (m := cM) (r := slotR 2 3) (slot_load 2 3)) $$ H2; iintro H2
  iapply (wp_load_rect 𝒱₀ (c : Thread nD τ) none Set.univ (m := cM) (r := slotR 3 3) (slot_load 3 3)) $$ H3; iintro H3
  iapply (wp_load_rect 𝒱₀ (c : Thread nD τ) none Set.univ (m := cM) (r := slotR 4 3) (slot_load 4 3)) $$ H4; iintro H4
  iapply (wp_load_rect 𝒱₀ (c : Thread nD τ) none Set.univ (m := cM) (r := slotR 5 3) (slot_load 5 3)) $$ H5; iintro H5
  iapply (wp_load_rect 𝒱₀ (c : Thread nD τ) none Set.univ (m := cM) (r := slotR 6 3) (slot_load 6 3)) $$ H6; iintro H6
  iapply (wp_load_rect 𝒱₀ (c : Thread nD τ) none Set.univ (m := cM) (r := slotR 7 3) (slot_load 7 3)) $$ H7; iintro H7
  have rt : ∀ (r : Fin 8) (f : Vec F S8x4x256x256 .f32), slotTile r 3 f = acc D r c 15 → relu ((cM.access (slotR r 3)).read (Elt F) f) = tiles D c r :=
    fun r f h => by unfold tiles; rw [← h]; rfl
  have e : (![relu ((cM.access (slotR 0 3)).read (Elt F) f0), relu ((cM.access (slotR 1 3)).read (Elt F) f1), relu ((cM.access (slotR 2 3)).read (Elt F) f2),
      relu ((cM.access (slotR 3 3)).read (Elt F) f3), relu ((cM.access (slotR 4 3)).read (Elt F) f4), relu ((cM.access (slotR 5 3)).read (Elt F) f5),
      relu ((cM.access (slotR 6 3)).read (Elt F) f6), relu ((cM.access (slotR 7 3)).read (Elt F) f7)] : Fin 8 → FVec F S256x256 .f32) = tiles D c := by
    rw [rt 0 f0 h0, rt 1 f1 h1, rt 2 f2 h2, rt 3 f3 h3, rt 4 f4 h4, rt 5 f5 h5, rt 6 f6 h6, rt 7 f7 h7]
    funext r
    fin_cases r <;> rfl
  rw [e]
  iapply Hk
  unfold slotAny
  isplitl [H0 H4]
  · isplitl [H0]; · iexists f0; iexact H0
    iexists f4; iexact H4
  isplitl [H1 H5]
  · isplitl [H1]; · iexists f1; iexact H1
    iexists f5; iexact H5
  isplitl [H2 H6]
  · isplitl [H2]; · iexists f2; iexact H2
    iexists f6; iexact H6
  isplitl [H3]; · iexists f3; iexact H3
  iexists f7; iexact H7

end Cert.KernelIdeal.Ring

end
-- ==== Proof.Meet.lean ====
module

public import Idealize.ShloMosaic.Lib.SparseCore.Stream
public import proofs.«01_k».proof.Proof.Loop

@[expose] public section

set_option maxRecDepth 65536

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F] (D : Inputs F)

local notation "𝕄" => MT nD τ sig ℕ (Elt F) ℕ UU ℕ

/-! ## Before the meeting -/

/-- The slots other devices write first, and the rows they write, still this device's. -/
def Keys0 (c : Dev nD) : sProp 𝕄 :=
  bigSep Finset.univ fun r : Fin 8 => bigSep (Finset.range 3) fun u => iprop(readerAt ES (ringKey c r u) 0 ∗ slotAny c r (dstSlot u))
def Rows0 (c : Dev nD) : sProp 𝕄 := bigSep Finset.univ fun s : Dev nD => iprop(readerAt ES (rowKey c s) 0 ∗ rowAny c s)

def Firsts (c : Dev nD) : sProp 𝕄 := bigSep Finset.univ fun r : Fin 8 => bigSep (Finset.range 3) fun u => Fact c r u
instance Firsts_persistent (c : Dev nD) : BI.Persistent (Firsts (F := F) c) := by unfold Firsts; infer_instance

theorem ready_slots (c : Dev nD) : iprop(Ctx D ∗ Keys0 c) ⊢ (|={Set.univ}=> Firsts c : sProp 𝕄) := by
  unfold Keys0 Firsts
  refine (Transfers.bigSep_mono_pers Finset.univ (Ctx D) _ (fun r => iprop(|={Set.univ}=> bigSep (Finset.range 3) fun u => Fact c r u)) fun r _ => ?_).trans (bigSep_fupd _ _)
  refine (Transfers.bigSep_mono_pers (Finset.range 3) (Ctx D) _ (fun u => iprop(|={Set.univ}=> Fact c r u)) fun u hu => ?_).trans (bigSep_fupd _ _)
  iintro ⟨#HC, Hr, Hs⟩
  imod (give (ringKey c r u)) $$ [Hr Hs] with #H
  · isplitr; · iapply (ctx_key D); iexact HC
    isplitl [Hr]; · iexact Hr
    iapply (Entails.of_eq (keySlot_ring c r u).symm); iexact Hs
  imodintro
  unfold Fact
  isplitr; · iexact H
  have e : u / 4 = 0 := by have := Finset.mem_range.mp hu; omega
  rw [e]
  ihave Hc := (ctx_cell D c (sem_recv r (dstSlot u))) $$ HC
  icases Hc with ⟨-, Hc⟩
  iexact Hc

theorem ready_rows (c : Dev nD) : iprop(Ctx D ∗ Rows0 c) ⊢ (|={Set.univ}=> RowFact c : sProp 𝕄) := by
  unfold Rows0 RowFact
  refine (Transfers.bigSep_mono_pers Finset.univ (Ctx D) _ (fun s => iprop(|={Set.univ}=> released ES (rowKey c s) 1)) fun s _ => ?_).trans (bigSep_fupd _ _)
  iintro ⟨#HC, Hr, Hs⟩
  iapply (give (rowKey c s))
  isplitr; · iapply (ctx_key D); iexact HC
  isplitl [Hr]; · iexact Hr
  iapply (Entails.of_eq (keySlot_row c s).symm); iexact Hs

/-! ## The meeting -/

theorem later_two : (((Finset.univ : Finset Pay).erase (Pay.bar 1)).erase (Pay.bar 0)) = later 2 := by
  ext p
  rw [mem_later, Finset.mem_erase, Finset.mem_erase]
  rcases p with b | ⟨r, u⟩ | ⟨r, e⟩ | k <;> simp only [rank]
  · constructor
    · rintro ⟨h0, h1, -⟩
      exfalso
      have := b.isLt
      rcases Nat.lt_or_ge b.val 1 with h | h
      · exact h0 (congrArg Sum.inl (Fin.ext (by show b.val = 0; omega)))
      · exact h1 (congrArg Sum.inl (Fin.ext (by show b.val = 1; omega)))
    · intro h; omega
  · exact ⟨fun _ => by omega, fun _ => ⟨fun h => (by cases h), fun h => (by cases h), Finset.mem_univ _⟩⟩
  · exact ⟨fun _ => by omega, fun _ => ⟨fun h => (by cases h), fun h => (by cases h), Finset.mem_univ _⟩⟩
  · exact ⟨fun _ => by omega, fun _ => ⟨fun h => (by cases h), fun h => (by cases h), Finset.mem_univ _⟩⟩

/-- What the barrier tells a neighbour: the facts of the rings it sends on. -/
theorem firsts_bar (c dst : Dev nD) (b : ℕ) (h : ∀ r ∈ ringsOf b, down r dst = c) : Firsts c ⊢ (barPay dst b : sProp 𝕄) := by
  unfold barPay
  refine bigSep_intro_persistent fun r hr => ?_
  rw [h r hr]
  exact elim_at (Finset.mem_univ r) (Φ := fun r : Fin 8 => (bigSep (Finset.range 3) fun u => Fact c r u : sProp 𝕄))

theorem bars_firsts (c : Dev nD) : (bigSep (Finset.range 2) (barPay c) : sProp 𝕄)
    ⊢ bigSep Finset.univ fun r : Fin 8 => bigSep (Finset.range 3) fun u => Fact (down r c) r u := by
  refine bigSep_intro_persistent fun r _ => ?_
  have hr : r ∈ ringsOf (if r.val < 4 then 1 else 0) := by
    unfold ringsOf; rw [Finset.mem_filter]; exact ⟨Finset.mem_univ _, by split <;> simp_all⟩
  have hb : (if r.val < 4 then 1 else 0) ∈ Finset.range 2 := Finset.mem_range.mpr (by split <;> omega)
  refine (elim_at hb (Φ := fun b => (barPay c b : sProp 𝕄))).trans ?_
  unfold barPay
  exact elim_at hr (Φ := fun r : Fin 8 => (bigSep (Finset.range 3) fun u => Fact (down r c) r u : sProp 𝕄))

theorem meet_tri (c : Dev nD) :
    Tri c iprop(Ctx D ∗ Owes c Finset.univ ∗ Firsts c ∗ dutyTok ER (pcell c (Pay.bar 0)) 0 0 ∗ dutyTok ER (pcell c (Pay.bar 1)) 0 1
        ∗ cred (tallyAt (barCell c) 0 2) ∗ atPos ER (barCell c) 0 ∅ 0)
      (meet c)
      iprop(Owes c (later 2) ∗ atPos ER (barCell c) 1 ∅ 0 ∗ bigSep Finset.univ fun r : Fin 8 => bigSep (Finset.range 3) fun u => Fact (down r c) r u) := by
  unfold Tri meet
  simp only [semSignalWord, semWaitWord, Prog.lift, Prog.bind_op, Prog.bind_ret, Prog.pure_eq_ret]
  have h01 : (Pay.bar 0 : Pay) ≠ Pay.bar 1 := by decide
  iintro ⟨#HC, HO, #HF, Ht0, Ht1, Hc, Hat⟩
  iapply (signal_one D c (leftOf c) barSem kind_bar sem_bar (Pay.bar 1) (Finset.mem_univ _) rfl rfl rfl (by show 1 ∈ Finset.range 2; decide) rfl) $$ [HO Ht1]
  · isplitr; · iexact HC
    isplitl [HO]; · iexact HO
    isplitl [Ht1]; · iexact Ht1
    iapply (Entails.of_eq (show (barPay (leftOf c) 1 : sProp 𝕄) = payloadK D (leftOf c) 0 (pduty (Pay.bar 1)) Kind.bar from rfl))
    iapply (firsts_bar c (leftOf c) 1 fun r hr => by
      have : (r.val < 4) = (1 = 1) := (Finset.mem_filter.mp hr).2
      unfold down; rw [if_pos (this.mpr rfl)]; exact right_left c)
    iexact HF
  iintro HO
  iapply (signal_one D c (rightOf c) barSem kind_bar sem_bar (Pay.bar 0) (Finset.mem_erase.mpr ⟨h01, Finset.mem_univ _⟩) rfl rfl rfl
    (by show 0 ∈ Finset.range 2; decide) rfl) $$ [HO Ht0]
  · isplitr; · iexact HC
    isplitl [HO]; · iexact HO
    isplitl [Ht0]; · iexact Ht0
    iapply (Entails.of_eq (show (barPay (rightOf c) 0 : sProp 𝕄) = payloadK D (rightOf c) 0 (pduty (Pay.bar 0)) Kind.bar from rfl))
    iapply (firsts_bar c (rightOf c) 0 fun r hr => by
      have : (r.val < 4) = (0 = 1) := (Finset.mem_filter.mp hr).2
      unfold down; rw [if_neg (fun h => absurd (this.mp h) (by decide))]; exact left_right c)
    iexact HF
  iintro HO
  rw [later_two]
  unfold Owes
  icases HO with ⟨%W, HO⟩
  ihave Hci := (ctx_cell D c sem_bar) $$ HC
  unfold cinv
  icases Hci with ⟨⟨%κ, #Hi⟩, -⟩
  have hexp : (ringRd D).expect (barCell c) 0 = 2 := (expect_of D c 0 kind_bar).trans rfl
  have hmay : (levAts L lv : sProp 𝕄) ⊢ MayOwe (c : Thread nD τ) {((SemLoc.reg barSem : SemLoc sig), 0)} (owed c (later 2)) :=
    mayOwe c _ _ 1 (fun p hp => by
      rw [Finset.mem_singleton.mp hp]; exact ⟨by decide, by rw [lv_of c 0 kind_bar]; exact Nat.le_refl _⟩) fun p hp => mem_later.mp hp
  iapply (Rounds.wp_wait_rest_token 𝒱₀ ER (ringRd D) (c : Thread nD τ) none (κ := κ) (sm := .reg barSem) (k' := 2)
    (w := .semWait barSem 2) (fun _ => rfl) (Set.mem_univ _) 0 (O := owed c (later 2)) (W := W) (R := 0) (m := 0) (T := ∅)
    hexp.symm) $$ [Hc HO Hat]
  · isplitr; · iexact Hi
    isplitl [Hc]; · iexact Hc
    isplitl [HO]; · iexact HO
    isplitr
    · iapply hmay; iapply (ctx_lev D); iexact HC
    iexact Hat
  iintro ⟨HO, Hat, -, Hp⟩
  rw [wp_ret]; imodintro
  isplitl [HO]; · iexists _; iexact HO
  isplitl [Hat]; · iexact Hat
  iapply (bars_firsts c)
  have e : bigSep ((ringRd D).duties (barCell c) 0 \ ∅) (fun d => (ringRd D).payload (barCell c) 0 d) = (bigSep (Finset.range 2) (barPay c) : sProp 𝕄) := by
    rw [duties_of D c 0 kind_bar, Finset.sdiff_empty]
    exact bigSep_congr fun d _ => payload_of D c 0 d kind_bar
  iapply (Entails.of_eq e); iexact Hp

/-! ## From the meeting to the rings -/

/-- What device `c` starts with for ring `r`, besides what it learns. -/
def Ring0 (c : Dev nD) (r : Fin 8) : sProp 𝕄 :=
  iprop(Waits c r 0 ∗ Creds c r 0 ∗ CredAt c r 0 ∗ bigSep (Finset.Ico 0 12) (fun e => cred (tallyAt (credCell c r) e 1))
    ∗ bigSep (Finset.Ico 0 15) (OutTok c r) ∗ slotAny c r 0)

theorem knows_zero (c : Dev nD) (r : Fin 8) : iprop(Ctx D ∗ RowFact c) ⊢ (Knows c r 0 : sProp 𝕄) := by
  unfold Knows
  have h0 : ∀ i < 4, cnt 0 i = 0 := fun i hi => by unfold cnt; omega
  iintro ⟨#HC, #HR⟩
  isplitr
  · iapply (bigSep_intro_persistent (S := Finset.univ) (R := Ctx D) (Φ := fun j : Fin 4 => reached ER (sendCell c r j) (cnt 0 j.val)) fun j _ => by
      rw [h0 _ j.isLt]
      iintro H
      ihave H := (ctx_cell D c (sem_send r j)) $$ H
      icases H with ⟨-, H⟩
      iexact H)
    iexact HC
  isplitr
  · iapply (bigSep_intro_persistent (S := Finset.univ) (R := Ctx D) (Φ := fun j : Fin 4 => reached ER (recvCell c r j) (cnt 0 ((j.val + 3) % 4))) fun j _ => by
      rw [h0 _ (Nat.mod_lt _ (by decide))]
      iintro H
      ihave H := (ctx_cell D c (sem_recv r j)) $$ H
      icases H with ⟨-, H⟩
      iexact H)
    iexact HC
  unfold Heard
  iapply (bigSep_intro_persistent (S := Finset.range (0 + 1)) (R := RowFact c) (Φ := fun k => RowFact ((up r)^[k] c)) fun k hk => by
    rw [show k = 0 by have := Finset.mem_range.mp hk; omega]
    iintro H; iexact H)
  iexact HR

theorem rings_begin (c : Dev nD) :
    iprop(Ctx D ∗ RowFact c ∗ (bigSep Finset.univ fun r : Fin 8 => bigSep (Finset.range 3) fun u => Fact (down r c) r u) ∗ bigSep Finset.univ (Ring0 c))
      ⊢ (Quad (RS0 c) : sProp 𝕄) := by
  rw [← quad_eq]
  iintro ⟨#HC, #HR, #HF, H⟩
  iapply (Transfers.bigSep_mono_pers Finset.univ (iprop(Ctx D ∗ RowFact c ∗ bigSep Finset.univ fun r : Fin 8 => bigSep (Finset.range 3) fun u => Fact (down r c) r u))
    (Ring0 c) (RS0 c) fun r _ => by
      unfold Ring0 RS0 Outs
      iintro ⟨⟨#HC, #HR, #HF⟩, HW, HCr, HA, HI, HO, HS⟩
      isplitr
      · iapply (knows_zero D c r)
        isplitr; · iexact HC
        iexact HR
      isplitl [HW]; · iexact HW
      isplitl [HCr]; · iexact HCr
      isplitr [HS]
      · isplitl [HA]; · iexact HA
        isplitl [HI]; · iexact HI
        isplitr
        · iapply (elim_at (Finset.mem_univ r) (Φ := fun r : Fin 8 => (bigSep (Finset.range 3) fun u => Fact (down r c) r u : sProp 𝕄))); iexact HF
        iexact HO
      iexact HS)
  isplitr
  · isplitr; · iexact HC
    isplitr; · iexact HR
    iexact HF
  iexact H

end Cert.KernelIdeal.Ring

end
-- ==== Proof.Gather.lean ====
module

public import proofs.«01_k».proof.Proof.Meet

@[expose] public section

set_option maxRecDepth 65536

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F] (D : Inputs F)

local notation "𝕄" => MT nD τ sig ℕ (Elt F) ℕ UU ℕ

/-! ## Fifteen pieces in turn -/

theorem others_tri {c : Dev nD} {p : Fin 15 → Piece F} (A : ℕ → sProp 𝕄) (hA : ∀ k : Fin 15, Tri c (A k.val) (p k) (A (k.val + 1))) :
    ∀ (n k : ℕ) (h : n + k ≤ 15), Tri c (A k) (others p n k h) (A (k + n))
  | 0, k, _ => by
    unfold Tri others
    rw [Prog.pure_eq_ret, wp_ret]
    iintro H; imodintro; iexact H
  | n + 1, k, h => by
    have hk : k < 15 := by omega
    have h2 := others_tri A hA n (k + 1) (by omega)
    rw [show k + 1 + n = k + (n + 1) by omega] at h2
    exact Tri.seq (hA ⟨k, hk⟩) h2

/-- The family after `n` pieces. -/
def famAt (In Out : Fin 15 → sProp 𝕄) (n : ℕ) : sProp 𝕄 := bigSep Finset.univ fun j : Fin 15 => if j.val < n then Out j else In j

theorem famAt_step (In Out : Fin 15 → sProp 𝕄) (k : Fin 15) : famAt In Out k.val ⊢ iprop(In k ∗ (Out k -∗ famAt In Out (k.val + 1))) := by
  have h := at_step k (Φ := fun j : Fin 15 => if j.val < k.val then Out j else In j)
    (Ψ := fun j : Fin 15 => if j.val < k.val + 1 then Out j else In j) fun j hj => by
      have : j.val ≠ k.val := fun e => hj (Fin.ext e)
      by_cases hl : j.val < k.val
      · rw [if_pos hl, if_pos (by omega)]
      · rw [if_neg hl, if_neg (by omega)]
  simp only [if_neg (Nat.lt_irrefl k.val), if_pos (Nat.lt_succ_self k.val)] at h
  exact h

/-- Each of the fifteen pieces turns its own `In` into `Out`, and `base` moves on. -/
theorem others_fam {c : Dev nD} {p : Fin 15 → Piece F} {base : ℕ → sProp 𝕄} {In Out : Fin 15 → sProp 𝕄}
    (h : ∀ k : Fin 15, Tri c iprop(base k.val ∗ In k) (p k) iprop(base (k.val + 1) ∗ Out k)) :
    Tri c iprop(base 0 ∗ bigSep Finset.univ In) (others p 15 0 (by decide)) iprop(base 15 ∗ bigSep Finset.univ Out) := by
  have step (k : Fin 15) : Tri c iprop(base k.val ∗ famAt In Out k.val) (p k) iprop(base (k.val + 1) ∗ famAt In Out (k.val + 1)) := by
    have h1 : iprop(base k.val ∗ famAt In Out k.val) ⊢ iprop((base k.val ∗ In k) ∗ (Out k -∗ famAt In Out (k.val + 1))) := by
      iintro ⟨HB, H⟩
      ihave H := (famAt_step In Out k) $$ H
      icases H with ⟨H1, H2⟩
      isplitr [H2]
      · isplitl [HB]; · iexact HB
        iexact H1
      iexact H2
    have h2 : iprop((base (k.val + 1) ∗ Out k) ∗ (Out k -∗ famAt In Out (k.val + 1))) ⊢ iprop(base (k.val + 1) ∗ famAt In Out (k.val + 1)) := by
      iintro ⟨⟨HB, H1⟩, H2⟩
      isplitl [HB]; · iexact HB
      iapply H2; iexact H1
    exact Tri.part (h k) h1 h2
  have key := others_tri (c := c) (p := p) (fun n => iprop(base n ∗ famAt In Out n)) step 15 0 (by decide)
  have e0 : famAt In Out 0 = bigSep Finset.univ In := bigSep_congr fun j _ => if_neg (Nat.not_lt_zero _)
  have e1 : famAt In Out (0 + 15) = bigSep Finset.univ Out := bigSep_congr fun j _ => if_pos (by have := j.isLt; omega)
  simp only [e0, e1] at key
  exact key

theorem erase_dev (c : Dev nD) : (Finset.univ.erase c : Finset (Dev nD)) = Finset.univ.map ⟨gdev c, fun _ _ h => gdev_inj c h⟩ := by
  ext e
  rw [Finset.mem_erase, Finset.mem_map]
  constructor
  · rintro ⟨h, -⟩
    obtain ⟨k, rfl⟩ := gdev_surj c e h
    exact ⟨k, Finset.mem_univ _, rfl⟩
  · rintro ⟨k, -, rfl⟩
    exact ⟨gdev_ne c k, Finset.mem_univ _⟩

/-- A family over the devices, as this one's and the fifteen others'. -/
theorem fam_dev (c : Dev nD) (Φ : Dev nD → sProp 𝕄) : bigSep Finset.univ Φ = iprop(Φ c ∗ bigSep Finset.univ fun k : Fin 15 => Φ (gdev c k)) := by
  rw [bigSep_univ_at Φ c, erase_dev, bigSep_map]
  rfl

/-! ## The maximum's own row -/

def gStoreAt (y : Fin 8 → FVec F S256x256 .f32) (off : Fin 3 → Nat) (inb : ∀ a, off a + S1x8x128.size a ≤ S16x8x128.size a) : Piece F := do
  let _ ← Prog.lift (.load gM (Rect.unit (s := S16x8x128) off S1x8x128.size inb).toLoadRect (View.loadsAt_vmem h_S1x8x128))
  Prog.lift (.store gM (Rect.unit (s := S16x8x128) off S1x8x128.size inb) (ownMax y) Finset.univ (View.stores_vmem_bits_univ h_S1x8x128 rfl) (.inl rfl))
theorem gStoreAt_eq (y : Fin 8 → FVec F S256x256 .f32) {off off' : Fin 3 → Nat} (h : off = off')
    (inb : ∀ a, off a + S1x8x128.size a ≤ S16x8x128.size a) (inb' : ∀ a, off' a + S1x8x128.size a ≤ S16x8x128.size a) :
    gStoreAt y off inb = gStoreAt y off' inb' := by subst h; rfl

theorem row_load (s : Dev nD) : (gM.access (rowR s)).set ⊆ rowI s := by rw [← row_set]

theorem gStore_tri (c : Dev nD) : Tri c (rowAny c c) (gStore (tiles D c) c) (rowOwn D fullShare c c) := by
  have e : gStore (tiles D c) c = gStoreAt (tiles D c) ![c.val, 0, 0] (inb_row c) := gStoreAt_eq _ (k0_off5_eq c) _ _
  rw [e]
  unfold Tri gStoreAt rowAny rowOwn
  simp only [Prog.lift, Prog.bind_op, Prog.bind_ret, Prog.pure_eq_ret]
  iintro ⟨%f, H⟩
  iapply (wp_load_rect 𝒱₀ (c : Thread nD τ) none Set.univ (m := gM) (r := rowR c) (row_load c)) $$ H; iintro H
  iapply (wp_store 𝒱₀ (c : Thread nD τ) none Set.univ (m := gM) (r := rowR c) (Mk := Finset.univ) (row_load c)) $$ H; iintro H
  rw [wp_ret]; imodintro
  iapply (Entails.of_eq (pointsTo_congr (row_store c (top D) f (ownMax (tiles D c)) (ownMax_eq _)))); iexact H

/-! ## The copies of the maximum -/

def gats (n : ℕ) : Finset Pay := Finset.univ.filter fun p => ∃ j : Fin 15, n ≤ j.val ∧ p = Pay.gat j
theorem mem_gats {n : ℕ} {p : Pay} : p ∈ gats n ↔ ∃ j : Fin 15, n ≤ j.val ∧ p = Pay.gat j := by
  unfold gats; rw [Finset.mem_filter]; exact and_iff_right (Finset.mem_univ _)
theorem gats_erase (k : Fin 15) : (gats k.val).erase (Pay.gat k) = gats (k.val + 1) := by
  ext p
  rw [Finset.mem_erase, mem_gats, mem_gats]
  constructor
  · rintro ⟨h, j, hj, rfl⟩
    have : j ≠ k := fun e => h (e ▸ rfl)
    have : j.val ≠ k.val := fun e => this (Fin.ext e)
    exact ⟨j, by omega, rfl⟩
  · rintro ⟨j, hj, rfl⟩
    refine ⟨fun e => ?_, j, by omega, rfl⟩
    have : j = k := Sum.inr.inj (Sum.inr.inj (Sum.inr.inj e))
    subst this; omega
theorem gats_end : gats 15 = ∅ := Finset.filter_eq_empty_iff.mpr fun p _ ⟨j, h, _⟩ => by have := j.isLt; omega
theorem gats_zero : later 66 = gats 0 := by
  ext p
  rw [mem_later, mem_gats]
  rcases p with b | ⟨r, u⟩ | ⟨r, e⟩ | k <;> simp only [rank]
  · exact ⟨fun h => by omega, fun ⟨j, _, h⟩ => by cases h⟩
  · exact ⟨fun h => by omega, fun ⟨j, _, h⟩ => by cases h⟩
  · exact ⟨fun h => by omega, fun ⟨j, _, h⟩ => by cases h⟩
  · exact ⟨fun _ => ⟨k, Nat.zero_le _, rfl⟩, fun _ => by omega⟩

/-- What device `c` holds for its copy to the device `k + 1` to the right. -/
def GTok (c : Dev nD) (k : Fin 15) : sProp 𝕄 :=
  iprop(dutyTok ER (gsCell c (gdev c k)) 0 0 ∗ dutyTok ER (grCell (gdev c k) c) 0 0 ∗ writeTok ES (rowKey (gdev c k) c) 1)

theorem gSend_tri (c : Dev nD) (k : Fin 15) {S : Finset Pay} (hS : Pay.gat k ∈ S) :
    Tri c iprop(Ctx D ∗ Owes c S ∗ released ES (rowKey (gdev c k) c) 1 ∗ rowOwn D (gShare c (gdev c k)) c c ∗ GTok c k)
      (gSend c k)
      iprop(Owes c (S.erase (Pay.gat k)) ∗ cred (tallyAt (gsCell c (gdev c k)) 0 NG)) := by
  unfold Tri gSend Owes GTok rowOwn
  simp only [Prog.lift, Prog.bind_op, Prog.bind_ret, Prog.pure_eq_ret, gMine_eq, gSendSem_eq, gMineSem_eq]
  iintro ⟨#HC, ⟨%W, HO⟩, #Hrel, Hs, ⟨Ht1, Ht2, Hw⟩⟩
  ihave Hc1 := (ctx_cell D c (sem_gs (gdev c k))) $$ HC
  ihave Hc2 := (ctx_cell D (gdev c k) (sem_gr c)) $$ HC
  unfold cinv
  icases Hc1 with ⟨⟨%κ₁, #Hi1⟩, #Hr1⟩
  icases Hc2 with ⟨⟨%κ₂, #Hi2⟩, #Hr2⟩
  imod (take (rowKey (gdev c k) c)) $$ [Hw] with Hd
  · isplitr; · iapply (ctx_key D); iexact HC
    isplitr; · iexact Hrel
    iexact Hw
  ihave Hd := (Entails.of_eq (keySlot_row (gdev c k) c)) $$ Hd
  unfold rowAny
  icases Hd with ⟨%g, Hd⟩
  have hne : gdev c k ≠ c := gdev_ne c k
  have hN : (rowM c).view.amount (.dma (grSem c)) = NG := rfl
  have hO : owed c S = owed c (S.erase (Pay.gat k)) + tallyAt (grCell (gdev c k) c) 0 NG := owed_erase c hS
  have hd₁ : 0 ∈ (ringRd D).duties (gsCell c (gdev c k)) 0 := by
    rw [duties_of D c _ (kind_gs _), show dutiesK c 0 (.gs (gdev c k)) = {0} from if_pos ⟨rfl, hne⟩]; exact Finset.mem_singleton_self _
  have hd₂ : 0 ∈ (ringRd D).duties (grCell (gdev c k) c) 0 := by
    rw [duties_of D _ _ (kind_gr _), show dutiesK (gdev c k) 0 (.gr c) = {0} from if_pos ⟨rfl, hne.symm⟩]; exact Finset.mem_singleton_self _
  have hk₁ : (ringRd D).amount (gsCell c (gdev c k)) 0 0 = NG := amount_of D c _ _ (kind_gs _)
  have hk₂ : (ringRd D).amount (grCell (gdev c k) c) 0 0 = NG := amount_of D _ _ _ (kind_gr _)
  iapply (Rounds.wp_send_pointsTo_with 𝒱₀ ER (ringRd D) (c : Thread nD τ) none (κ₁ := κ₁) (κ₂ := κ₂) (r₁ := 0) (r₂ := 0)
    (d₁ := 0) (d₂ := 0) (fs := gAll (top D)) (fd := g) (F := iprop(emp)) hd₁ hd₂ 0 0 NG hN hk₁ hk₂ (O₀ := owed c S) (owed c (S.erase (Pay.gat k)))
    hO (W := W) ?_ ?_) $$ [HO Hs Hd Ht1 Ht2]
  · rw [payload_of D c _ _ (kind_gs _)]
    exact Entails.rfl
  · rw [payload_of D _ _ _ (kind_gr _)]
    unfold payloadK rowOwn
    iintro ⟨H, -⟩
    iapply (Entails.of_eq (pointsTo_congr (row_copy c g (gAll (top D))))); iexact H
  · isplitr; · iexact Hi1
    isplitr; · iexact Hi2
    isplitl [Hs]; · iexact Hs
    isplitl [Hd]
    · isplitl [Hd]; · iexact Hd
      iempintro
    isplitl [HO]; · iexact HO
    isplitl [Ht1]; · iexact Ht1
    isplitr; · iexact Hr1
    isplitl [Ht2]; · iexact Ht2
    iexact Hr2
  iintro ⟨Hc, HO⟩
  rw [wp_ret]
  imodintro
  isplitl [HO]
  · iexists W
    iexact HO
  iexact Hc

/-- The waits for the copies, of which one remains for each of the others. -/
theorem gRecvWait_tri (c : Dev nD) (k : Fin 15) :
    Tri c iprop((Ctx D ∗ Owes c ∅) ∗ cred (tallyAt (grCell c (gdev c k)) 0 NG) ∗ atPos ER (grCell c (gdev c k)) 0 ∅ 0)
      (gRecvWait c k)
      iprop((Ctx D ∗ Owes c ∅) ∗ rowOwn D fullShare c (gdev c k) ∗ atPos ER (grCell c (gdev c k)) 1 ∅ 0) := by
  unfold Tri gRecvWait
  rw [gRecvSem_eq]
  simp only [Prog.lift, Prog.bind_op, Prog.bind_ret, Prog.pure_eq_ret, gFrom_eq]
  iintro ⟨⟨#HC, HO⟩, Hc, Hat⟩
  iapply (wait_one D c (kind_gr (gdev c k)) (sem_gr (gdev c k)) (n := 0) (k' := NG) (ι := 0) (m := 100) (S := ∅)
    (if_pos ⟨rfl, gdev_ne c k⟩) rfl (by decide) (Nat.le_refl _) (fun p hp => absurd hp (Finset.notMem_empty p))
    (w := .waitDma2 (grSem (gdev c k)) (rowM (gdev c k)) (rowM (gdev c k)) ((View.wordExact_bits rfl).reshape _ _) ((View.wordExact_bits rfl).reshape _ _))
    fun _ => rfl) $$ [HO Hc Hat]
  · isplitr; · iexact HC
    isplitl [Hc]; · iexact Hc
    isplitl [HO]; · iexact HO
    iexact Hat
  iintro ⟨HO, Hat, -, Hp⟩
  rw [wp_ret]; imodintro
  isplitl [HO]
  · isplitr; · iexact HC
    iexact HO
  isplitl [Hp]
  · iapply (Entails.of_eq (show payloadK D c 0 0 (Kind.gr (gdev c k)) = rowOwn D fullShare c (gdev c k) from rfl)); iexact Hp
  iexact Hat

theorem gSendWait_tri (c : Dev nD) (k : Fin 15) :
    Tri c iprop((Ctx D ∗ Owes c ∅) ∗ cred (tallyAt (gsCell c (gdev c k)) 0 NG) ∗ atPos ER (gsCell c (gdev c k)) 0 ∅ 0)
      (gSendWait c k)
      iprop((Ctx D ∗ Owes c ∅) ∗ rowOwn D (gShare c (gdev c k)) c c ∗ atPos ER (gsCell c (gdev c k)) 1 ∅ 0) := by
  unfold Tri gSendWait
  rw [gSendSem_eq]
  simp only [Prog.lift, Prog.bind_op, Prog.bind_ret, Prog.pure_eq_ret, gMine_eq]
  iintro ⟨⟨#HC, HO⟩, Hc, Hat⟩
  iapply (wait_one D c (kind_gs (gdev c k)) (sem_gs (gdev c k)) (n := 0) (k' := NG) (ι := 0) (m := 100) (S := ∅)
    (if_pos ⟨rfl, gdev_ne c k⟩) rfl (by decide) (Nat.zero_le _) (fun p hp => absurd hp (Finset.notMem_empty p))
    (w := .waitDma2 (gsSem (gdev c k)) (rowM c) (rowM c) ((View.wordExact_bits rfl).reshape _ _) ((View.wordExact_bits rfl).reshape _ _))
    fun _ => rfl) $$ [HO Hc Hat]
  · isplitr; · iexact HC
    isplitl [Hc]; · iexact Hc
    isplitl [HO]; · iexact HO
    iexact Hat
  iintro ⟨HO, Hat, -, Hp⟩
  rw [wp_ret]; imodintro
  isplitl [HO]
  · isplitr; · iexact HC
    iexact HO
  isplitl [Hp]
  · iapply (Entails.of_eq (show payloadK D c 0 0 (Kind.gs (gdev c k)) = rowOwn D (gShare c (gdev c k)) c c from rfl)); iexact Hp
  iexact Hat

/-! ## The result -/

/-- The block of the result device `c` computes. -/
def outV (c : Dev nD) : Vec F S256x2048 .f32 := fun i =>
  quant (tiles D c ⟨(i 1).val / 256, Nat.div_lt_of_lt_mul (i 1).isLt⟩) (scaleOf (gAll (top D)))
    (fun a => match a with
      | 0 => ⟨(i 0).val, (i 0).isLt⟩
      | 1 => ⟨(i 1).val % 256, Nat.mod_lt _ (by decide)⟩)

theorem mem_col {r : Fin 8} {i : S256x2048.Idx} : i ∈ (oM.access (colR r)).set ↔ (i 1).val / 256 = r.val := by
  refine ValueKit.mem_set_slice_whole_iff cc0_stg2_0 (colR r) i ?_
  rw [Rect.mem_set_unit]
  constructor
  · intro h
    have h1 : 256 * r.val ≤ (i 1).val ∧ (i 1).val < 256 * r.val + 256 := h 1
    omega
  · intro h a
    have h0 : (i 0).val < 256 := (i 0).isLt
    match a with
    | 0 => show 0 ≤ (i 0).val ∧ (i 0).val < 0 + 256; omega
    | 1 => show 256 * r.val ≤ (i 1).val ∧ (i 1).val < 256 * r.val + 256; omega

theorem outV_at (c : Dev nD) (r : Fin 8) (x : S256x256.Idx) (i : S256x2048.Idx) (h0 : (i 0).val = (x 0).val) (h1 : (i 1).val = 256 * r.val + (x 1).val) :
    outV D c i = quant (tiles D c r) (scaleOf (gAll (top D))) x := by
  have hx : (x 1).val < 256 := (x 1).isLt
  have e1 : (⟨(i 1).val / 256, Nat.div_lt_of_lt_mul (i 1).isLt⟩ : Fin 8) = r := Fin.ext (by show (i 1).val / 256 = r.val; omega)
  have e2 : (fun a => match a with
      | 0 => ⟨(i 0).val, (i 0).isLt⟩
      | 1 => ⟨(i 1).val % 256, Nat.mod_lt _ (by decide)⟩ : S256x256.Idx) = x := by
    funext a
    match a with
    | 0 => exact Fin.ext h0
    | 1 => exact Fin.ext (by show (i 1).val % 256 = (x 1).val; omega)
  unfold outV
  rw [e1, e2]

theorem col_emb0 (r : Fin 8) (x : S256x256.Idx) : ((colR r).emb x 0).val = (x 0).val := by
  show 0 + 1 * (x 0).val = _; omega
theorem col_emb1 (r : Fin 8) (x : S256x256.Idx) : ((colR r).emb x 1).val = 256 * r.val + (x 1).val := by
  show 256 * r.val + 1 * (x 1).val = _; omega

theorem read_outV (c : Dev nD) (r : Fin 8) :
    (oM.access (colR r)).read (Elt F) (outV D c) = quant (tiles D c r) (scaleOf (gAll (top D))) := by
  funext x
  exact outV_at D c r x ((colR r).emb x) (col_emb0 r x) (col_emb1 r x)

/-- The first `n` tiles of the result are in place. -/
def OutTo (c : Dev nD) (n : ℕ) : sProp 𝕄 :=
  iprop(∃ f : Vec F S256x2048 .f32, ⌜∀ i, (i 1).val / 256 < n → f i = outV D c i⌝ ∗ oM.view.loc (c : Thread nD τ) ↦[Finset.univ]{fullShare} f)

theorem outStore_tri (c : Dev nD) (r : Fin 8) :
    Tri c (OutTo D c r.val) (outStore (tiles D c) (scaleOf (gAll (top D))) r) (OutTo D c (r.val + 1)) := by
  unfold Tri outStore OutTo
  simp only [Prog.lift, Prog.bind_op, Prog.bind_ret, Prog.pure_eq_ret]
  iintro ⟨%f, %hf, H⟩
  iapply (wp_load 𝒱₀ (c : Thread nD τ) none Set.univ (m := oM) (S := Finset.univ) (Finset.subset_univ _)) $$ H; iintro H
  iapply (wp_store 𝒱₀ (c : Thread nD τ) none Set.univ (m := oM) (r := colR r) (Mk := Finset.univ) (Finset.subset_univ _)) $$ H; iintro H
  rw [wp_ret]; imodintro
  iexists _
  isplitr; rotate_left
  · iexact H
  ipureintro
  intro i hi
  by_cases h : (i 1).val / 256 = r.val
  · refine eq_on_of_read (oM.access (colR r)) _ (outV D c) ?_ i (mem_col.mpr h)
    rw [read_outV]
    exact View.read_write_univ (v := oM.access (colR r)) (Val := Elt F) f _
  · rw [← hf i (by omega)]
    exact View.write_of_not_mem (v := oM.access (colR r)) f _ _ (fun hm => h (mem_col.mp hm))

theorem OutTo_zero (c : Dev nD) (f : Vec F S256x2048 .f32) : (oM.view.loc (c : Thread nD τ) ↦[Finset.univ]{fullShare} f : sProp 𝕄) ⊢ OutTo D c 0 := by
  unfold OutTo
  iintro H
  iexists f
  isplitr
  · ipureintro; intro i h; exact absurd h (Nat.not_lt_zero _)
  iexact H

theorem OutTo_end (c : Dev nD) : OutTo D c 8 ⊢ (oM.view.loc (c : Thread nD τ) ↦[Finset.univ]{fullShare} outV D c : sProp 𝕄) := by
  unfold OutTo
  iintro ⟨%f, %hf, H⟩
  iapply (Entails.of_eq (pointsTo_congr fun i _ => hf i (Nat.div_lt_of_lt_mul (i 1).isLt))); iexact H

end Cert.KernelIdeal.Ring

end
-- ==== Proof.Finish.lean ====
module

public import Idealize.ShloMosaic.Lib.SparseCore.Stream
public import Idealize.ShloMosaic.Lib.Ring
public import proofs.«01_k».proof.Proof.Gather

@[expose] public section

set_option maxRecDepth 65536

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F] (D : Inputs F)

local notation "𝕄" => MT nD τ sig ℕ (Elt F) ℕ UU ℕ

/-! ## The cells of a device -/

/-- The semaphores by name: the credits, the barrier, the copies' own. -/
abbrev CIx : Type := Fin 8 ⊕ Fin 1 ⊕ (Fin 8 × Fin 4) ⊕ (Fin 8 × Fin 4) ⊕ Fin 16 ⊕ Fin 16
def semC : CIx → SemLoc sig
  | .inl r => .reg (credSem r)
  | .inr (.inl _) => .reg barSem
  | .inr (.inr (.inl (r, j))) => .dma (sendSem r j)
  | .inr (.inr (.inr (.inl (r, j)))) => .dma (recvSem r j)
  | .inr (.inr (.inr (.inr (.inl t)))) => .dma (gsSem t)
  | .inr (.inr (.inr (.inr (.inr s)))) => .dma (grSem s)
def numC : CIx → ℕ
  | .inl r => r.val
  | .inr (.inl _) => 8
  | .inr (.inr (.inl (r, j))) => 9 + (4 * r.val + j.val)
  | .inr (.inr (.inr (.inl (r, j)))) => 41 + (4 * r.val + j.val)
  | .inr (.inr (.inr (.inr (.inl t)))) => 73 + t.val
  | .inr (.inr (.inr (.inr (.inr s)))) => 89 + s.val
theorem numC_lt (x : CIx) : numC x < 105 := by
  rcases x with r | b | ⟨r, j⟩ | ⟨r, j⟩ | t | s <;> simp only [numC] <;> omega
def ixOf (x : CIx) : Fin 105 := ⟨numC x, numC_lt x⟩
theorem ixOf_inj : Function.Injective ixOf := by
  intro x y h
  replace h : numC x = numC y := congrArg Fin.val h
  rcases x with r | b | ⟨r, j⟩ | ⟨r, j⟩ | t | s <;> rcases y with r' | b' | ⟨r', j'⟩ | ⟨r', j'⟩ | t' | s' <;> simp only [numC] at h <;>
    first
    | (exfalso; omega)
    | (congr 1; apply Fin.ext; omega)
    | (have h1 : r = r' := Fin.ext (by omega)
       have h2 : j = j' := Fin.ext (by omega)
       rw [h1, h2])
    | (have h1 : t = t' := Fin.ext (by omega)
       rw [h1])
    | (have h1 : s = s' := Fin.ext (by omega)
       rw [h1])
    | (rw [Subsingleton.elim b b'])
theorem ixOf_bij : Function.Bijective ixOf := (Fintype.bijective_iff_injective_and_card ixOf).mpr ⟨ixOf_inj, rfl⟩
theorem semOf_ixOf (x : CIx) : semOf (ixOf x) = semC x := by revert x; decide +kernel

/-- A family over all the cells, cell by cell. -/
theorem fam_cells (Φ : SemLoc sig → sProp 𝕄) : bigSep Finset.univ (fun i : Fin 105 => Φ (semOf i))
    = iprop((bigSep Finset.univ fun r : Fin 8 => Φ (.reg (credSem r))) ∗ Φ (.reg barSem)
      ∗ (bigSep Finset.univ fun r : Fin 8 => bigSep Finset.univ fun j : Fin 4 => Φ (.dma (sendSem r j)))
      ∗ (bigSep Finset.univ fun r : Fin 8 => bigSep Finset.univ fun j : Fin 4 => Φ (.dma (recvSem r j)))
      ∗ (bigSep Finset.univ fun t : Dev nD => Φ (.dma (gsSem t))) ∗ bigSep Finset.univ fun s : Dev nD => Φ (.dma (grSem s))) := by
  rw [bigSep_univ_equiv (Equiv.ofBijective ixOf ixOf_bij)]
  have e : (fun x : CIx => Φ (semOf (Equiv.ofBijective ixOf ixOf_bij x))) = fun x => Φ (semC x) := funext fun x => congrArg Φ (semOf_ixOf x)
  rw [e, bigSep_univ_sum, bigSep_univ_sum, bigSep_univ_sum, bigSep_univ_sum, bigSep_univ_sum, bigSep_univ_prod, bigSep_univ_prod,
    bigSep_univ_of_subsingleton (0 : Fin 1)]
  rfl

/-! ## Finished cells -/

/-- Nothing more will happen on the cell `g`. -/
def Over (g : GSem nD τ sig) : sProp 𝕄 := iprop(∃ n, ⌜∀ m, n ≤ m → (ringRd D).duties g m = ∅⌝ ∗ atPos ER g n ∅ 0)

theorem over_at (c : Dev nD) {sm : SemLoc sig} {K : Kind} (hK : kindOf sm = K) (n : ℕ) (h : ∀ m, n ≤ m → dutiesK c m K = ∅) :
    atPos ER ((c : Thread nD τ), sm) n ∅ 0 ⊢ Over D ((c : Thread nD τ), sm) := by
  unfold Over
  iintro H
  iexists n
  isplitr
  · ipureintro; intro m hm; rw [duties_of D c m hK]; exact h m hm
  iexact H

theorem over_close (c : Dev nD) : iprop(Ctx D ∗ bigSep Finset.univ fun i : Fin 105 => Over D (kcell (c, i)))
    ⊢ (|={Set.univ}=> bigSep Finset.univ fun i : Fin 105 => semVal (kcell (c, i)) 0 : sProp 𝕄) := by
  refine (Transfers.bigSep_mono_pers Finset.univ (Ctx D) _ (fun i => iprop(|={Set.univ}=> semVal (kcell (c, i)) 0)) fun i _ => ?_).trans (bigSep_fupd _ _)
  unfold Over
  iintro ⟨#HC, %n, %hn, H⟩
  ihave Hc := (ctx_cell D c (sm := semOf i) ⟨i, rfl⟩) $$ HC
  unfold cinv
  icases Hc with ⟨⟨%κ, #Hi⟩, -⟩
  iapply (Rounds.cell_close ER (ringRd D) (Set.mem_univ κ) (fun h => h) (R := n) hn)
  isplitr; · iexact Hi
  iexact H

theorem over_bar (c : Dev nD) : atPos ER (barCell c) 1 ∅ 0 ⊢ Over D (barCell c) :=
  over_at D c kind_bar 1 fun m hm => if_neg (by omega)
theorem over_cred (c : Dev nD) (r : Fin 8) : atPos ER (credCell c r) 1 ∅ 0 ⊢ Over D (credCell c r) :=
  over_at D c (kind_cred r) 1 fun m hm => if_neg (by omega)
theorem over_send (c : Dev nD) (r : Fin 8) (j : Fin 4) : atPos ER (sendCell c r j) (cnt 15 j.val) ∅ 0 ⊢ Over D (sendCell c r j) :=
  over_at D c (kind_send r j) _ fun m hm => if_neg (by unfold cnt at hm; omega)
theorem over_recv (c : Dev nD) (r : Fin 8) (j : Fin 4) : atPos ER (recvCell c r j) (cnt 15 ((j.val + 3) % 4)) ∅ 0 ⊢ Over D (recvCell c r j) :=
  over_at D c (kind_recv r j) _ fun m hm => if_neg (by unfold cnt at hm; omega)
theorem over_gs (c t : Dev nD) : atPos ER (gsCell c t) 1 ∅ 0 ⊢ Over D (gsCell c t) :=
  over_at D c (kind_gs t) 1 fun m hm => if_neg (by omega)
theorem over_gr (c s : Dev nD) : atPos ER (grCell c s) 1 ∅ 0 ⊢ Over D (grCell c s) :=
  over_at D c (kind_gr s) 1 fun m hm => if_neg (by omega)
theorem over_gs_own (c : Dev nD) : atPos ER (gsCell c c) 0 ∅ 0 ⊢ Over D (gsCell c c) :=
  over_at D c (kind_gs c) 0 fun m hm => if_neg fun h => h.2 rfl
theorem over_gr_own (c : Dev nD) : atPos ER (grCell c c) 0 ∅ 0 ⊢ Over D (grCell c c) :=
  over_at D c (kind_gr c) 0 fun m hm => if_neg fun h => h.2 rfl

/-! ## The gather as a whole -/

/-- What the gather uses. -/
def GIn (c : Dev nD) : sProp 𝕄 :=
  iprop(writeTok ES (rowKey c c) 1 ∗ bigSep Finset.univ (GTok c)
    ∗ (bigSep Finset.univ fun k : Fin 15 => cred (tallyAt (grCell c (gdev c k)) 0 NG))
    ∗ (bigSep Finset.univ fun t : Dev nD => atPos ER (gsCell c t) 0 ∅ 0) ∗ bigSep Finset.univ fun s : Dev nD => atPos ER (grCell c s) 0 ∅ 0)
/-- What it leaves. -/
def GOut (c : Dev nD) : sProp 𝕄 :=
  iprop((bigSep Finset.univ fun t : Dev nD => Over D (gsCell c t)) ∗ (bigSep Finset.univ fun s : Dev nD => Over D (grCell c s))
    ∗ rowLoc c ↦[Finset.univ]{fullShare} gAll (top D))

def AllRows : sProp 𝕄 := bigSep Finset.univ fun d : Dev nD => RowFact d
instance AllRows_persistent : BI.Persistent (AllRows (F := F)) := by unfold AllRows; infer_instance

theorem pieces_of {ℓ : Loc nD τ sig} (I : Finset (Idx ℓ)) (f : Buf (Elt F) ℓ) :
    (ℓ ↦[I]{fullShare} f : sProp 𝕄) = bigSep Finset.univ fun k : Fin 15 => ℓ ↦[I]{piece fullShare 14 k} f :=
  pointsTo_pieces I f 14 fullShare

theorem row_pieces (c : Dev nD) : rowOwn D fullShare c c = bigSep Finset.univ fun k : Fin 15 => rowOwn D (gShare c (gdev c k)) c c := by
  unfold rowOwn
  have h : (rowLoc c ↦[rowI c]{fullShare} gAll (top D) : sProp 𝕄) = bigSep Finset.univ fun k : Fin 15 => rowLoc c ↦[rowI c]{piece fullShare 14 k} gAll (top D) :=
    pieces_of (ℓ := rowLoc c) (rowI c) (gAll (top D))
  rw [h]
  exact bigSep_congr fun k _ => by unfold gShare; rw [pieceIx_gdev]

theorem rows_whole (c : Dev nD) : (bigSep Finset.univ fun s : Dev nD => rowOwn D fullShare c s) = (rowLoc c ↦[Finset.univ]{fullShare} gAll (top D) : sProp 𝕄) := by
  exact (Idealize.ShloMosaic.Ring.pointsTo_blocks (ℓ := rowLoc c) rowI rows_disjoint rows_cover (gAll (top D))).symm

theorem rows_heard (c : Dev nD) (r : Fin 8) : Heard r c 15 ⊢ (AllRows : sProp 𝕄) := by
  unfold AllRows
  refine bigSep_intro_persistent fun d _ => ?_
  obtain ⟨k, hk, hd⟩ := up_reaches r c d
  unfold Heard
  have h := elim_at (Finset.mem_range.mpr hk) (Φ := fun k => (RowFact ((up r)^[k] c) : sProp 𝕄))
  rw [hd] at h
  exact h

theorem sends_tri (c : Dev nD) :
    Tri c iprop((Ctx D ∗ AllRows ∗ Owes c (gats 0)) ∗ bigSep Finset.univ fun k : Fin 15 => iprop(rowOwn D (gShare c (gdev c k)) c c ∗ GTok c k))
      (others (gSend c) 15 0 (by decide))
      iprop((Ctx D ∗ AllRows ∗ Owes c (gats 15)) ∗ bigSep Finset.univ fun k : Fin 15 => cred (tallyAt (gsCell c (gdev c k)) 0 NG)) :=
  others_fam (base := fun n => iprop(Ctx D ∗ AllRows ∗ Owes c (gats n))) fun k => by
    have h := gSend_tri D c k (S := gats k.val) (mem_gats.mpr ⟨k, Nat.le_refl _, rfl⟩)
    rw [gats_erase] at h
    refine h.part (R := iprop(Ctx D ∗ AllRows)) ?_ ?_
    · iintro ⟨⟨#HC, #HA, HO⟩, HR, HT⟩
      isplitl [HO HR HT]
      · isplitr; · iexact HC
        isplitl [HO]; · iexact HO
        isplitr
        · unfold AllRows
          ihave Hr := (elim_at (Finset.mem_univ (gdev c k)) (Φ := fun d : Dev nD => (RowFact d : sProp 𝕄))) $$ HA
          unfold RowFact
          iapply (elim_at (Finset.mem_univ c) (Φ := fun s : Dev nD => (released ES (rowKey (gdev c k) s) 1 : sProp 𝕄))); iexact Hr
        isplitl [HR]; · iexact HR
        iexact HT
      isplitr; · iexact HC
      iexact HA
    · iintro ⟨⟨HO, HC'⟩, #HC, #HA⟩
      isplitr [HC']
      · isplitr; · iexact HC
        isplitr; · iexact HA
        iexact HO
      iexact HC'

theorem recvs_tri (c : Dev nD) :
    Tri c iprop((Ctx D ∗ Owes c ∅) ∗ bigSep Finset.univ fun k : Fin 15 => iprop(cred (tallyAt (grCell c (gdev c k)) 0 NG) ∗ atPos ER (grCell c (gdev c k)) 0 ∅ 0))
      (others (gRecvWait c) 15 0 (by decide))
      iprop((Ctx D ∗ Owes c ∅) ∗ bigSep Finset.univ fun k : Fin 15 => iprop(rowOwn D fullShare c (gdev c k) ∗ atPos ER (grCell c (gdev c k)) 1 ∅ 0)) :=
  others_fam (base := fun _ => iprop(Ctx D ∗ Owes c ∅)) fun k => gRecvWait_tri D c k

theorem waits_tri (c : Dev nD) :
    Tri c iprop((Ctx D ∗ Owes c ∅) ∗ bigSep Finset.univ fun k : Fin 15 => iprop(cred (tallyAt (gsCell c (gdev c k)) 0 NG) ∗ atPos ER (gsCell c (gdev c k)) 0 ∅ 0))
      (others (gSendWait c) 15 0 (by decide))
      iprop((Ctx D ∗ Owes c ∅) ∗ bigSep Finset.univ fun k : Fin 15 => iprop(rowOwn D (gShare c (gdev c k)) c c ∗ atPos ER (gsCell c (gdev c k)) 1 ∅ 0)) :=
  others_fam (base := fun _ => iprop(Ctx D ∗ Owes c ∅)) fun k => gSendWait_tri D c k

theorem finish_tri (c : Dev nD) (f : Vec F S256x2048 .f32) :
    Tri c iprop(Ctx D ∗ AllRows ∗ Owes c (later 66) ∗ GIn c ∗ oM.view.loc (c : Thread nD τ) ↦[Finset.univ]{fullShare} f)
      (finish c (tiles D c))
      iprop(Owes c ∅ ∗ GOut D c ∗ oM.view.loc (c : Thread nD τ) ↦[Finset.univ]{fullShare} outV D c) := by
  unfold Tri finish GIn GOut
  rw [gats_zero, fam_dev c (fun t => (atPos ER (gsCell c t) 0 ∅ 0 : sProp 𝕄)), fam_dev c (fun t => (atPos ER (grCell c t) 0 ∅ 0 : sProp 𝕄)),
    fam_dev c (fun t => Over D (gsCell c t)), fam_dev c (fun t => Over D (grCell c t))]
  iintro ⟨#HC, #HA, HO, ⟨Hw, Ht, Hcr, ⟨Hs0, Hs⟩, ⟨Hr0, Hr⟩⟩, Hout⟩
  have hrow : (AllRows : sProp 𝕄) ⊢ released ES (rowKey c c) 1 := by
    unfold AllRows RowFact
    exact (elim_at (Finset.mem_univ c) (Φ := fun d : Dev nD => (bigSep Finset.univ fun s : Dev nD => released ES (rowKey d s) 1 : sProp 𝕄))).trans
      (elim_at (Finset.mem_univ c) (Φ := fun s : Dev nD => (released ES (rowKey c s) 1 : sProp 𝕄)))
  imod (take (rowKey c c)) $$ [Hw] with Hd
  · isplitr; · iapply (ctx_key D); iexact HC
    isplitr; · iapply hrow; iexact HA
    iexact Hw
  ihave Hd := (Entails.of_eq (keySlot_row c c)) $$ Hd
  iapply ((gStore_tri D c).use _ _) $$ Hd
  iintro Hd
  ihave Hd := (Entails.of_eq (row_pieces D c)) $$ Hd
  iapply ((sends_tri D c).use _ _) $$ [HO Hd Ht]
  · isplitl [HO]
    · isplitr; · iexact HC
      isplitr; · iexact HA
      iexact HO
    iapply (Transfers.bigSep_sep_in Finset.univ _ _)
    isplitl [Hd]; · iexact Hd
    iexact Ht
  iintro ⟨⟨-, -, HO⟩, Hcs⟩
  rw [gats_end]
  iapply ((recvs_tri D c).use _ _) $$ [HO Hcr Hr]
  · isplitl [HO]
    · isplitr; · iexact HC
      iexact HO
    iapply (Transfers.bigSep_sep_in Finset.univ _ _)
    isplitl [Hcr]; · iexact Hcr
    iexact Hr
  iintro ⟨⟨-, HO⟩, H⟩
  ihave H := (Transfers.bigSep_sep_out Finset.univ _ _) $$ H
  icases H with ⟨Hrows, Hr⟩
  iapply ((waits_tri D c).use _ _) $$ [HO Hcs Hs]
  · isplitl [HO]
    · isplitr; · iexact HC
      iexact HO
    iapply (Transfers.bigSep_sep_in Finset.univ _ _)
    isplitl [Hcs]; · iexact Hcs
    iexact Hs
  iintro ⟨⟨-, HO⟩, H⟩
  ihave H := (Transfers.bigSep_sep_out Finset.univ _ _) $$ H
  icases H with ⟨Hd, Hs⟩
  ihave Hd := (Entails.of_eq (row_pieces D c).symm) $$ Hd
  ihave Hg := (Entails.of_eq ((fam_dev c (fun s => rowOwn D fullShare c s)).symm.trans (rows_whole D c))) $$ [Hd Hrows]
  · isplitl [Hd]; · iexact Hd
    iexact Hrows
  simp only [Prog.lift, Prog.bind_op, Prog.bind_ret]
  iapply (wp_load 𝒱₀ (c : Thread nD τ) none Set.univ (m := gM) (S := Finset.univ) (Finset.subset_univ _)) $$ Hg; iintro Hg
  have hz : (![0, 0, 0] : Fin 3 → Nat) = fun _ => 0 := funext fun a => by fin_cases a <;> rfl
  have hread : gM.view.readAt (Elt F) (Rect.unit (s := S16x8x128) ![0, 0, 0] S16x8x128.size inb_S16x8x128_S16x8x128_0_0_0).toLoadRect (gAll (top D)) = gAll (top D) :=
    Memref.readAt_unit_zero (Elt F) cc0_scratch3 hz _ _
  rw [hread]
  have o0 : Tri c (OutTo D c 0) (outStore (tiles D c) (scaleOf (gAll (top D))) 0) (OutTo D c 1) := outStore_tri D c 0
  have o1 : Tri c (OutTo D c 1) (outStore (tiles D c) (scaleOf (gAll (top D))) 1) (OutTo D c 2) := outStore_tri D c 1
  have o2 : Tri c (OutTo D c 2) (outStore (tiles D c) (scaleOf (gAll (top D))) 2) (OutTo D c 3) := outStore_tri D c 2
  have o3 : Tri c (OutTo D c 3) (outStore (tiles D c) (scaleOf (gAll (top D))) 3) (OutTo D c 4) := outStore_tri D c 3
  have o4 : Tri c (OutTo D c 4) (outStore (tiles D c) (scaleOf (gAll (top D))) 4) (OutTo D c 5) := outStore_tri D c 4
  have o5 : Tri c (OutTo D c 5) (outStore (tiles D c) (scaleOf (gAll (top D))) 5) (OutTo D c 6) := outStore_tri D c 5
  have o6 : Tri c (OutTo D c 6) (outStore (tiles D c) (scaleOf (gAll (top D))) 6) (OutTo D c 7) := outStore_tri D c 6
  have o7 : Tri c (OutTo D c 7) (outStore (tiles D c) (scaleOf (gAll (top D))) 7) (OutTo D c 8) := outStore_tri D c 7
  ihave Hout := (OutTo_zero D c f) $$ Hout
  iapply (o0.use _ _) $$ Hout; iintro Hout
  iapply (o1.use _ _) $$ Hout; iintro Hout
  iapply (o2.use _ _) $$ Hout; iintro Hout
  iapply (o3.use _ _) $$ Hout; iintro Hout
  iapply (o4.use _ _) $$ Hout; iintro Hout
  iapply (o5.use _ _) $$ Hout; iintro Hout
  iapply (o6.use _ _) $$ Hout; iintro Hout
  iapply (o7.last _) $$ Hout; iintro Hout
  isplitl [HO]; · iexact HO
  isplitr [Hout]
  · isplitl [Hs0 Hs]
    · isplitl [Hs0]; · iapply (over_gs_own D c); iexact Hs0
      iapply (show (bigSep Finset.univ fun k : Fin 15 => atPos ER (gsCell c (gdev c k)) 1 ∅ 0 : sProp 𝕄) ⊢ bigSep Finset.univ fun k : Fin 15 => Over D (gsCell c (gdev c k)) from
        bigSep_mono fun k _ => over_gs D c (gdev c k)); iexact Hs
    isplitl [Hr0 Hr]
    · isplitl [Hr0]; · iapply (over_gr_own D c); iexact Hr0
      iapply (show (bigSep Finset.univ fun k : Fin 15 => atPos ER (grCell c (gdev c k)) 1 ∅ 0 : sProp 𝕄) ⊢ bigSep Finset.univ fun k : Fin 15 => Over D (grCell c (gdev c k)) from
        bigSep_mono fun k _ => over_gr D c (gdev c k)); iexact Hr
    iexact Hg
  iapply (OutTo_end D c); iexact Hout

end Cert.KernelIdeal.Ring

end
-- ==== Proof.Body.lean ====
module

public import Idealize.ShloMosaic.Lib.SparseCore.Stream
public import proofs.«01_k».proof.Proof.Finish

@[expose] public section

set_option maxRecDepth 65536

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F] (D : Inputs F)

local notation "𝕄" => MT nD τ sig ℕ (Elt F) ℕ UU ℕ

/-! ## The end of a ring -/

/-- What a ring leaves besides its finished tile. -/
def REnd (c : Dev nD) (r : Fin 8) : sProp 𝕄 :=
  iprop(Heard r c 15 ∗ Over D (credCell c r) ∗ (bigSep Finset.univ fun j : Fin 4 => Over D (sendCell c r j)) ∗ (bigSep Finset.univ fun j : Fin 4 => Over D (recvCell c r j))
    ∗ slotAny c r 0 ∗ slotAny c r 1 ∗ slotAny c r 2)

theorem kept_slots (c : Dev nD) (r : Fin 8) : (bigSep (Finset.Ico 12 15) fun t => slotAny c r (slotOf t) : sProp 𝕄) ⊢ iprop(slotAny c r 0 ∗ slotAny c r 1 ∗ slotAny c r 2) := by
  have e : Finset.Ico 12 15 = insert 12 (insert 13 ({14} : Finset ℕ)) := by decide
  rw [e, bigSep_insert (by decide), bigSep_insert (by decide), bigSep_singleton]
  exact Entails.rfl

theorem ring_end (c : Dev nD) (r : Fin 8) : RS D c r 15 ⊢ iprop(slotOwn c r 3 (acc D r c 15) ∗ REnd D c r) := by
  unfold RS REnd Knows Waits Creds Outs CredAt Pend
  rw [if_neg (show ¬ 15 < 15 by omega), if_pos (show 12 ≤ 15 + 1 - 3 by omega)]
  iintro ⟨⟨-, -, #HH⟩, ⟨Hs, Hr, -⟩, ⟨-, -, HK⟩, ⟨HA, -⟩, HP⟩
  isplitl [HP]; · iexact HP
  isplitr; · iexact HH
  isplitl [HA]; · iapply (over_cred D c r); iexact HA
  isplitl [Hs]
  · iapply (show (bigSep Finset.univ fun j : Fin 4 => atPos ER (sendCell c r j) (cnt 15 j.val) ∅ 0 : sProp 𝕄) ⊢ bigSep Finset.univ fun j : Fin 4 => Over D (sendCell c r j)
      from bigSep_mono fun j _ => over_send D c r j)
    iexact Hs
  isplitl [Hr]
  · iapply (show (bigSep Finset.univ fun j : Fin 4 => atPos ER (recvCell c r j) (cnt 15 ((j.val + 3) % 4)) ∅ 0 : sProp 𝕄) ⊢ bigSep Finset.univ fun j : Fin 4 => Over D (recvCell c r j)
      from bigSep_mono fun j _ => over_recv D c r j)
    iexact Hr
  iapply (kept_slots c r); iexact HK

theorem rings_end (c : Dev nD) : Quad (fun r => RS D c r 15) ⊢ iprop(Quad (fun r => slotOwn c r 3 (acc D r c 15)) ∗ bigSep Finset.univ (REnd D c)) := by
  rw [← quad_eq, ← quad_eq]
  have h : (bigSep Finset.univ fun r => RS D c r 15) ⊢ bigSep Finset.univ fun r => iprop(slotOwn c r 3 (acc D r c 15) ∗ REnd D c r) := bigSep_mono fun r _ => ring_end D c r
  exact h.trans (Transfers.bigSep_sep_out Finset.univ _ _)

theorem rings_rows (c : Dev nD) : bigSep Finset.univ (REnd D c) ⊢ (AllRows : sProp 𝕄) := by
  rw [bigSep_univ_at (REnd D c) 0]
  unfold REnd
  iintro ⟨⟨HH, -⟩, -⟩
  iapply (rows_heard c 0); iexact HH

theorem fin4 (Φ : Fin 4 → sProp 𝕄) : bigSep Finset.univ Φ = iprop(Φ 0 ∗ Φ 1 ∗ Φ 2 ∗ Φ 3) := bigSep_univ_eq_bigSepL [0, 1, 2, 3] (by decide) (by decide) Φ

theorem slots_join (c : Dev nD) : (bigSep Finset.univ fun b : Fin 8 × Fin 4 => slotAny c b.1 b.2 : sProp 𝕄) ⊢ iprop(∃ f : Vec F S8x4x256x256 .f32, slotLoc c ↦[Finset.univ]{fullShare} f) :=
  Idealize.ShloMosaic.Ring.pointsTo_blocks_join_exists (ℓ := slotLoc c) slotI slots_disjoint slots_cover (fun _ => Scalar.ofBits .f32 0x00000000#32)

/-- All the memory and all the cells at the end. -/
theorem all_back (c : Dev nD) :
    iprop(Quad (fun r => slotAny c r 3) ∗ bigSep Finset.univ (REnd D c) ∗ GOut D c ∗ Over D (barCell c))
      ⊢ iprop((∃ f : Vec F S8x4x256x256 .f32, slotLoc c ↦[Finset.univ]{fullShare} f) ∗ (rowLoc c ↦[Finset.univ]{fullShare} gAll (top D))
        ∗ bigSep Finset.univ fun i : Fin 105 => Over D (kcell (c, i))) := by
  rw [← quad_eq]
  have e : REnd D c = fun r => iprop(Heard r c 15 ∗ Over D (credCell c r) ∗ (bigSep Finset.univ fun j : Fin 4 => Over D (sendCell c r j))
    ∗ (bigSep Finset.univ fun j : Fin 4 => Over D (recvCell c r j)) ∗ slotAny c r 0 ∗ slotAny c r 1 ∗ slotAny c r 2) := rfl
  rw [e, bigSep_sep', bigSep_sep', bigSep_sep', bigSep_sep', bigSep_sep', bigSep_sep']
  have hc := fam_cells (fun sm => Over D ((c : Thread nD τ), sm))
  unfold GOut
  iintro ⟨H3, ⟨-, Hc, Hs, Hr, H0, H1, H2⟩, ⟨Hgs, Hgr, Hrow⟩, Hb⟩
  isplitl [H0 H1 H2 H3]
  · iapply (slots_join c)
    rw [bigSep_univ_prod]
    simp only [fin4]
    rw [bigSep_sep', bigSep_sep', bigSep_sep']
    isplitl [H0]; · iexact H0
    isplitl [H1]; · iexact H1
    isplitl [H2]; · iexact H2
    iexact H3
  isplitl [Hrow]; · iexact Hrow
  iapply (Entails.of_eq hc.symm)
  isplitl [Hc]; · iexact Hc
  isplitl [Hb]; · iexact Hb
  isplitl [Hs]; · iexact Hs
  isplitl [Hr]; · iexact Hr
  isplitl [Hgs]; · iexact Hgs
  iexact Hgr

/-! ## The body -/

/-- The ghost state device `c` starts its body with. -/
def BodyIn (c : Dev nD) : sProp 𝕄 :=
  iprop(Keys0 c ∗ Rows0 c ∗ dutyTok ER (pcell c (Pay.bar 0)) 0 0 ∗ dutyTok ER (pcell c (Pay.bar 1)) 0 1
    ∗ cred (tallyAt (barCell c) 0 2) ∗ atPos ER (barCell c) 0 ∅ 0 ∗ bigSep Finset.univ (Ring0 c) ∗ GIn c)
/-- The scratch memory and the counters it ends with. -/
def BodyOut (c : Dev nD) : sProp 𝕄 :=
  iprop((∃ f : Vec F S8x4x256x256 .f32, slotLoc c ↦[Finset.univ]{fullShare} f) ∗ (rowLoc c ↦[Finset.univ]{fullShare} gAll (top D))
    ∗ bigSep Finset.univ fun i : Fin 105 => semVal (kcell (c, i)) 0)

theorem later_gat : later (2 + 4 * (0 + 15 + 1)) = later 66 := rfl

theorem body_tri (c : Dev nD) (f : Vec F S256x2048 .f32) :
    Tri c iprop(Ctx D ∗ Owes c Finset.univ ∗ BodyIn c ∗ Tools D c ∗ oM.view.loc (c : Thread nD τ) ↦[Finset.univ]{fullShare} f)
      (wholeBody c)
      iprop(Owes c ∅ ∗ BodyOut D c ∗ Tools D c ∗ oM.view.loc (c : Thread nD τ) ↦[Finset.univ]{fullShare} outV D c) := by
  unfold Tri wholeBody BodyIn BodyOut Tools
  refine BIBase.Entails.trans ?_ (wp_fupd frame (wpE (defs₀ (F := F)) 𝒱₀ (c : Thread nD τ) none) Set.univ _ _)
  iintro ⟨#HC, HO, ⟨HK, HR, Ht0, Ht1, Hcb, Hab, HRg, HG⟩, ⟨HX, HT0, HT4⟩, Hout⟩
  imod (ready_slots D c) $$ [HK] with #HF
  · isplitr; · iexact HC
    iexact HK
  imod (ready_rows D c) $$ [HR] with #HRF
  · isplitr; · iexact HC
    iexact HR
  iapply ((meet_tri D c).use _ _) $$ [HO Ht0 Ht1 Hcb Hab]
  · isplitr; · iexact HC
    isplitl [HO]; · iexact HO
    isplitr; · iexact HF
    isplitl [Ht0]; · iexact Ht0
    isplitl [Ht1]; · iexact Ht1
    isplitl [Hcb]; · iexact Hcb
    iexact Hab
  iintro ⟨HO, Hab, HD⟩
  ihave HQ := (rings_begin D c) $$ [HD HRg]
  · isplitr; · iexact HC
    isplitr; · iexact HRF
    isplitl [HD]; · iexact HD
    iexact HRg
  iapply ((starts_tri D c).use _ _) $$ [HX HO HQ]
  · isplitr; · iexact HC
    isplitl [HX]; · iexact HX
    isplitl [HO]; · iexact HO
    iexact HQ
  iintro ⟨HX, HO, HQ⟩
  have hh : Tri c iprop(Ctx D ∗ Tools D c ∗ Owes c (later 6) ∗ Quad (fun r => RS D c r 0)) (hopsFrom c 15 0 (by decide))
      iprop(Tools D c ∗ Owes c (later 66) ∗ Quad (fun r => RS D c r 15)) := hopsFrom_tri D c 15 0 (by decide)
  iapply (hh.use _ _) $$ [HX HT0 HT4 HO HQ]
  · isplitr; · iexact HC
    isplitl [HX HT0 HT4]
    · unfold Tools
      isplitl [HX]; · iexact HX
      isplitl [HT0]; · iexact HT0
      iexact HT4
    isplitl [HO]; · iexact HO
    iexact HQ
  iintro ⟨HT, HO, HQ⟩
  ihave HQ := (rings_end D c) $$ HQ
  icases HQ with ⟨HQ, HE⟩
  ihave HA := (show bigSep Finset.univ (REnd D c) ⊢ iprop(AllRows ∗ bigSep Finset.univ (REnd D c)) from
    (persistent_entails_right (rings_rows D c))) $$ HE
  icases HA with ⟨#HA, HE⟩
  iapply (readOut_use D c (finish c) _) $$ HQ
  iintro H3
  iapply ((finish_tri D c f).last _) $$ [HO HG Hout]
  · isplitr; · iexact HC
    isplitr; · iexact HA
    isplitl [HO]; · iexact HO
    isplitl [HG]; · iexact HG
    iexact Hout
  iintro ⟨HO, HG, Hout⟩
  ihave HB := (all_back D c) $$ [H3 HE HG Hab]
  · isplitl [H3]; · iexact H3
    isplitl [HE]; · iexact HE
    isplitl [HG]; · iexact HG
    iapply (over_bar D c); iexact Hab
  icases HB with ⟨Hsl, Hrow, Hov⟩
  imod (over_close D c) $$ [Hov] with Hov
  · isplitr; · iexact HC
    iexact Hov
  imodintro
  isplitl [HO]; · iexact HO
  isplitl [Hsl Hrow Hov]
  · isplitl [Hsl]; · iexact Hsl
    isplitl [Hrow]; · iexact Hrow
    iexact Hov
  isplitl [HT]; · unfold Tools; iexact HT
  iexact Hout

end Cert.KernelIdeal.Ring

end
-- ==== Proof.Deal.lean ====
module

public import Idealize.ShloMosaic.Lib.SparseCore.Stream
public import proofs.«01_k».proof.Proof.Body

@[expose] public section

set_option maxRecDepth 65536

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F] (D : Inputs F)

local notation "𝕄" => MT nD τ sig ℕ (Elt F) ℕ UU ℕ

/-! ## Who pays into a cell, and what -/

/-- The device whose payment `p` reaches device `c`. -/
def payer (c : Dev nD) : Pay → Dev nD
  | .inl b => if b = 0 then leftOf c else rightOf c
  | .inr (.inl (r, _)) => up r c
  | .inr (.inr (.inl (r, _))) => down r c
  | .inr (.inr (.inr k)) => gdev c (opp k)

theorem gdev_opp' (c : Dev nD) (k : Fin 15) : gdev (gdev c (opp k)) k = c := by
  have h := gdev_opp c (opp k)
  rwa [opp_opp] at h

theorem pcell_payer (c : Dev nD) (p : Pay) : (pcell (payer c p) p).1 = (c : Thread nD τ) := by
  rcases p with b | ⟨r, u⟩ | ⟨r, e⟩ | k
  · show ((((if b = 0 then rightOf (if b = 0 then leftOf c else rightOf c) else leftOf (if b = 0 then leftOf c else rightOf c)) : Dev nD) : Thread nD τ)) = c
    by_cases h : b = 0
    · rw [if_pos h, if_pos h, right_left]
    · rw [if_neg h, if_neg h, left_right]
  · show ((down r (up r c) : Dev nD) : Thread nD τ) = c
    rw [down_up]
  · show ((up r (down r c) : Dev nD) : Thread nD τ) = c
    rw [up_down]
  · show ((gdev (gdev c (opp k)) k : Dev nD) : Thread nD τ) = c
    rw [gdev_opp']

theorem payer_pcell (d c : Dev nD) (p : Pay) (h : (pcell d p).1 = (c : Thread nD τ)) : d = payer c p := by
  rcases p with b | ⟨r, u⟩ | ⟨r, e⟩ | k
  · replace h : (if b = 0 then rightOf d else leftOf d) = c := congrArg Prod.fst h
    show d = if b = 0 then leftOf c else rightOf c
    by_cases hb : b = 0
    · rw [if_pos hb] at h ⊢; rw [← h, left_right]
    · rw [if_neg hb] at h ⊢; rw [← h, right_left]
  · replace h : down r d = c := congrArg Prod.fst h
    show d = up r c
    rw [← h, up_down]
  · replace h : up r d = c := congrArg Prod.fst h
    show d = down r c
    rw [← h, down_up]
  · replace h : gdev d k = c := congrArg Prod.fst h
    show d = gdev c (opp k)
    rw [← h, gdev_opp]

/-! ## Credits at the start -/

def O₀ (c : Dev nD) : CellTallies nD τ sig ℕ := owed c Finset.univ

theorem cred_sum {I : Type} [DecidableEq I] (s : Finset I) (T : I → CellTallies nD τ sig ℕ) :
    (cred (∑ i ∈ s, T i) : sProp 𝕄) ⊢ bigSep s fun i => cred (T i) := by
  induction s using Finset.induction_on with
  | empty => rw [bigSep_empty]; iintro -; iempintro
  | insert i s hi ih =>
    rw [Finset.sum_insert hi, bigSep_insert hi]
    exact (cred_add _ _).1.trans (BI.sep_mono (BI.Entails.refl _) ih)

theorem tallyOn_sum (g : GSem nD τ sig) {I : Type} (s : Finset I) (f : I → ℕ →₀ ℕ) :
    tallyOn g (∑ i ∈ s, f i) = ∑ i ∈ s, (tallyOn g (f i) : CellTallies nD τ sig ℕ) :=
  map_sum (AddMonoidHom.single (fun _ : GSem nD τ sig => ℕ →₀ ℕ) g) f s

theorem credit_at (c : Dev nD) (sm : SemLoc sig) :
    launchCredit (Pipeline.owing O₀) 0 ((c : Thread nD τ), sm)
      = ∑ p : Pay, tallyAt (pcell (payer c p) p) (pix p) (pamt p) ((c : Thread nD τ), sm) := by
  ext ι
  rw [Pipeline.launchCredit_owing, Finsupp.finset_sum_apply]
  unfold O₀ owed
  simp only [Finset.sum_apply, Finsupp.finset_sum_apply]
  rw [Finset.sum_comm]
  refine Finset.sum_congr rfl fun p _ => ?_
  refine Finset.sum_eq_single (payer c p) (fun d _ hd => ?_) (fun h => absurd (Finset.mem_univ _) h)
  rw [tallyAt_apply]
  exact if_neg fun h => hd (payer_pcell d c p (congrArg Prod.fst h.1).symm)

/-- What is paid into the cells of `c`, payment by payment. -/
def Dues (c : Dev nD) : sProp 𝕄 := bigSep Finset.univ fun p : Pay => cred (tallyAt (pcell (payer c p) p) (pix p) (pamt p))

theorem credit_dues (c : Dev nD) : (Pipeline.launchCred O₀ c : sProp 𝕄) ⊢ Dues c := by
  unfold Pipeline.launchCred Dues
  refine BIBase.Entails.trans (Q := bigSep Finset.univ fun sm : SemLoc sig => bigSep Finset.univ fun p : Pay =>
    (cred (tallyOn ((c : Thread nD τ), sm) (tallyAt (pcell (payer c p) p) (pix p) (pamt p) ((c : Thread nD τ), sm))) : sProp 𝕄))
    (bigSep_mono fun sm _ => ?_) ?_
  · rw [credit_at, tallyOn_sum]
    exact cred_sum _ _
  · rw [bigSep_univ_comm]
    refine bigSep_mono fun p _ => ?_
    refine (elim_at (Finset.mem_univ (pcell (payer c p) p).2)).trans (Entails.of_eq ?_)
    have e : ((c : Thread nD τ), (pcell (payer c p) p).2) = pcell (payer c p) p := Prod.ext (pcell_payer c p).symm rfl
    rw [e]
    exact congrArg cred (by rw [show tallyAt (pcell (payer c p) p) (pix p) (pamt p) (pcell (payer c p) p) = Finsupp.single (pix p) (pamt p) from tallyOn_self _ _]; rfl)

/-- A family over `Fin n` by its numbers. -/
theorem fin_range (n : ℕ) (Φ : ℕ → sProp 𝕄) : bigSep Finset.univ (fun i : Fin n => Φ i.val) = bigSep (Finset.range n) Φ := by
  have e : ((Finset.univ : Finset (Fin n)).map Fin.valEmbedding : Finset ℕ) = Finset.range n := by
    ext x; simp only [Finset.mem_map, Finset.mem_univ, true_and, Finset.mem_range]
    exact ⟨fun ⟨a, h⟩ => h ▸ a.isLt, fun h => ⟨⟨x, h⟩, rfl⟩⟩
  rw [← e, bigSep_map]; rfl
theorem fin_Ico (n : ℕ) (Φ : ℕ → sProp 𝕄) : bigSep Finset.univ (fun i : Fin n => Φ i.val) = bigSep (Finset.Ico 0 n) Φ := by
  rw [fin_range, Finset.range_eq_Ico]

theorem fin2 (Φ : Fin 2 → sProp 𝕄) : bigSep Finset.univ Φ = iprop(Φ 0 ∗ Φ 1) :=
  bigSep_univ_eq_bigSepL [0, 1] (by decide) (by decide) Φ

/-- A family over the payments, kind by kind. -/
theorem fam_pay (Φ : Pay → sProp 𝕄) : bigSep Finset.univ Φ = iprop((Φ (Pay.bar 0) ∗ Φ (Pay.bar 1))
    ∗ (bigSep Finset.univ fun r : Fin 8 => bigSep Finset.univ fun u : Fin 15 => Φ (Pay.send r u))
    ∗ (bigSep Finset.univ fun r : Fin 8 => bigSep Finset.univ fun e : Fin 12 => Φ (Pay.cred r e))
    ∗ bigSep Finset.univ fun k : Fin 15 => Φ (Pay.gat k)) := by
  rw [bigSep_univ_sum, bigSep_univ_sum, bigSep_univ_sum, bigSep_univ_prod, bigSep_univ_prod, fin2]
  rfl

def oppE : Fin 15 ≃ Fin 15 := ⟨opp, opp, opp_opp, opp_opp⟩

def RingDues (c : Dev nD) (r : Fin 8) : sProp 𝕄 :=
  iprop(bigSep (Finset.Ico 0 15) (fun u => cred (tallyAt (recvCell c r (dstSlot u)) u NS))
    ∗ bigSep (Finset.Ico 0 12) (fun e => cred (tallyAt (credCell c r) e 1)))

theorem dues_split (c : Dev nD) : Dues c ⊢ (iprop(cred (tallyAt (barCell c) 0 2) ∗ bigSep Finset.univ (RingDues c)
    ∗ bigSep Finset.univ fun k : Fin 15 => cred (tallyAt (grCell c (gdev c k)) 0 NG)) : sProp 𝕄) := by
  unfold Dues
  rw [fam_pay]
  have hb : ∀ b : Fin 2, (cred (tallyAt (pcell (payer c (Pay.bar b)) (Pay.bar b)) 0 1) : sProp 𝕄) ⊢ cred (tallyAt (barCell c) 0 1) := by
    intro b
    have e : pcell (payer c (Pay.bar b)) (Pay.bar b) = barCell c := Prod.ext (pcell_payer c (Pay.bar b)) rfl
    rw [e]
  have hs : ∀ (r : Fin 8) (u : Fin 15), (cred (tallyAt (pcell (payer c (Pay.send r u)) (Pay.send r u)) u.val NS) : sProp 𝕄)
      ⊢ cred (tallyAt (recvCell c r (dstSlot u)) u.val NS) := by
    intro r u
    have e : pcell (payer c (Pay.send r u)) (Pay.send r u) = recvCell c r (dstSlot u) := Prod.ext (pcell_payer c (Pay.send r u)) rfl
    rw [e]
  have hc : ∀ (r : Fin 8) (x : Fin 12), (cred (tallyAt (pcell (payer c (Pay.cred r x)) (Pay.cred r x)) x.val 1) : sProp 𝕄)
      ⊢ cred (tallyAt (credCell c r) x.val 1) := by
    intro r x
    have e : pcell (payer c (Pay.cred r x)) (Pay.cred r x) = credCell c r := Prod.ext (pcell_payer c (Pay.cred r x)) rfl
    rw [e]
  have hg : ∀ k : Fin 15, (cred (tallyAt (pcell (payer c (Pay.gat k)) (Pay.gat k)) 0 NG) : sProp 𝕄)
      ⊢ cred (tallyAt (grCell c (gdev c (opp k))) 0 NG) := by
    intro k
    have e : pcell (payer c (Pay.gat k)) (Pay.gat k) = grCell c (gdev c (opp k)) := Prod.ext (pcell_payer c (Pay.gat k)) rfl
    rw [e]
  iintro ⟨⟨H0, H1⟩, Hs, Hc, Hg⟩
  isplitl [H0 H1]
  · have e : (tallyAt (barCell c) 0 2 : CellTallies nD τ sig ℕ) = tallyAt (barCell c) 0 1 + tallyAt (barCell c) 0 1 := by rw [tallyAt_add]
    rw [e]
    iapply (cred_add _ _).2
    isplitl [H0]
    · iapply (hb 0); iexact H0
    · iapply (hb 1); iexact H1
  isplitl [Hs Hc]
  · unfold RingDues
    iapply (Transfers.bigSep_sep_in Finset.univ _ _)
    isplitl [Hs]
    · iapply (show (bigSep Finset.univ fun r : Fin 8 => bigSep Finset.univ fun u : Fin 15 =>
          (cred (tallyAt (pcell (payer c (Pay.send r u)) (Pay.send r u)) u.val NS) : sProp 𝕄))
          ⊢ bigSep Finset.univ fun r : Fin 8 => bigSep (Finset.Ico 0 15) (fun u => cred (tallyAt (recvCell c r (dstSlot u)) u NS)) from
        bigSep_mono fun r _ => (bigSep_mono fun u _ => hs r u).trans (Entails.of_eq (fin_Ico 15 fun u => cred (tallyAt (recvCell c r (dstSlot u)) u NS))))
      iexact Hs
    · iapply (show (bigSep Finset.univ fun r : Fin 8 => bigSep Finset.univ fun x : Fin 12 =>
          (cred (tallyAt (pcell (payer c (Pay.cred r x)) (Pay.cred r x)) x.val 1) : sProp 𝕄))
          ⊢ bigSep Finset.univ fun r : Fin 8 => bigSep (Finset.Ico 0 12) (fun e => cred (tallyAt (credCell c r) e 1)) from
        bigSep_mono fun r _ => (bigSep_mono fun x _ => hc r x).trans (Entails.of_eq (fin_Ico 12 fun e => cred (tallyAt (credCell c r) e 1))))
      iexact Hc
  · iapply (Entails.of_eq (bigSep_univ_equiv oppE (fun k : Fin 15 => (cred (tallyAt (grCell c (gdev c k)) 0 NG) : sProp 𝕄))).symm)
    iapply (show (bigSep Finset.univ fun k : Fin 15 => (cred (tallyAt (pcell (payer c (Pay.gat k)) (Pay.gat k)) 0 NG) : sProp 𝕄))
          ⊢ bigSep Finset.univ fun k : Fin 15 => cred (tallyAt (grCell c (gdev c (oppE k))) 0 NG) from bigSep_mono fun k _ => hg k)
    iexact Hg

/-! ## Duty tokens -/

/-- The duties a device fulfils itself: its payments, and the ends of its own copies. -/
abbrev Task : Type := Pay ⊕ (Fin 8 × Fin 15) ⊕ Fin 15
def taskOf (d : Dev nD) : Task → GSem nD τ sig × ℕ × ℕ
  | .inl p => (pcell d p, pround p, pduty p)
  | .inr (.inl (r, u)) => (sendCell d r (slotOf u), u.val / 4, 0)
  | .inr (.inr k) => (gsCell d (gdev d k), 0, 0)

/-- Who fulfils a duty, read off its cell. -/
def whoseK (c : Dev nD) (n d : ℕ) : Kind → Dev nD × Task
  | .bar => if d = 0 then (leftOf c, .inl (Pay.bar 0)) else (rightOf c, .inl (Pay.bar 1))
  | .cred r => (down r c, .inl (Pay.cred r ⟨d % 12, Nat.mod_lt _ (by decide)⟩))
  | .send r j => (c, .inr (.inl (r, ⟨(4 * n + j.val) % 15, Nat.mod_lt _ (by decide)⟩)))
  | .recv r j => (up r c, .inl (Pay.send r ⟨(4 * n + (j.val + 3) % 4) % 15, Nat.mod_lt _ (by decide)⟩))
  | .gs t => (c, .inr (.inr (pieceIx c t)))
  | .gr s => (s, .inl (Pay.gat (pieceIx s c)))
  | .other => (c, .inl (Pay.bar 0))
def whose (x : GSem nD τ sig × ℕ × ℕ) : Dev nD × Task := whoseK x.1.1.1 x.2.1 x.2.2 (kindOf x.1.2)

theorem whose_of (c : Dev nD) {sm : SemLoc sig} {k : Kind} (n d : ℕ) (h : kindOf sm = k) : whose (((c : Thread nD τ), sm), n, d) = whoseK c n d k := by
  subst h; rfl

theorem whose_task (x : Dev nD × Task) : whose (taskOf x.1 x.2) = x := by
  obtain ⟨d, (b | ⟨r, u⟩ | ⟨r, e⟩ | k) | ⟨r, u⟩ | k⟩ := x
  · refine (whose_of _ 0 b.val kind_bar).trans ?_
    fin_cases b
    · exact Prod.ext (left_right d) rfl
    · exact Prod.ext (right_left d) rfl
  · refine (whose_of _ (u.val / 4) 0 (kind_recv r (dstSlot u))).trans ?_
    refine Prod.ext (up_down r d) ?_
    show (Sum.inl (Pay.send r _) : Task) = Sum.inl (Pay.send r u)
    congr 3
    show (4 * (u.val / 4) + ((u.val + 1) % 4 + 3) % 4) % 15 = u.val
    have := u.isLt; omega
  · refine (whose_of _ 0 e.val (kind_cred r)).trans ?_
    refine Prod.ext (down_up r d) ?_
    show (Sum.inl (Pay.cred r _) : Task) = Sum.inl (Pay.cred r e)
    congr 3
    show e.val % 12 = e.val
    have := e.isLt; omega
  · refine (whose_of _ 0 0 (kind_gr d)).trans ?_
    refine Prod.ext rfl ?_
    show (Sum.inl (Pay.gat (pieceIx d (gdev d k))) : Task) = Sum.inl (Pay.gat k)
    rw [pieceIx_gdev]
  · refine (whose_of _ (u.val / 4) 0 (kind_send r (slotOf u))).trans ?_
    refine Prod.ext rfl ?_
    show (Sum.inr (Sum.inl (r, _)) : Task) = Sum.inr (Sum.inl (r, u))
    congr 3
    apply Fin.ext
    show (4 * (u.val / 4) + u.val % 4) % 15 = u.val
    have := u.isLt; omega
  · refine (whose_of _ 0 0 (kind_gs (gdev d k))).trans ?_
    refine Prod.ext rfl ?_
    show (Sum.inr (Sum.inr (pieceIx d (gdev d k))) : Task) = Sum.inr (Sum.inr k)
    rw [pieceIx_gdev]

theorem task_inj : Function.Injective fun x : Dev nD × Task => taskOf x.1 x.2 := Function.LeftInverse.injective whose_task

theorem semOf_inj : Function.Injective semOf := by
  intro i j h
  obtain ⟨x, rfl⟩ := ixOf_bij.2 i
  obtain ⟨y, rfl⟩ := ixOf_bij.2 j
  rw [semOf_ixOf, semOf_ixOf] at h
  have hk : kindOf (semC x) = kindOf (semC y) := congrArg kindOf h
  rcases x with r | b | ⟨r, j⟩ | ⟨r, j⟩ | t | s <;> rcases y with r' | b' | ⟨r', j'⟩ | ⟨r', j'⟩ | t' | s' <;>
    simp only [semC, kind_cred, kind_bar, kind_send, kind_recv, kind_gs, kind_gr, reduceCtorEq, Kind.cred.injEq, Kind.send.injEq,
      Kind.recv.injEq, Kind.gs.injEq, Kind.gr.injEq] at hk <;>
    first
    | (obtain ⟨rfl, rfl⟩ := hk; rfl)
    | (subst hk; rfl)
    | (rw [Subsingleton.elim b b'])
theorem kcell_inj : Function.Injective kcell := by
  rintro ⟨c, i⟩ ⟨c', i'⟩ h
  have h1 : c = c' := congrArg (fun g : GSem nD τ sig => g.1.1) h
  have h2 : i = i' := semOf_inj (congrArg Prod.snd h)
  rw [h1, h2]

def ringCells : Finset (GSem nD τ sig) := Finset.univ.map ⟨kcell, kcell_inj⟩
def ringToks : Finset (GSem nD τ sig × ℕ × ℕ) := Finset.univ.map ⟨_, task_inj⟩

end Cert.KernelIdeal.Ring

end
-- ==== Proof.Fund.lean ====
module

public import Idealize.ShloMosaic.Lib.SparseCore.Stream
public import proofs.«01_k».proof.Proof.Deal

@[expose] public section

set_option maxRecDepth 65536

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F] (D : Inputs F)

local notation "𝕄" => MT nD τ sig ℕ (Elt F) ℕ UU ℕ

/-! ## The semaphores of one device -/

/-- All of them but the barrier are the kernel's own. -/
abbrev osem (i : Fin 104) : SemLoc sig := semOf ((8 : Fin 105).succAbove i)

theorem osem_facts : Pipeline.OwnSemFacts cfg0.spec osem := by decide +kernel

theorem sems_eq (c : Dev nD) : (bigSep Finset.univ fun i : Fin 105 => (semVal (kcell (c, i)) 0 : sProp 𝕄))
    = iprop(unscopedSems0 c ∗ Pipeline.ownSems0 (Ix := ℕ) (Name := ℕ) (U := UU) (Lvl := ℕ) (Val := Elt F) (τ := τ) osem c) := by
  have hu : (unscopedSems0 c : sProp 𝕄) = semVal (barCell c) 0 := by
    unfold unscopedSems0; rw [bigSep_eq_bigSepL_of_eq [SemLoc.reg barSem] (by decide +kernel) (by decide)]; rfl
  have hm : (Finset.univ.erase (8 : Fin 105)) = Finset.univ.map (Fin.succAboveEmb (8 : Fin 105)) := by decide +kernel
  rw [hu, bigSep_univ_at _ (8 : Fin 105), hm, bigSep_map]
  rfl

/-! ## What the launch deals -/

def Tasks (c : Dev nD) : sProp 𝕄 :=
  bigSep Finset.univ fun t : Task => dutyTok ER (taskOf c t).1 (taskOf c t).2.1 (taskOf c t).2.2
def Ats (c : Dev nD) : sProp 𝕄 := bigSep Finset.univ fun i : Fin 105 => atPos ER (kcell (c, i)) 0 ∅ 0
def Readers (c : Dev nD) : sProp 𝕄 := bigSep Finset.univ fun i : Fin 9 × Fin 16 => readerAt ES ((c, i) : Key) 0
def Writers (c : Dev nD) : sProp 𝕄 := bigSep Finset.univ fun i : Fin 9 × Fin 16 => writeTok ES ((c, i) : Key) 1

/-- Device `c`'s share of the ghost state at the launch. -/
def G (c : Dev nD) : sProp 𝕄 :=
  iprop((bigSep Finset.univ fun i : Fin 105 => roundState ER (ringRd D) (kcell (c, i)) 0) ∗ Ats c
    ∗ (bigSep Finset.univ fun i : Fin 105 => reached ER (kcell (c, i)) 0) ∗ Tasks c
    ∗ (bigSep Finset.univ fun i : Fin 9 × Fin 16 => iprop(releaseAuth ES ((c, i) : Key) 0 ∗ writeTok ES ((c, i) : Key) 0))
    ∗ Readers c ∗ Writers c)

def u₀ : UU := (initOf (Pipeline.cells cfgs cellOf_inj) (Pipeline.launchToks cfgs cellOf_inj), (initOf ringCells ringToks, initSlots Finset.univ 1))

theorem fund_cells : BI.own (ER (initOf ringCells ringToks)) ⊢ (|==> iprop(
    (bigSep Finset.univ fun c : Dev nD => bigSep Finset.univ fun i : Fin 105 => roundState ER (ringRd D) (kcell (c, i)) 0)
      ∗ bigSep Finset.univ Ats ∗ (bigSep Finset.univ fun c : Dev nD => bigSep Finset.univ fun i : Fin 105 => reached ER (kcell (c, i)) 0)
      ∗ bigSep Finset.univ Tasks) : sProp 𝕄) := by
  have hX (Φ : GSem nD τ sig → sProp 𝕄) : bigSep ringCells Φ = bigSep Finset.univ fun c : Dev nD => bigSep Finset.univ fun i : Fin 105 => Φ (kcell (c, i)) := by
    unfold ringCells; rw [bigSep_map, bigSep_univ_prod]; rfl
  have hT : bigSep ringToks (fun x => (dutyTok ER x.1 x.2.1 x.2.2 : sProp 𝕄)) = bigSep Finset.univ Tasks := by
    unfold ringToks; rw [bigSep_map, bigSep_univ_prod]; rfl
  iintro HX
  imod (Rounds.fund ER (ringRd D) ringCells ringToks) $$ HX with ⟨Hst, Hr, Hat, Htok⟩
  imodintro
  isplitl [Hst]
  · iapply (Entails.of_eq (hX fun g => roundState ER (ringRd D) g 0)); iexact Hst
  isplitl [Hat]
  · iapply (Entails.of_eq (hX fun g => atPos ER g 0 ∅ 0)); iexact Hat
  isplitl [Hr]
  · iapply (Entails.of_eq (hX fun g => reached ER g 0)); iexact Hr
  iapply (Entails.of_eq hT); iexact Htok

theorem fund_slots : (BI.own (ES (initSlots Finset.univ 1)) : sProp 𝕄) ⊢ iprop(
    (bigSep Finset.univ fun c : Dev nD => bigSep Finset.univ fun i : Fin 9 × Fin 16 => iprop(releaseAuth ES ((c, i) : Key) 0 ∗ writeTok ES ((c, i) : Key) 0))
      ∗ bigSep Finset.univ Readers ∗ bigSep Finset.univ Writers) := by
  have hK (Φ : Key → sProp 𝕄) : bigSep Finset.univ Φ = bigSep Finset.univ fun c : Dev nD => bigSep Finset.univ fun i : Fin 9 × Fin 16 => Φ (c, i) :=
    bigSep_univ_prod Φ
  have hW : (bigSep (Finset.univ ×ˢ Finset.range 1) (fun x : Key × ℕ => writeTok ES x.1 (x.2 + 1)) : sProp 𝕄) = bigSep Finset.univ fun k : Key => writeTok ES k 1 := by
    have e : ((Finset.univ : Finset Key) ×ˢ Finset.range 1) = Finset.univ.map ⟨fun k : Key => (k, 0), fun a b h => congrArg Prod.fst h⟩ := by
      ext ⟨k, n⟩
      simp only [Finset.mem_product, Finset.mem_univ, true_and, Finset.mem_range, Finset.mem_map, Function.Embedding.coeFn_mk, Prod.mk.injEq]
      exact ⟨fun h => ⟨k, Prod.ext rfl (by show 0 = n; omega)⟩, fun ⟨a, h⟩ => by have h2 : 0 = n := congrArg Prod.snd h; omega⟩
    rw [e, bigSep_map]; rfl
  have h := own_initSlots (ES : Emb (USlots Key) 𝕄) Finset.univ 1
  rw [hW, bigSep_sep', hK fun k => releaseAuth ES k 0, hK fun k => readerAt ES k 0, hK fun k => writeTok ES k 0, hK fun k => writeTok ES k 1] at h
  refine h.trans ?_
  iintro ⟨⟨Ha, Hr⟩, H0, H1⟩
  isplitl [Ha H0]
  · iapply (show iprop((bigSep Finset.univ fun c : Dev nD => bigSep Finset.univ fun i : Fin 9 × Fin 16 => releaseAuth ES ((c, i) : Key) 0)
        ∗ bigSep Finset.univ fun c : Dev nD => bigSep Finset.univ fun i : Fin 9 × Fin 16 => (writeTok ES ((c, i) : Key) 0 : sProp 𝕄))
      ⊢ bigSep Finset.univ fun c : Dev nD => bigSep Finset.univ fun i : Fin 9 × Fin 16 => iprop(releaseAuth ES ((c, i) : Key) 0 ∗ writeTok ES ((c, i) : Key) 0) from by
        simp only [bigSep_sep']; exact BI.Entails.refl _)
    isplitl [Ha] <;> iassumption
  isplitl [Hr]; · iexact Hr
  iexact H1

theorem fund_all : BI.own ((Emb.inl.trans embR : Emb _ 𝕄) (initOf ringCells ringToks)) ∗ BI.own ((Emb.inr.trans embR : Emb _ 𝕄) (initSlots Finset.univ 1))
    ⊢ (|==> bigSep Finset.univ (G D) : sProp 𝕄) := by
  iintro ⟨HC, HS⟩
  imod (fund_cells D) $$ HC with ⟨H1, H2, H3, H4⟩
  ihave HS := (fund_slots (F := F)) $$ HS
  icases HS with ⟨H5, H6, H7⟩
  imodintro
  unfold G
  simp only [bigSep_sep']
  isplitl [H1]; · iexact H1
  isplitl [H2]; · iexact H2
  isplitl [H3]; · iexact H3
  isplitl [H4]; · iexact H4
  isplitl [H5]
  · iexact H5
  isplitl [H6]; · iexact H6
  iexact H7

/-! ## Invariants -/

theorem key_alloc (k : Key) : iprop(releaseAuth ES k 0 ∗ writeTok ES k 0) ⊢ (|={Set.univ}=> sinv k : sProp 𝕄) := by
  refine BIBase.Entails.trans (Q := slotBody ES k (keySlot k)) ?_ inv_alloc
  unfold slotBody
  iintro ⟨Ha, Hw⟩
  iexists 0
  isplitl [Ha]; · iexact Ha
  isplitr
  · rw [Finset.range_zero, bigSep_empty]; iempintro
  iright; iexact Hw

theorem cell_alloc (g : GSem nD τ sig) : iprop(semVal g 0 ∗ roundState ER (ringRd D) g 0) ⊢ (|={Set.univ}=> cinv D g : sProp 𝕄) :=
  (Rounds.body_intro ER (ringRd D) g).trans inv_alloc

/-- What every device has once the invariants are set up. -/
def Mid (c : Dev nD) : sProp 𝕄 :=
  iprop((bigSep Finset.univ fun i : Fin 105 => cinv D (kcell (c, i))) ∗ (bigSep Finset.univ fun i : Fin 105 => reached ER (kcell (c, i)) 0)
    ∗ (bigSep Finset.univ fun i : Fin 9 × Fin 16 => sinv ((c, i) : Key)) ∗ Ats c ∗ Tasks c ∗ Readers c ∗ Writers c)

theorem dev_alloc (c : Dev nD) :
    iprop(Pipeline.ownSems0 (Ix := ℕ) (Name := ℕ) (U := UU) (Lvl := ℕ) (Val := Elt F) (τ := τ) osem c ∗ unscopedSems0 c ∗ G D c)
      ⊢ |={Set.univ}=> Mid D c := by
  unfold G Mid
  iintro ⟨Hos, Hus, Hst, Hat, Hre, Htk, Hsl, Hrd, Hwr⟩
  ihave Hv := (Entails.of_eq (sems_eq (F := F) c).symm) $$ [Hos Hus]
  · isplitl [Hus] <;> iassumption
  imod (show iprop((bigSep Finset.univ fun i : Fin 105 => semVal (kcell (c, i)) 0) ∗ bigSep Finset.univ fun i : Fin 105 => roundState ER (ringRd D) (kcell (c, i)) 0)
      ⊢ (|={Set.univ}=> bigSep Finset.univ fun i : Fin 105 => cinv D (kcell (c, i)) : sProp 𝕄) from by
        rw [← bigSep_sep']
        exact (bigSep_mono fun i _ => cell_alloc D (kcell (c, i))).trans (bigSep_fupd _ _)) $$ [Hv Hst] with Hinv
  · isplitl [Hv] <;> iassumption
  imod (show (bigSep Finset.univ fun i : Fin 9 × Fin 16 => iprop(releaseAuth ES ((c, i) : Key) 0 ∗ writeTok ES ((c, i) : Key) 0) : sProp 𝕄)
      ⊢ |={Set.univ}=> bigSep Finset.univ fun i : Fin 9 × Fin 16 => sinv ((c, i) : Key) from
        (bigSep_mono fun i _ => key_alloc ((c, i) : Key)).trans (bigSep_fupd _ _)) $$ Hsl with Hsl
  imodintro
  isplitl [Hinv]; · iexact Hinv
  isplitl [Hre]; · iexact Hre
  isplitl [Hsl]; · iexact Hsl
  isplitl [Hat]; · iexact Hat
  isplitl [Htk]; · iexact Htk
  isplitl [Hrd] <;> iassumption

/-! ## Dealing the rights to write -/

theorem univ9 : (Finset.univ.erase (Fin.last 8) : Finset (Fin 9)) = Finset.univ.map Fin.castSuccEmb := by decide

/-- The keys of a device: those of its rings and those of its rows. -/
theorem fam_keys (Φ : Fin 9 × Fin 16 → sProp 𝕄) : bigSep Finset.univ Φ
    = iprop((bigSep Finset.univ fun s : Fin 16 => Φ (Fin.last 8, s)) ∗ bigSep Finset.univ fun r : Fin 8 => bigSep Finset.univ fun u : Fin 16 => Φ (r.castSucc, u)) := by
  rw [bigSep_univ_prod, bigSep_univ_at _ (Fin.last 8), univ9, bigSep_map]
  rfl

/-- The rights of device `c` to write into the others. -/
def WIn (c : Dev nD) : sProp 𝕄 :=
  iprop((bigSep Finset.univ fun d : Dev nD => writeTok ES (rowKey d c) 1)
    ∗ bigSep Finset.univ fun r : Fin 8 => bigSep Finset.univ fun u : Fin 16 => writeTok ES ((down r c, r.castSucc, u) : Key) 1)

theorem writers_deal : (bigSep Finset.univ (Writers (F := F)) : sProp 𝕄) ⊢ bigSep Finset.univ WIn := by
  have h1 : (Writers : Dev nD → sProp 𝕄) = fun c => iprop((bigSep Finset.univ fun s : Dev nD => writeTok ES (rowKey c s) 1)
      ∗ bigSep Finset.univ fun r : Fin 8 => bigSep Finset.univ fun u : Fin 16 => writeTok ES ((c, r.castSucc, u) : Key) 1) :=
    funext fun c => fam_keys _
  have h2 : (WIn : Dev nD → sProp 𝕄) = fun c => iprop((bigSep Finset.univ fun d : Dev nD => writeTok ES (rowKey d c) 1)
    ∗ bigSep Finset.univ fun r : Fin 8 => bigSep Finset.univ fun u : Fin 16 => writeTok ES ((down r c, r.castSucc, u) : Key) 1) := rfl
  rw [h1, h2, bigSep_sep', bigSep_sep']
  have h3 : (bigSep Finset.univ fun c : Dev nD => bigSep Finset.univ fun s : Dev nD => (writeTok ES (rowKey c s) 1 : sProp 𝕄))
      = bigSep Finset.univ fun c : Dev nD => bigSep Finset.univ fun d : Dev nD => writeTok ES (rowKey d c) 1 := bigSep_univ_comm _
  rw [h3]
  refine sep_mono_right (Entails.of_eq ?_)
  rw [bigSep_univ_comm, bigSep_univ_comm (fun (c : Dev nD) (r : Fin 8) => (bigSep Finset.univ fun u : Fin 16 => writeTok ES ((down r c, r.castSucc, u) : Key) 1 : sProp 𝕄))]
  exact bigSep_congr fun r _ => bigSep_univ_equiv (downE r) _

/-! ## What each device starts from -/

def Shared : sProp 𝕄 :=
  iprop(bigSep Finset.univ (fun ck : Dev nD × Fin 105 => iprop(cinv D (kcell ck) ∗ reached ER (kcell ck) 0))
    ∗ bigSep Finset.univ (fun k : Key => sinv k))
instance Shared_persistent : BI.Persistent (Shared D) := by unfold Shared; infer_instance
def Linear (c : Dev nD) : sProp 𝕄 := iprop(Ats c ∗ Tasks c ∗ Readers c ∗ WIn c)
def G' (c : Dev nD) : sProp 𝕄 := iprop(Shared D ∗ Linear c)

theorem regroup : (bigSep Finset.univ (Mid D) : sProp 𝕄) ⊢ bigSep Finset.univ (G' D) := by
  have hm : Mid D = fun c => iprop((bigSep Finset.univ fun i : Fin 105 => cinv D (kcell (c, i))) ∗ (bigSep Finset.univ fun i : Fin 105 => reached ER (kcell (c, i)) 0)
    ∗ (bigSep Finset.univ fun i : Fin 9 × Fin 16 => sinv ((c, i) : Key)) ∗ Ats c ∗ Tasks c ∗ Readers c ∗ Writers c) := rfl
  have hl : (Linear : Dev nD → sProp 𝕄) = fun c => iprop(Ats c ∗ Tasks c ∗ Readers c ∗ WIn c) := rfl
  have hg : G' D = fun c => iprop(Shared D ∗ Linear c) := rfl
  have hs : iprop((bigSep Finset.univ fun c : Dev nD => bigSep Finset.univ fun i : Fin 105 => cinv D (kcell (c, i)))
      ∗ (bigSep Finset.univ fun c : Dev nD => bigSep Finset.univ fun i : Fin 105 => reached ER (kcell (c, i)) 0)
      ∗ bigSep Finset.univ fun c : Dev nD => bigSep Finset.univ fun i : Fin 9 × Fin 16 => sinv ((c, i) : Key)) ⊢ Shared D := by
    unfold Shared
    rw [← bigSep_univ_prod (fun ck : Dev nD × Fin 105 => cinv D (kcell ck)), ← bigSep_univ_prod (fun ck : Dev nD × Fin 105 => (reached ER (kcell ck) 0 : sProp 𝕄)),
      ← bigSep_univ_prod (fun k : Key => (sinv k : sProp 𝕄)), bigSep_sep']
    iintro ⟨H1, H2, H3⟩
    isplitl [H1 H2]
    · isplitl [H1] <;> iassumption
    iexact H3
  rw [hm, hg, bigSep_sep', bigSep_sep', bigSep_sep', bigSep_sep', bigSep_sep', bigSep_sep', bigSep_sep']
  iintro ⟨H1, H2, H3, H4, H5, H6, H7⟩
  ihave #HS := hs $$ [H1 H2 H3]
  · isplitl [H1]; · iexact H1
    isplitl [H2] <;> iassumption
  isplitr
  · iapply (bigSep_of_persistent Finset.univ (Shared D)); iexact HS
  ihave H7 := (writers_deal (F := F)) $$ H7
  rw [hl, bigSep_sep', bigSep_sep', bigSep_sep']
  isplitl [H4]; · iexact H4
  isplitl [H5]; · iexact H5
  isplitl [H6] <;> iassumption

theorem glob : (bigSep Finset.univ fun c => iprop(Pipeline.ownSems0 (Ix := ℕ) (Name := ℕ) (U := UU) (Lvl := ℕ) (Val := Elt F) (τ := τ) osem c
      ∗ unscopedSems0 c ∗ G D c) : sProp 𝕄) ⊢ |={Set.univ}=> bigSep Finset.univ (G' D) :=
  ((bigSep_mono fun c _ => dev_alloc D c).trans (bigSep_fupd _ _)).trans (BI.fupd_mono (regroup D))

end Cert.KernelIdeal.Ring

end
-- ==== Proof.Start.lean ====
module

public import Idealize.ShloMosaic.Lib.SparseCore.Stream
public import proofs.«01_k».proof.Proof.Fund

@[expose] public section

set_option maxRecDepth 65536

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F] (D : Inputs F)

local notation "𝕄" => MT nD τ sig ℕ (Elt F) ℕ UU ℕ

/-! ## Ring by ring -/

/-- What ring `r` starts from on device `c`. -/
def RingRaw (c : Dev nD) (r : Fin 8) : sProp 𝕄 :=
  iprop(atPos ER (credCell c r) 0 ∅ 0
    ∗ (bigSep Finset.univ fun j : Fin 4 => atPos ER (sendCell c r j) 0 ∅ 0)
    ∗ (bigSep Finset.univ fun j : Fin 4 => atPos ER (recvCell c r j) 0 ∅ 0)
    ∗ (bigSep Finset.univ fun u : Fin 15 => dutyTok ER (recvCell (down r c) r (dstSlot u.val)) (u.val / 4) 0)
    ∗ (bigSep Finset.univ fun e : Fin 12 => dutyTok ER (credCell (up r c) r) 0 e.val)
    ∗ (bigSep Finset.univ fun u : Fin 15 => dutyTok ER (sendCell c r (slotOf u.val)) (u.val / 4) 0)
    ∗ (bigSep Finset.univ fun u : Fin 16 => readerAt ES ((c, r.castSucc, u) : Key) 0)
    ∗ (bigSep Finset.univ fun u : Fin 16 => writeTok ES ((down r c, r.castSucc, u) : Key) 1)
    ∗ RingDues c r ∗ bigSep Finset.univ fun j : Fin 4 => slotAny c r j)

theorem key_ring (c : Dev nD) (r : Fin 8) (u : Fin 16) : ((c, r.castSucc, u) : Key) = ringKey c r u.val :=
  Prod.ext rfl (Prod.ext rfl (Fin.ext (Nat.mod_eq_of_lt u.isLt).symm))

theorem split16 (Φ : ℕ → sProp 𝕄) : bigSep (Finset.range 16) Φ
    = iprop(bigSep (Finset.range 3) Φ ∗ bigSep (Finset.Ico 0 12) (fun i => Φ (i + 3)) ∗ Φ 15) := by
  have hr : Finset.range 16 = Finset.range 3 ∪ ((Finset.Ico 0 12).map ⟨(· + 3), fun a b h => by simpa using h⟩ ∪ {15}) := by decide
  rw [hr, bigSep_union (by decide), bigSep_union (by decide), bigSep_map, bigSep_singleton]
  rfl
theorem split3 (Φ : ℕ → sProp 𝕄) : bigSep (Finset.range 3) Φ = iprop(Φ 0 ∗ Φ 1 ∗ Φ 2) := by
  rw [show Finset.range 3 = {0, 1, 2} from by decide, bigSep_insert (by decide), bigSep_insert (by decide), bigSep_singleton]
  rfl

theorem cnt_zero {i : ℕ} (h : i < 4) : cnt 0 i = 0 := by unfold cnt; omega

theorem ring_split (c : Dev nD) (r : Fin 8) : RingRaw c r ⊢ (iprop(
    (bigSep (Finset.range 3) fun u => iprop(readerAt ES (ringKey c r u) 0 ∗ slotAny c r (dstSlot u))) ∗ Ring0 c r) : sProp 𝕄) := by
  have hR : (bigSep Finset.univ fun u : Fin 16 => (readerAt ES ((c, r.castSucc, u) : Key) 0 : sProp 𝕄))
      ⊢ iprop((bigSep (Finset.range 3) fun u => readerAt ES (ringKey c r u) 0) ∗ bigSep (Finset.Ico 0 12) fun i => readerAt ES (ringKey c r (i + 3)) 0) := by
    have e : (bigSep Finset.univ fun u : Fin 16 => (readerAt ES ((c, r.castSucc, u) : Key) 0 : sProp 𝕄)) = bigSep (Finset.range 16) fun u => readerAt ES (ringKey c r u) 0 :=
      (bigSep_congr fun u _ => by rw [key_ring]).trans (fin_range 16 fun u => readerAt ES (ringKey c r u) 0)
    rw [e, split16]
    iintro ⟨H1, H2, -⟩
    isplitl [H1]; · iexact H1
    iexact H2
  have hW : (bigSep Finset.univ fun u : Fin 16 => (writeTok ES ((down r c, r.castSucc, u) : Key) 1 : sProp 𝕄))
      ⊢ bigSep (Finset.Ico 0 15) fun u => writeTok ES (ringKey (down r c) r u) 1 := by
    have e : (bigSep Finset.univ fun u : Fin 16 => (writeTok ES ((down r c, r.castSucc, u) : Key) 1 : sProp 𝕄)) = bigSep (Finset.range 16) fun u => writeTok ES (ringKey (down r c) r u) 1 :=
      (bigSep_congr fun u _ => by rw [key_ring]).trans (fin_range 16 fun u => writeTok ES (ringKey (down r c) r u) 1)
    rw [e, bigSep_range_succ, ← Finset.range_eq_Ico]
    iintro ⟨H1, H2⟩
    first | iexact H1 | iexact H2
  have hS : (bigSep Finset.univ fun j : Fin 4 => (slotAny c r j : sProp 𝕄)) ⊢ iprop((bigSep (Finset.range 3) fun u => slotAny c r (dstSlot u)) ∗ slotAny c r 0) := by
    rw [fin4, split3]
    iintro ⟨H0, H1, H2, H3⟩
    isplitl [H1 H2 H3]
    · isplitl [H1]; · iexact H1
      isplitl [H2]; · iexact H2
      iexact H3
    iexact H0
  have hA : (bigSep Finset.univ fun j : Fin 4 => (atPos ER (sendCell c r j) 0 ∅ 0 : sProp 𝕄)) = bigSep Finset.univ fun j : Fin 4 => atPos ER (sendCell c r j) (cnt 0 j.val) ∅ 0 :=
    bigSep_congr fun j _ => by rw [cnt_zero j.isLt]
  have hB : (bigSep Finset.univ fun j : Fin 4 => (atPos ER (recvCell c r j) 0 ∅ 0 : sProp 𝕄)) = bigSep Finset.univ fun j : Fin 4 => atPos ER (recvCell c r j) (cnt 0 ((j.val + 3) % 4)) ∅ 0 :=
    bigSep_congr fun j _ => by rw [cnt_zero (Nat.mod_lt _ (by decide))]
  unfold RingRaw Ring0 Waits Creds CredAt RingDues
  rw [hA, hB, fin_Ico 15 fun u => dutyTok ER (recvCell (down r c) r (dstSlot u)) (u / 4) 0, fin_Ico 12 fun e => dutyTok ER (credCell (up r c) r) 0 e,
    fin_Ico 15 fun u => dutyTok ER (sendCell c r (slotOf u)) (u / 4) 0, if_neg (by decide)]
  iintro ⟨Hc, Ha, Hb, Htr, Htc, Hts, Hrd, Hwr, ⟨Hd1, Hd2⟩, Hsl⟩
  ihave Hrd := hR $$ Hrd
  icases Hrd with ⟨Hr1, Hr2⟩
  ihave Hsl := hS $$ Hsl
  icases Hsl with ⟨Hs1, Hs0⟩
  ihave Hwr := hW $$ Hwr
  isplitl [Hr1 Hs1]
  · iapply (Transfers.bigSep_sep_in (Finset.range 3) _ _)
    isplitl [Hr1] <;> iassumption
  isplitl [Ha Hb Hd1]
  · isplitl [Ha]; · iexact Ha
    isplitl [Hb]; · iexact Hb
    iexact Hd1
  isplitl [Htc Hr2]
  · isplitl
    · iapply (Transfers.bigSep_sep_in (Finset.Ico 0 12) _ _)
      isplitl [Htc] <;> iassumption
    isplitl
    · rw [show Finset.range (min 0 12) = ∅ from rfl, bigSep_empty]; iempintro
    · rw [show Finset.Ico 12 0 = ∅ from rfl, bigSep_empty]; iempintro
  isplitl [Hc]
  · iexists ∅
    isplitl
    · iexact Hc
    · rw [bigSep_empty]; iempintro
  isplitl [Hd2]; · iexact Hd2
  isplitl [Hts Htr Hwr]
  · unfold OutTok
    iapply (Transfers.bigSep_sep_in (Finset.Ico 0 15) _ _)
    isplitl [Hts]; · iexact Hts
    iapply (Transfers.bigSep_sep_in (Finset.Ico 0 15) _ _)
    isplitl [Htr] <;> iassumption
  iexact Hs0

/-! ## All of a device -/

theorem slots_part (c : Dev nD) : iprop(∃ f : Vec F S8x4x256x256 .f32, slotLoc c ↦[Finset.univ]{fullShare} f) ⊢
    (bigSep Finset.univ fun r : Fin 8 => bigSep Finset.univ fun j : Fin 4 => slotAny c r j : sProp 𝕄) := by
  iintro ⟨%f, H⟩
  ihave H := (Entails.of_eq (Idealize.ShloMosaic.Ring.pointsTo_blocks (ℓ := slotLoc c) (q := fullShare) slotI slots_disjoint slots_cover f)) $$ H
  iapply (show (bigSep Finset.univ fun b : Fin 8 × Fin 4 => (slotLoc c ↦[slotI b]{fullShare} f : sProp 𝕄))
      ⊢ bigSep Finset.univ fun r : Fin 8 => bigSep Finset.univ fun j : Fin 4 => slotAny c r j from by
    rw [bigSep_univ_prod]
    refine bigSep_mono fun r _ => bigSep_mono fun j _ => ?_
    show (slotLoc c ↦[slotI (r, j)]{fullShare} f : sProp 𝕄) ⊢ slotAny c r j
    unfold slotAny
    iintro H
    iexists f; iexact H)
  iexact H

theorem rows_part (c : Dev nD) : iprop(∃ f : Vec F S16x8x128 .f32, rowLoc c ↦[Finset.univ]{fullShare} f) ⊢
    (bigSep Finset.univ fun s : Dev nD => rowAny c s : sProp 𝕄) := by
  iintro ⟨%f, H⟩
  ihave H := (Entails.of_eq (Idealize.ShloMosaic.Ring.pointsTo_blocks (ℓ := rowLoc c) (q := fullShare) rowI rows_disjoint rows_cover f)) $$ H
  iapply (show (bigSep Finset.univ fun s : Dev nD => (rowLoc c ↦[rowI s]{fullShare} f : sProp 𝕄))
      ⊢ bigSep Finset.univ fun s : Dev nD => rowAny c s from by
    refine bigSep_mono fun s _ => ?_
    show (rowLoc c ↦[rowI s]{fullShare} f : sProp 𝕄) ⊢ rowAny c s
    unfold rowAny
    iintro H
    iexists f; iexact H)
  iexact H

theorem fam_tasks (Φ : Task → sProp 𝕄) : bigSep Finset.univ Φ = iprop(bigSep Finset.univ (fun p : Pay => Φ (.inl p))
    ∗ (bigSep Finset.univ fun r : Fin 8 => bigSep Finset.univ fun u : Fin 15 => Φ (.inr (.inl (r, u)))) ∗ bigSep Finset.univ fun k : Fin 15 => Φ (.inr (.inr k))) := by
  rw [bigSep_univ_sum, bigSep_univ_sum (fun b : (Fin 8 × Fin 15) ⊕ Fin 15 => Φ (Sum.inr b)), bigSep_univ_prod]
  rfl

theorem tasks_split (c : Dev nD) : Tasks c ⊢ (iprop(
    (dutyTok ER (pcell c (Pay.bar 0)) 0 0 ∗ dutyTok ER (pcell c (Pay.bar 1)) 0 1)
    ∗ (bigSep Finset.univ fun r : Fin 8 => bigSep Finset.univ fun u : Fin 15 => dutyTok ER (recvCell (down r c) r (dstSlot u.val)) (u.val / 4) 0)
    ∗ (bigSep Finset.univ fun r : Fin 8 => bigSep Finset.univ fun e : Fin 12 => dutyTok ER (credCell (up r c) r) 0 e.val)
    ∗ (bigSep Finset.univ fun k : Fin 15 => dutyTok ER (grCell (gdev c k) c) 0 0)
    ∗ (bigSep Finset.univ fun r : Fin 8 => bigSep Finset.univ fun u : Fin 15 => dutyTok ER (sendCell c r (slotOf u.val)) (u.val / 4) 0)
    ∗ bigSep Finset.univ fun k : Fin 15 => dutyTok ER (gsCell c (gdev c k)) 0 0) : sProp 𝕄) := by
  unfold Tasks
  rw [fam_tasks, fam_pay]
  iintro ⟨⟨Hb, Hr, Hc, Hg⟩, Hs, Hgs⟩
  isplitl [Hb]; · iexact Hb
  isplitl [Hr]; · iexact Hr
  isplitl [Hc]; · iexact Hc
  isplitl [Hg]; · iexact Hg
  isplitl [Hs]; · iexact Hs
  iexact Hgs

theorem body_in (c : Dev nD) : iprop(Linear c ∗ Dues c ∗ (∃ f : Vec F S8x4x256x256 .f32, slotLoc c ↦[Finset.univ]{fullShare} f)
    ∗ ∃ f : Vec F S16x8x128 .f32, rowLoc c ↦[Finset.univ]{fullShare} f) ⊢ (BodyIn c : sProp 𝕄) := by
  have hA : (Ats c : sProp 𝕄) = _ := fam_cells fun sm => atPos ER ((c : Thread nD τ), sm) 0 ∅ 0
  have hR : (Readers c : sProp 𝕄) = _ := fam_keys fun i => readerAt ES ((c, i) : Key) 0
  have hrr : (RingRaw c : Fin 8 → sProp 𝕄) = fun r => iprop(atPos ER (credCell c r) 0 ∅ 0
    ∗ (bigSep Finset.univ fun j : Fin 4 => atPos ER (sendCell c r j) 0 ∅ 0)
    ∗ (bigSep Finset.univ fun j : Fin 4 => atPos ER (recvCell c r j) 0 ∅ 0)
    ∗ (bigSep Finset.univ fun u : Fin 15 => dutyTok ER (recvCell (down r c) r (dstSlot u.val)) (u.val / 4) 0)
    ∗ (bigSep Finset.univ fun e : Fin 12 => dutyTok ER (credCell (up r c) r) 0 e.val)
    ∗ (bigSep Finset.univ fun u : Fin 15 => dutyTok ER (sendCell c r (slotOf u.val)) (u.val / 4) 0)
    ∗ (bigSep Finset.univ fun u : Fin 16 => readerAt ES ((c, r.castSucc, u) : Key) 0)
    ∗ (bigSep Finset.univ fun u : Fin 16 => writeTok ES ((down r c, r.castSucc, u) : Key) 1)
    ∗ RingDues c r ∗ bigSep Finset.univ fun j : Fin 4 => slotAny c r j) := rfl
  have hW : (bigSep Finset.univ fun d : Dev nD => (writeTok ES (rowKey d c) 1 : sProp 𝕄)) = _ := fam_dev c fun d => writeTok ES (rowKey d c) 1
  unfold Linear WIn
  rw [hA, hR, hW]
  iintro ⟨⟨⟨Pc, Pb, Ps, Pr, Pgs, Pgr⟩, Ht, ⟨Rrow, Rring⟩, ⟨W0, Wrow⟩, Wring⟩, Hd, Hsl, Hro⟩
  ihave Ht := (tasks_split c) $$ Ht
  icases Ht with ⟨⟨Tb0, Tb1⟩, Tr, Tc, Tgr, Ts, Tgs⟩
  ihave Hd := (dues_split c) $$ Hd
  icases Hd with ⟨Db, Dr, Dg⟩
  ihave Hsl := (slots_part c) $$ Hsl
  ihave Hro := (rows_part c) $$ Hro
  ihave HR := (show iprop((bigSep Finset.univ fun r : Fin 8 => (atPos ER (credCell c r) 0 ∅ 0 : sProp 𝕄))
      ∗ (bigSep Finset.univ fun r : Fin 8 => bigSep Finset.univ fun j : Fin 4 => atPos ER (sendCell c r j) 0 ∅ 0)
      ∗ (bigSep Finset.univ fun r : Fin 8 => bigSep Finset.univ fun j : Fin 4 => atPos ER (recvCell c r j) 0 ∅ 0)
      ∗ (bigSep Finset.univ fun r : Fin 8 => bigSep Finset.univ fun u : Fin 15 => dutyTok ER (recvCell (down r c) r (dstSlot u.val)) (u.val / 4) 0)
      ∗ (bigSep Finset.univ fun r : Fin 8 => bigSep Finset.univ fun e : Fin 12 => dutyTok ER (credCell (up r c) r) 0 e.val)
      ∗ (bigSep Finset.univ fun r : Fin 8 => bigSep Finset.univ fun u : Fin 15 => dutyTok ER (sendCell c r (slotOf u.val)) (u.val / 4) 0)
      ∗ (bigSep Finset.univ fun r : Fin 8 => bigSep Finset.univ fun u : Fin 16 => readerAt ES ((c, r.castSucc, u) : Key) 0)
      ∗ (bigSep Finset.univ fun r : Fin 8 => bigSep Finset.univ fun u : Fin 16 => writeTok ES ((down r c, r.castSucc, u) : Key) 1)
      ∗ bigSep Finset.univ (RingDues c) ∗ bigSep Finset.univ fun r : Fin 8 => bigSep Finset.univ fun j : Fin 4 => slotAny c r j)
    ⊢ iprop(Keys0 c ∗ bigSep Finset.univ (Ring0 c)) from by
      unfold Keys0
      refine BIBase.Entails.trans (Q := bigSep Finset.univ (RingRaw c)) (Entails.of_eq ?_) ((bigSep_mono fun r _ => ring_split c r).trans (Entails.of_eq (bigSep_sep' _ _ _)))
      rw [hrr, bigSep_sep', bigSep_sep', bigSep_sep', bigSep_sep', bigSep_sep', bigSep_sep', bigSep_sep', bigSep_sep', bigSep_sep']) $$ [Pc Ps Pr Tr Tc Ts Rring Wring Dr Hsl]
  · isplitl [Pc]; · iexact Pc
    isplitl [Ps]; · iexact Ps
    isplitl [Pr]; · iexact Pr
    isplitl [Tr]; · iexact Tr
    isplitl [Tc]; · iexact Tc
    isplitl [Ts]; · iexact Ts
    isplitl [Rring]; · iexact Rring
    isplitl [Wring]; · iexact Wring
    isplitl [Dr] <;> iassumption
  icases HR with ⟨HK, HR⟩
  unfold BodyIn Rows0 GIn GTok
  isplitl [HK]; · iexact HK
  isplitl [Rrow Hro]
  · iapply (Transfers.bigSep_sep_in Finset.univ _ _)
    isplitl [Rrow] <;> iassumption
  isplitl [Tb0]; · iexact Tb0
  isplitl [Tb1]; · iexact Tb1
  isplitl [Db]; · iexact Db
  isplitl [Pb]; · iexact Pb
  isplitl [HR]; · iexact HR
  isplitl [W0]; · iexact W0
  isplitl [Tgs Tgr Wrow]
  · iapply (Transfers.bigSep_sep_in Finset.univ _ _)
    isplitl [Tgs]; · iexact Tgs
    iapply (Transfers.bigSep_sep_in Finset.univ _ _)
    isplitl [Tgr] <;> iassumption
  isplitl [Dg]; · iexact Dg
  isplitl [Pgs] <;> iassumption

end Cert.KernelIdeal.Ring

end
-- ==== Proof.Launch.lean ====
module

public import Idealize.ShloMosaic.Lib.SparseCore.Stream
public import Idealize.ShloMosaic.Lib.Pipeline.Launch
public import Idealize.ShloMosaic.Lib.Pipeline.Kit
public import Idealize.ShloMosaic.Lib.Tactic
public import Idealize.ShloMosaic.Lib.Pipeline.CollectiveSegs
public import proofs.«01_k».proof.Proof.Start

@[expose] public section

set_option maxRecDepth 65536

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- The memory at the launch, with no semaphore signalled. -/
def s₀ : MemSt nD τ sig (Elt F) := ⟨m, fun _ => 0, ρ⟩

/-- The shards of `x` and of `w` as the kernel sees them. -/
def ins : Inputs F where
  X c := (win0_0.blk (0 : Fin 1)).view.read (Elt F) (m ((c : Thread nD τ).loc main_arg0))
  Y c := (win0_1.blk (0 : Fin 1)).view.read (Elt F) (m ((c : Thread nD τ).loc main_arg1))

/-! ## The proof data -/

def begin' (c : Dev nD) : sProp 𝕄 := iprop(G' (ins m) c ∗ Dues c ∗ levAts L lv)
def Φ₀ (c : Dev nD) : sProp 𝕄 := iprop(begin' m c ∗ Pipeline.scopedRest cfg0.spec c)
def Φ₁ (c : Dev nD) : sProp 𝕄 := iprop((bigSep Finset.univ fun i : Fin 105 => semVal (kcell (c, i)) 0) ∗ Pipeline.scopedRest cfg0.spec c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => (ins m).X c
    | ⟨1, _⟩ => (ins m).Y c
    | ⟨2, _⟩ => outV (ins m) c
  Φ t := match t with
    | ⟨0, _⟩ => Φ₀ m c
    | ⟨_ + 1, _⟩ => Φ₁ c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem fetch_x (t : Fin cfg0.N) : (cfg0.win (0 : Fin 3)).fetch t = true := by rw [fin_N t]; rfl
theorem fetch_w (t : Fin cfg0.N) : (cfg0.win (1 : Fin 3)).fetch t = true := by rw [fin_N t]; rfl

theorem owns_at (c : Dev nD) (b : Ref sig .tc) (V : b.ty.Contents (Elt F)) :
    (owns (Ix := ℕ) (Name := ℕ) (U := UU) (Lvl := ℕ) (c : Thread nD τ) (Memref.whole b) fullShare V : sProp 𝕄)
      = iprop(∃ f : Buf (Elt F) (((c : Dev nD) : Thread nD τ).loc b), ⌜f = V⌝ ∗ (((c : Thread nD τ).loc b) ↦{fullShare} f)) := by
  unfold owns; simp only [Memref.view_whole, View.read_whole, View.set_whole]

abbrev holds (c : Dev nD) (b : Ref sig .tc) (V : b.ty.Contents (Elt F)) : sProp 𝕄 :=
  iprop(∃ f : Buf (Elt F) (((c : Dev nD) : Thread nD τ).loc b), ⌜f = V⌝ ∗ (((c : Thread nD τ).loc b) ↦{fullShare} f))

/-! ## The body -/

def before (c : Dev nD) : sProp 𝕄 :=
  iprop(Φ₀ m c ∗ (dats m ρ 0 c).owesAt 0 t₀.castSucc
    ∗ (∃ d, holds c cc0_stg0_0 ((dats m ρ 0 c).before (0 : Fin 3) t₀ d))
    ∗ (∃ d, holds c cc0_stg1_0 ((dats m ρ 0 c).before (1 : Fin 3) t₀ d))
    ∗ (∃ d, holds c cc0_stg2_0 ((dats m ρ 0 c).before (2 : Fin 3) t₀ d)))
def after (c : Dev nD) : sProp 𝕄 :=
  iprop(Φ₁ c ∗ (dats m ρ 0 c).owesAt 0 t₀.succ
    ∗ holds c cc0_stg0_0 ((ins m).X c) ∗ holds c cc0_stg1_0 ((ins m).Y c) ∗ holds c cc0_stg2_0 (outV (ins m) c))

theorem open_rest (c : Dev nD) : (Pipeline.scopedRest cfg0.spec c : sProp 𝕄) ⊢ iprop(
    (∃ f : Vec F S8x4x256x256 .f32, slotLoc c ↦[Finset.univ]{fullShare} f) ∗ (∃ f : Vec F S16x8x128 .f32, rowLoc c ↦[Finset.univ]{fullShare} f)
    ∗ tAny c 0 ∗ tAny c 4) := by
  rw [scopedRest0_eq]
  unfold tAny
  iintro ⟨H0, H1, H2, H3⟩
  isplitl [H0]; · iexact H0
  isplitl [H3]; · iexact H3
  isplitl [H1]; · iexact H1
  iexact H2
theorem close_rest (c : Dev nD) : iprop(
    (∃ f : Vec F S8x4x256x256 .f32, slotLoc c ↦[Finset.univ]{fullShare} f) ∗ (∃ f : Vec F S16x8x128 .f32, rowLoc c ↦[Finset.univ]{fullShare} f)
    ∗ tAny c 0 ∗ tAny c 4) ⊢ (Pipeline.scopedRest cfg0.spec c : sProp 𝕄) := by
  rw [scopedRest0_eq]
  unfold tAny
  iintro ⟨H0, H3, H1, H2⟩
  isplitl [H0]; · iexact H0
  isplitl [H1]; · iexact H1
  isplitl [H2]; · iexact H2
  iexact H3

theorem body_run (c : Dev nD) : before m ρ c ⊢ wp frame (wpE (defs₀ (F := F)) 𝒱₀ (c : Thread nD τ) none) Set.univ
    (Prog.op .deviceId wholeBody : Piece F) (fun _ => after m ρ c) := by
  unfold before Φ₀ begin' G'
  iintro ⟨⟨⟨⟨#HS, HL⟩, HD, #Hlev⟩, Hrest⟩, Ho, ⟨%d0, %g0, %hg0, Hx⟩, ⟨%d1, %g1, %hg1, Hw⟩, ⟨%d2, %g2, %hg2, Hout⟩⟩
  have hx : g0 = (ins m).X c := by rw [hg0]; unfold Dat.before; rw [if_pos (fetch_x t₀)]; rfl
  have hw : g1 = (ins m).Y c := by rw [hg1]; unfold Dat.before; rw [if_pos (fetch_w t₀)]; rfl
  subst hx hw
  unfold Dat.owesAt Pipeline.owesWithin
  icases Ho with ⟨%W, %hW, HO⟩
  rw [show (dats m ρ 0 c).owed t₀.castSucc = owed c Finset.univ from rfl]
  ihave Hrest := (open_rest c) $$ Hrest
  icases Hrest with ⟨Hsl, Hro, Ht0, Ht4⟩
  ihave HB := (body_in c) $$ [HL HD Hsl Hro]
  · isplitl [HL]; · iexact HL
    isplitl [HD]; · iexact HD
    isplitl [Hsl] <;> iassumption
  simp only [wp_deviceId]
  iapply ((body_tri (ins m) c g2).last (fun _ => after m ρ c)) $$ [HO HB Hx Hw Hout Ht0 Ht4]
  · isplitr
    · unfold Ctx Shared
      icases HS with ⟨#H1, #H2⟩
      isplitr; · iexact H1
      isplitr; · iexact H2
      iexact Hlev
    isplitl [HO]
    · unfold Owes; iexists W; iexact HO
    isplitl [HB]; · iexact HB
    isplitl [Hx Hw Ht0 Ht4]
    · unfold Tools XW
      isplitl [Hx Hw]
      · isplitl [Hx]; · iexact Hx
        iexact Hw
      isplitl [Ht0] <;> iassumption
    iexact Hout
  unfold after Φ₁ BodyOut Tools XW Owes
  iintro ⟨⟨%W', HO⟩, ⟨Hsl, Hro, Hsem⟩, ⟨⟨Hx, Hw⟩, Ht0, Ht4⟩, Hout⟩
  isplitl [Hsem Hsl Hro Ht0 Ht4]
  · isplitl [Hsem]; · iexact Hsem
    iapply (close_rest c)
    isplitl [Hsl]; · iexact Hsl
    isplitl [Hro]
    · iexists (gAll (top (ins m))); iexact Hro
    isplitl [Ht0] <;> iassumption
  isplitl [HO]
  · unfold Dat.owesAt Pipeline.owesWithin
    iexists W'
    isplitr
    · ipureintro; exact fun _ _ => Or.inl trivial
    rw [show (dats m ρ 0 c).owed t₀.succ = owed c ∅ from rfl]
    iexact HO
  isplitl [Hx]
  · iexists ((ins m).X c); isplitr; · ipureintro; rfl
    iexact Hx
  isplitl [Hw]
  · iexists ((ins m).Y c); isplitr; · ipureintro; rfl
    iexact Hw
  · iexists (outV (ins m) c); isplitr; · ipureintro; rfl
    iexact Hout

set_option maxHeartbeats 2000000 in
theorem body_obligation (c : Dev nD) : BodyObligation (dats (F := F) m ρ 0 c) (defs₀ (F := F)) 𝒱₀ 0 Set.univ := fun t => by
  rw [fin_N t]
  rw [show ∀ Φ : Fin cfg0.W → sProp 𝕄, bigSep Finset.univ Φ = iprop(Φ (0 : Fin 3) ∗ Φ (1 : Fin 3) ∗ Φ (2 : Fin 3)) from fun Φ => bigSep_W0 Φ,
    show ∀ Φ : Fin cfg0.W → sProp 𝕄, bigSep Finset.univ Φ = iprop(Φ (0 : Fin 3) ∗ Φ (1 : Fin 3) ∗ Φ (2 : Fin 3)) from fun Φ => bigSep_W0 Φ]
  simp only [owns_at]
  have hb : (defs₀ (F := F)) Proc.tc 0 (t₀, cfg0.slots t₀)
      = (cc0_body xM (hstage0_0 0) wM (hstage0_1 0) oM (hstage0_2 0) cM (Memref.isWhole_whole _) (Memref.whole cc0_scratch1)
      (Memref.isWhole_whole _) (Memref.whole cc0_scratch2) (Memref.isWhole_whole _) gM (Memref.isWhole_whole _)
      cc0_scratch4 cc0_scratch5 cc0_scratch6 cc0_scratch7 cc0_scratch8 : Piece F) := by sl_kernel_rfl
  rw [hb.trans body_eq]
  have h := body_run m ρ c
  unfold before after at h
  have e1 : Φ₀ m c = (dats m ρ 0 c).Φ t₀.castSucc := rfl
  have e2 : Φ₁ c = (dats m ρ 0 c).Φ t₀.succ := rfl
  have e3 : (ins m).X c = (dats m ρ 0 c).after 0 t₀ := rfl
  have e4 : (ins m).Y c = (dats m ρ 0 c).after 1 t₀ := rfl
  have e5 : outV (ins m) c = (dats m ρ 0 c).after 2 t₀ := rfl
  rw [e1, e2, e3, e4, e5] at h
  exact h

/-! ## The launch -/

theorem begin_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (ins m) c)
      ⊢ |={Set.univ}=> iprop(begin' m c ∗ emp) := by
  iintro ⟨-, Hlev, Hcr, -, HG⟩
  ihave Hc := (credit_dues (F := F) c) $$ Hcr
  imodintro
  unfold begin'
  isplitl
  · isplitl [HG]; · iexact HG
    isplitl [Hc]; · iexact Hc
    iexact Hlev
  · iempintro

theorem phi_in (c : Dev nD) :
    iprop(begin' m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iexact Hr

theorem phi_out (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁
  rw [sems_eq]
  iintro ⟨⟨Hu, Ho⟩, Hr⟩
  isplitl [Hu]; · iexact Hu
  isplitl [Ho]; · iexact Ho
  iexact Hr

theorem may_stage (c : Dev nD) (q : DmaSem sig) (hq : kindOf (.dma q) = .other) (O : CellTallies nD τ sig ℕ) (hO : O = O₀ c ∨ O = 0) :
    (levAts L lv : sProp 𝕄) ⊢ MayWait (c : Thread nD τ) (.dma q) 0 O := by
  rcases hO with rfl | rfl
  · refine mayOwe c Finset.univ {(SemLoc.dma q, 0)} 0 (fun p hp => ?_) (fun p _ => ?_)
    · rw [Finset.mem_singleton.mp hp]
      exact ⟨Nat.succ_pos 15, Nat.le_of_eq (lv_of c 0 hq)⟩
    · rcases p with b | ⟨r, u⟩ | ⟨r, e⟩ | k <;> simp only [rank] <;> omega
  · rw [MayWait_zero]; iintro -; iempintro

theorem waits (c : Dev nD) : (levAts L lv : sProp 𝕄) ⊢ Pipeline.cellsWaits cfgs (dats m ρ) 0 0 c :=
  Pipeline.cellsWaits_intro cfgs (dats m ρ) 0 0 c fun w s t =>
    may_stage c _ (by fin_cases w <;> fin_cases s <;> decide +kernel) _ (by
      rcases t with ⟨_ | _, ht⟩
      · exact Or.inl rfl
      · exact Or.inr rfl)

theorem share_eq (c : Dev nD) (w : Fin cfg0.W) : (dats m ρ 0 c).share w = fullShare := by unfold Dat.share; split <;> rfl

def finalA (c : Dev nD) (w : Fin cfg0.W) : Buf (Elt F) ((cfg0.win w).arr.view.loc (c : Thread nD τ)) := (dats m ρ 0 c).arrAt w cfg0.N

def Ends : PUnit × MemSt nD τ sig (Elt F) → Prop := fun r =>
  ∀ c : Dev nD, ∀ w : Fin cfg0.W, r.2.mem ((cfg0.win w).arr.view.loc (c : Thread nD τ)) = finalA m ρ c w

/-- Every run ends, with each device's arrays at the computed contents and no semaphore signalled. -/
theorem run : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ osem_facts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (ins m)) (G' := G' (ins m)) (u₀ := u₀)
    (hu₀ := by
      unfold u₀
      iintro Hu
      ihave H := (ownU_pair _ _) $$ Hu
      icases H with ⟨HP, HX⟩
      ihave HX := (own_pair_emb embR _ _) $$ HX
      imod (fund_all (ins m)) $$ HX with HG
      imodintro
      isplitl [HP] <;> iassumption)
    (hglob := glob (ins m))
    (hA := fun _ _ => rfl) (hpf := fun _ k => k.elim0)
    (X := begin' m) (Y := fun c => unscopedSems0 c) (Z := fun _ => iprop(emp))
    (hX := begin_intro m ρ) (hin := phi_in m ρ) (hout := phi_out m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays at the end -/

theorem end_x (c : Dev nD) : finalA m ρ c (0 : Fin 3) = m ((c : Thread nD τ).loc main_arg0) := (dats (F := F) m ρ 0 c).arrAt_in (0 : Fin 3) rfl _
theorem end_w (c : Dev nD) : finalA m ρ c (1 : Fin 3) = m ((c : Thread nD τ).loc main_arg1) := (dats (F := F) m ρ 0 c).arrAt_in (1 : Fin 3) rfl _

end Cert.KernelIdeal.Ring

end
-- ==== Proof.Ends.lean ====
module

public import proofs.«01_k».proof.Proof.Launch

@[expose] public section

set_option maxRecDepth 65536

noncomputable section

namespace Cert.KernelIdeal.Ring

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- The one block of each window is the whole array. -/
theorem ins_X (c : Dev nD) : (ins m).X c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _
theorem ins_Y (c : Dev nD) : (ins m).Y c = m ((c : Thread nD τ).loc main_arg1) := by
  have hz : (fun a => (win0_1.index (0 : Fin 1)) a * main_arg1.ty.shape.size a) = fun _ => 0 := funext fun a => by fin_cases a <;> decide
  exact Memref.read_access_unit_zero (Elt F) main_arg1 hz (fun a => by fin_cases a <;> decide) _

/-- The result array ends at what the body left in the staging buffer. -/
theorem end_out (c : Dev nD) : finalA m ρ c (2 : Fin 3) = outV (ins m) c := by
  have h : (win0_2.blk (0 : Fin 1)).view.read (Elt F) (finalA m ρ c (2 : Fin 3)) = outV (ins m) c := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  have hz : (fun a => (win0_2.index (0 : Fin 1)) a * main_v1.ty.shape.size a) = fun _ => 0 := funext fun a => by fin_cases a <;> decide
  exact (Memref.read_access_unit_zero (Elt F) main_v1 hz (fun a => by fin_cases a <;> decide) _).symm.trans h

end Cert.KernelIdeal.Ring

end
-- ==== Proof.Sums.lean ====
module

public import Idealize.ShloMosaic.Lib.MatmulPlain
public import Idealize.ShloMosaic.Lib.Pipeline.Value
public import proofs.«01_k».proof.Proof.Gather

@[expose] public section

noncomputable section

namespace Cert.KernelIdeal.Ring

open Cert.KernelIdeal Cert.KernelIdeal.Gen
open Idealize.ShloMosaic Idealize.ShloMosaic.TcCoe Idealize.ShloMosaic.ValueIdx
open scoped BigOperators

variable (D : Inputs Ideal)

theorem x0_lt (x : S256x256.Idx) : (x 0).val < 256 := (x 0).isLt
theorem x1_lt (x : S256x256.Idx) : (x 1).val < 256 := (x 1).isLt
theorem row_lt (t : Dev nD) (x : S256x256.Idx) : 256 * t.val + (x 0).val < 4096 := by
  have h1 : t.val < 16 := t.isLt
  have h2 := x0_lt x
  omega
theorem col_lt (r : Fin 8) (x : S256x256.Idx) : 256 * r.val + (x 1).val < 2048 := by
  have h1 := r.isLt
  have h2 := x1_lt x
  omega

/-- The entry of the product of device `e`'s shards at row `i` of chunk `t`, column `j` of column block `r`. -/
def term (e t : Dev nD) (r : Fin 8) (x : S256x256.Idx) : EReal :=
  ∑ k : Fin 256, (D.X e (ix2 ⟨256 * t.val + (x 0).val, row_lt t x⟩ k) : EReal)
    * (D.Y e (ix2 k ⟨256 * r.val + (x 1).val, col_lt r x⟩) : EReal)

theorem mm_at (xv wv : Vec Ideal S256x256 .f32) (x : S256x256.Idx) :
    (mm xv wv x : EReal) = ∑ k : Fin 256, (xv (ix2 (x 0) k) : EReal) * (wv (ix2 k (x 1)) : EReal) := by
  unfold mm
  rw [shapeCast_self, shapeCast_self]
  conv_lhs => rw [eq_ix2 x]
  refine (Ideal.matmul_plain_apply (M := 256) (K := 256) (N := 256) none xv wv _ (x 0) (x 1)).trans ?_
  show Ideal.ofBits .f32 0x00000000#32 + _ = _
  rw [Ideal.ofBits_zero_f32, zero_add]

theorem xread_at (e t : Dev nD) {off : Fin 2 → Nat} (inb : ∀ a, off a + S256x256.size a ≤ S4096x256.size a)
    (h : off = ![256 * t.val, 0]) (a k : Fin 256) (hb : 256 * t.val + a.val < 4096) :
    xM.view.readAt (Elt Ideal) (Rect.unit (s := S4096x256) off S256x256.size inb).toLoadRect (D.X e) (ix2 a k)
      = D.X e (ix2 ⟨256 * t.val + a.val, hb⟩ k) := by
  subst h
  show D.X e _ = D.X e _
  congr 1
  funext b; apply Fin.ext
  match b with
  | ⟨0, _⟩ => show 256 * t.val + 1 * a.val = 256 * t.val + a.val; omega
  | ⟨1, _⟩ => show 0 + 1 * k.val = k.val; omega

theorem wread_at (e : Dev nD) (r : Fin 8) (k b : Fin 256) (hb : 256 * r.val + b.val < 2048) :
    wM.view.readAt (Elt Ideal) (colR r).toLoadRect (D.Y e) (ix2 k b) = D.Y e (ix2 k ⟨256 * r.val + b.val, hb⟩) := by
  show D.Y e _ = D.Y e _
  congr 1
  funext c; apply Fin.ext
  match c with
  | ⟨0, _⟩ => show 0 + 1 * k.val = k.val; omega
  | ⟨1, _⟩ => show 256 * r.val + 1 * b.val = 256 * r.val + b.val; omega

/-- A step's product, read at an entry. -/
theorem part_at (r : Fin 8) (e : Dev nD) (u : ℕ) (hu : u ≤ 15) (x : S256x256.Idx) :
    (part D r e u x : EReal) = term D e ((down r)^[15 - u] e) r x := by
  have key : ∀ (t : Dev nD) (off : Fin 2 → Nat) (inb : ∀ a, off a + S256x256.size a ≤ S4096x256.size a) (h : off = ![256 * t.val, 0]),
      (mm (xM.view.readAt (Elt Ideal) (Rect.unit (s := S4096x256) off S256x256.size inb).toLoadRect (D.X e))
        (wM.view.readAt (Elt Ideal) (colR r).toLoadRect (D.Y e)) x : EReal) = term D e t r x := fun t off inb h => by
    rw [mm_at]
    unfold term
    refine Finset.sum_congr rfl fun k _ => ?_
    exact congrArg₂ (fun a b : EReal => a * b) (xread_at D e t inb h (x 0) k (row_lt t x)) (wread_at D e r k (x 1) (col_lt r x))
  cases u with
  | zero =>
    have h := key ((down r)^[15] e) (seedOff r e) (seedOff_inb r e) (seedOff_eq r e)
    rw [Nat.sub_zero, ← h]
    rfl
  | succ s =>
    have hs : s < 15 := by omega
    have h := key ((down r)^[14 - s] e) (hopOff r e ⟨s, hs⟩) (hopOff_inb r e ⟨s, hs⟩) (hopOff_eq r e ⟨s, hs⟩)
    have h1 : 15 - (s + 1) = 14 - s := by omega
    rw [h1, ← h]
    exact congrFun (dif_pos hs) x

/-- A running sum, read at an entry. -/
theorem acc_at (r : Fin 8) (x : S256x256.Idx) (u : ℕ) : ∀ (d : Dev nD), u ≤ 15 →
    (acc D r d u x : EReal) = ∑ k ∈ Finset.range (u + 1), term D ((up r)^[k] d) ((down r)^[15 - u] d) r x := by
  induction u with
  | zero =>
    intro d hu
    rw [Finset.sum_range_one]
    exact part_at D r d 0 hu x
  | succ u ih =>
    intro d hu
    have h1 : (acc D r d (u + 1) x : EReal) = (acc D r (up r d) u x : EReal) + (part D r d (u + 1) x : EReal) := rfl
    rw [h1, ih (up r d) (by omega), part_at D r d (u + 1) hu, Finset.sum_range_succ' _ (u + 1)]
    have h2 : (down r)^[15 - u] (up r d) = (down r)^[15 - (u + 1)] d := by
      rw [show 15 - u = (15 - (u + 1)) + 1 by omega, Function.iterate_succ_apply, down_up]
    rw [h2]
    rfl

theorem up_bijective (r : Fin 8) (d : Dev nD) : Function.Bijective fun k : Fin 16 => (up r)^[k.val] d :=
  Finite.surjective_iff_bijective.mp fun e => by
    obtain ⟨k, hk, he⟩ := up_reaches r d e
    exact ⟨⟨k, hk⟩, he⟩

/-- The finished tile sums the products of all the devices. -/
theorem acc_end (r : Fin 8) (d : Dev nD) (x : S256x256.Idx) : (acc D r d 15 x : EReal) = ∑ e : Dev nD, term D e d r x := by
  rw [acc_at D r x 15 d le_rfl, ← (up_bijective r d).sum_comp (fun e => term D e d r x),
    ← Fin.sum_univ_eq_sum_range (fun k => term D ((up r)^[k] d) ((down r)^[15 - 15] d) r x) 16]
  rfl

/-- The entry of the whole product. -/
def whole (A : Vec Ideal ⟨2, ![4096, 4096]⟩ .f32) (B : Vec Ideal ⟨2, ![4096, 2048]⟩ .f32) (i : (⟨2, ![4096, 2048]⟩ : Shape).Idx) : EReal :=
  ∑ k : Fin 4096, (A (ix2 (i 0) k) : EReal) * (B (ix2 k (i 1)) : EReal)

/-- The place in the whole result of an entry of the tile `r` of device `d`. -/
def place (d : Dev nD) (r : Fin 8) (x : S256x256.Idx) : (⟨2, ![4096, 2048]⟩ : Shape).Idx :=
  ix2 ⟨256 * d.val + (x 0).val, row_lt d x⟩
    ⟨256 * r.val + (x 1).val, col_lt r x⟩

/-- The shards are the blocks of the whole arrays. -/
structure Cut (A : Vec Ideal ⟨2, ![4096, 4096]⟩ .f32) (B : Vec Ideal ⟨2, ![4096, 2048]⟩ .f32) : Prop where
  x : ∀ c : Dev nD, D.X c = Layout.block ⟨2, ![4096, 256]⟩ ⟨2, ![4096, 4096]⟩ 1 16 c A
  w : ∀ c : Dev nD, D.Y c = Layout.block ⟨2, ![256, 2048]⟩ ⟨2, ![4096, 2048]⟩ 0 16 c B

variable {D} {A : Vec Ideal ⟨2, ![4096, 4096]⟩ .f32} {B : Vec Ideal ⟨2, ![4096, 2048]⟩ .f32}

theorem terms_whole (h : Cut D A B) (d : Dev nD) (r : Fin 8) (x : S256x256.Idx) :
    ∑ e : Dev nD, term D e d r x = whole A B (place d r x) := by
  unfold whole
  rw [← Equiv.sum_comp (finProdFinEquiv (m := 16) (n := 256)), Fintype.sum_prod_type]
  refine Finset.sum_congr rfl fun e _ => ?_
  unfold term
  refine Finset.sum_congr rfl fun k _ => ?_
  rw [h.x e, h.w e, Layout.block_apply, Layout.block_apply]
  congr 2
  · funext b; apply Fin.ext
    match b with
    | ⟨0, _⟩ => rfl
    | ⟨1, _⟩ => show e.val * 256 + k.val = k.val + 256 * e.val; omega
  · funext b; apply Fin.ext
    match b with
    | ⟨0, _⟩ => show e.val * 256 + k.val = k.val + 256 * e.val; omega
    | ⟨1, _⟩ => rfl

/-- An entry of a rectified tile. -/
theorem tiles_at (h : Cut D A B) (d : Dev nD) (r : Fin 8) (x : S256x256.Idx) :
    (tiles D d r x : EReal) = max (whole A B (place d r x)) 0 := by
  have h1 : (tiles D d r x : EReal) = max (acc D r d 15 x : EReal) (Ideal.ofBits .f32 0x00000000#32) := rfl
  rw [h1, acc_end, terms_whole h, Ideal.ofBits_zero_f32]

end Cert.KernelIdeal.Ring

end
-- ==== Proof.Peak.lean ====
module

public import proofs.«01_k».proof.Proof.Sums

@[expose] public section

set_option maxRecDepth 8192

noncomputable section

namespace Cert.KernelIdeal.Ring

open Cert.KernelIdeal Cert.KernelIdeal.Gen
open Idealize.ShloMosaic Idealize.ShloMosaic.TcCoe Idealize.ShloMosaic.ValueIdx

/-- The word a maximum starts from is below every value. -/
theorem neg_inf : Ideal.ofBits .f32 0xFF800000#32 = ⊥ := by simp [Ideal.ofBits, Ideal.ieee]

/-- A maximum over every axis is at most `b` when every entry is. -/
theorem max_all_le {s t : Shape} {axes : List (Fin s.rank)} (src : FVec Ideal s .f32) (h : s.Reduces axes t)
    (hφ : FKind.Formats .f32) (hacc : (0xFF800000#32 : BitVec 32) = FKind.maximumf.neutral .f32 hφ) (ht : ∀ a, t.size a = 1)
    (j : t.Idx) (b : EReal) :
    (multiReduction .maximumf axes t src 0xFF800000#32 h hφ hacc j : EReal) ≤ b ↔ ∀ i, (src i : EReal) ≤ b := by
  rw [multiReduction_maximumf_eq_fold, Finset.filter_true_of_mem fun i _ => funext fun a => Fin.ext (by
    have := (h.drop i a).isLt; have := (j a).isLt; have := ht a; omega)]
  have := Finset.fold_max_le (s := (Finset.univ : Finset s.Idx)) (b := Ideal.ofBits .f32 0xFF800000#32) (f := fun i => (src i : EReal)) b
  rw [neg_inf] at this
  refine Iff.trans ?_ (this.trans ⟨fun h i => h.2 i (Finset.mem_univ i), fun h => ⟨bot_le, fun i _ => h i⟩⟩)
  rw [← neg_inf]
  exact Iff.rfl

/-- A reshaped array has the same entries. -/
theorem cast_all {s t : Shape} (v : FVec Ideal s .f32) (h : s.ShapeCasts t) (b : EReal) :
    (∀ j, (shapeCast t v h j : EReal) ≤ b) ↔ ∀ i, (v i : EReal) ≤ b := by
  unfold shapeCast
  exact ⟨fun H i => by simpa using H ((Shape.reshapeEquiv h).symm i), fun H j => H _⟩

/-- The maximum of a reshaped array, taken out of the array of one entry it is left in. -/
theorem taken_le {s' s t u : Shape} {axes : List (Fin s.rank)} (v : FVec Ideal s' .f32) (hv : s'.ShapeCasts s) (h : s.Reduces axes t)
    (hφ : FKind.Formats .f32) (hacc : (0xFF800000#32 : BitVec 32) = FKind.maximumf.neutral .f32 hφ) (ht : ∀ a, t.size a = 1)
    (hu : t.ShapeCasts u) (pos : Fin u.rank → Nat) (hp : ∀ a, pos a < u.size a) (b : EReal) :
    (extractAt pos (shapeCast u (multiReduction .maximumf axes t (shapeCast s v hv) 0xFF800000#32 h hφ hacc) hu) hp : EReal) ≤ b
      ↔ ∀ i, (v i : EReal) ≤ b :=
  (max_all_le _ h hφ hacc ht _ b).trans (cast_all v hv b)

theorem one_axis : ∀ a, S1.size a = 1 := by decide

theorem tileMax_le (v : FVec Ideal S256x256 .f32) (b : EReal) : (tileMax v : EReal) ≤ b ↔ ∀ x, (v x : EReal) ≤ b := by
  unfold tileMax
  exact taken_le v _ _ _ _ one_axis _ _ _ b

theorem spread_at {s t : Shape} (a : Ideal .f32) (h : s.ShapeCasts t) (j : t.Idx) : shapeCast t (broadcast s a) h j = a := rfl

theorem side_at {α : Type} (mx : Fin 8 → α) (r : Fin 8) :
    concatenate S8 0 [⟨S1, broadcast S1 (mx 0)⟩, ⟨S1, broadcast S1 (mx 1)⟩, ⟨S1, broadcast S1 (mx 2)⟩, ⟨S1, broadcast S1 (mx 3)⟩,
      ⟨S1, broadcast S1 (mx 4)⟩, ⟨S1, broadcast S1 (mx 5)⟩, ⟨S1, broadcast S1 (mx 6)⟩, ⟨S1, broadcast S1 (mx 7)⟩]
      concatenates_S1_S1_S1_S1_S1_S1_S1_S1_S8_d0 (ix1 r) = mx r := by
  fin_cases r <;> rfl

/-- The eight tiles' maxima side by side. -/
def eight (y : Fin 8 → FVec Ideal S256x256 .f32) : FVec Ideal S8 .f32 :=
  concatenate S8 0 [⟨S1, broadcast S1 (tileMax (y 0))⟩, ⟨S1, broadcast S1 (tileMax (y 1))⟩,
    ⟨S1, broadcast S1 (tileMax (y 2))⟩, ⟨S1, broadcast S1 (tileMax (y 3))⟩, ⟨S1, broadcast S1 (tileMax (y 4))⟩,
    ⟨S1, broadcast S1 (tileMax (y 5))⟩, ⟨S1, broadcast S1 (tileMax (y 6))⟩, ⟨S1, broadcast S1 (tileMax (y 7))⟩]
    concatenates_S1_S1_S1_S1_S1_S1_S1_S1_S8_d0

theorem topOf_eq (y : Fin 8 → FVec Ideal S256x256 .f32) : topOf y
    = extractAt ![0, 0] (shapeCast S1x1 (multiReduction .maximumf [1] S1 (shapeCast S1x8 (eight y) shapeCasts_S8_S1x8)
      0xFF800000#32 reduces_S1x8_S1 (.inl rfl) rfl) shapeCasts_S1_S1x1) inpos_S1x1_p0_0 := by
  unfold topOf ownMax eight
  exact spread_at _ _ _

theorem eight_at (y : Fin 8 → FVec Ideal S256x256 .f32) (r : Fin 8) : eight y (ix1 r) = tileMax (y r) := by
  unfold eight
  exact side_at (fun r => tileMax (y r)) r

theorem topOf_le (y : Fin 8 → FVec Ideal S256x256 .f32) (b : EReal) : (topOf y : EReal) ≤ b ↔ ∀ r x, (y r x : EReal) ≤ b := by
  rw [topOf_eq]
  refine Iff.trans (taken_le (eight y) _ _ _ _ one_axis _ _ _ b) ?_
  constructor
  · intro H r
    refine (tileMax_le (y r) b).mp ?_
    rw [← eight_at]
    exact H _
  · intro H i
    rw [eq_ix1 i]
    exact (eight_at y (i 0)).symm ▸ (tileMax_le _ b).mpr (H (i 0))

/-- The largest entry of the gathered array. -/
def peak (gv : Vec Ideal S16x8x128 .f32) : EReal :=
  extractAt ![0, 0, 0, 0] (shapeCast S1x1x1x1 (multiReduction (F := Ideal) .maximumf [1, 2, 3] S1
    (shapeCast S1x16x8x128 gv shapeCasts_S16x8x128_S1x16x8x128) 0xFF800000#32 reduces_S1x16x8x128_S1 (.inl rfl) rfl)
    shapeCasts_S1_S1x1x1x1) inpos_S1x1x1x1_p0_0_0_0

theorem scaleOf_eq (gv : Vec Ideal S16x8x128 .f32) : (scaleOf gv : EReal) = Ideal.div (peak gv) (Ideal.ofBits .f32 0x42FE0000#32) := rfl

theorem peak_le (mx : Dev nD → Ideal .f32) (b : EReal) : peak (gAll mx) ≤ b ↔ ∀ d, (mx d : EReal) ≤ b := by
  unfold peak
  refine Iff.trans (taken_le _ _ _ _ _ one_axis _ _ _ b) ?_
  exact ⟨fun H d => H (ix3 (n0 := 16) (n1 := 8) (n2 := 128) d 0 0), fun H i => H _⟩

variable {D : Inputs Ideal} {A : Vec Ideal ⟨2, ![4096, 4096]⟩ .f32} {B : Vec Ideal ⟨2, ![4096, 2048]⟩ .f32}

/-- Every entry of the whole result is an entry of some tile. -/
theorem placed (i : (⟨2, ![4096, 2048]⟩ : Shape).Idx) : ∃ (d : Dev nD) (r : Fin 8) (x : S256x256.Idx), place d r x = i := by
  have h0 : (i 0).val < 4096 := (i 0).isLt
  have h1 : (i 1).val < 2048 := (i 1).isLt
  refine ⟨⟨(i 0).val / 256, by show _ < 16; omega⟩, ⟨(i 1).val / 256, by omega⟩,
    ix2 (n0 := 256) (n1 := 256) ⟨(i 0).val % 256, by omega⟩ ⟨(i 1).val % 256, by omega⟩, ?_⟩
  funext a; apply Fin.ext
  match a with
  | ⟨0, _⟩ => exact Nat.div_add_mod _ _
  | ⟨1, _⟩ => exact Nat.div_add_mod _ _

/-- The largest of the gathered entries is at most `b` when every rectified entry of the whole product is. -/
theorem peak_whole (h : Cut D A B) (b : EReal) : peak (gAll (top D)) ≤ b ↔ ∀ i, max (whole A B i) 0 ≤ b := by
  rw [peak_le]
  constructor
  · intro H i
    obtain ⟨d, r, x, rfl⟩ := placed i
    rw [← tiles_at h]
    exact (topOf_le _ b).mp (H d) r x
  · intro H d
    refine (topOf_le _ b).mpr fun r x => ?_
    rw [tiles_at h]
    exact H _

end Cert.KernelIdeal.Ring

end
-- ==== Proof.Agree.lean ====
module

public import proofs.«01_k».proof.Proof.Gen.ReferenceIdeal.Run
public import Idealize.ShloMosaic.Lib.IdealHost
public import proofs.«01_k».proof.Proof.Peak

@[expose] public section

noncomputable section

namespace Cert.Agree

open Cert.ReferenceIdeal Cert.ReferenceIdeal.Gen
open Idealize.ShloMosaic Idealize.ShloMosaic.TcCoe Idealize.ShloMosaic.ValueIdx
open Cert.KernelIdeal.Ring (Inputs Cut whole place tiles top outV quant scaleOf gAll peak)

/-- An entry quantised and scaled back. -/
def rounded (y sc : Ideal .f32) : Ideal .f32 :=
  FloatOps.mulf (FloatOps.minimumf (FloatOps.ofBits .f32 0x42FE0000#32) (FloatOps.maximumf (FloatOps.ofBits .f32 0xC2FE0000#32)
    (FloatOps.roundeven (FloatOps.divf y sc)))) sc

theorem quant_at (y : FVec Ideal Cert.KernelIdeal.S256x256 .f32) (sc : Ideal .f32) (x : Cert.KernelIdeal.S256x256.Idx) :
    quant y sc x = rounded (y x) sc := rfl

/-! ## The reference -/

/-- The reference's quantisation of a rectified product with a scale. -/
def requant (P : FVec Ideal S4096x2048 .f32) (S : FVec Ideal S_ .f32) : FVec Ideal S4096x2048 .f32 :=
  mulf (minimumf (broadcastInDim S4096x2048 ![] bcast_S_S4096x2048 (id (constant S_ .f32 0x42FE0000#32)))
    (maximumf (broadcastInDim S4096x2048 ![] bcast_S_S4096x2048 (id (constant S_ .f32 0xC2FE0000#32)))
      (Host.roundeven (Host.divf P (broadcastInDim S4096x2048 ![] bcast_S_S4096x2048 S)))))
    (broadcastInDim S4096x2048 ![] bcast_S_S4096x2048 S)

theorem requant_at (P : FVec Ideal S4096x2048 .f32) (S : FVec Ideal S_ .f32) (i : S4096x2048.Idx) :
    requant P S i = rounded (P i) (S ix0) := by
  have h : ∀ j, broadcastInDim S4096x2048 ![] bcast_S_S4096x2048 S j = S ix0 := fun j => broadcastInDim_scalar_apply _ S j
  unfold requant rounded
  show FloatOps.mulf (FloatOps.minimumf _ (FloatOps.maximumf _ (FloatOps.hostUnary .roundeven (FloatOps.hostDivf (P i)
    (broadcastInDim S4096x2048 ![] bcast_S_S4096x2048 S i))))) (broadcastInDim S4096x2048 ![] bcast_S_S4096x2048 S i) = _
  rw [h]
  rfl

/-- The reference's rectified product. -/
def refRelu (A : FVec Ideal S4096x4096 .f32) (B : FVec Ideal S4096x2048 .f32) : FVec Ideal S4096x2048 .f32 :=
  maximumf (Host.dotGeneral dot_S4096x4096_S4096x2048_S4096x2048_1_0_0_1_n_n none A B)
    (broadcastInDim S4096x2048 ![] bcast_S_S4096x2048 (constant S_ .f32 0x00000000#32))

/-- Its largest absolute entry. -/
def refPeak (P : FVec Ideal S4096x2048 .f32) : FVec Ideal S_ .f32 :=
  Host.reduce FloatOps.maximumf (Host.absf P) (constant S_ .f32 0xFF800000#32) reducesTo_S4096x2048_S_d0_1 h_S_

/-- The reference's result. -/
def refOut (A : FVec Ideal S4096x4096 .f32) (B : FVec Ideal S4096x2048 .f32) : FVec Ideal S4096x2048 .f32 :=
  requant (refRelu A B) (Host.divf (refPeak (refRelu A B)) (constant S_ .f32 0x42FE0000#32))

/-- An entry of the rectified product is the whole sum of products, or zero if that is negative. -/
theorem refRelu_at (A : FVec Ideal S4096x4096 .f32) (B : FVec Ideal S4096x2048 .f32) (i : S4096x2048.Idx) :
    (refRelu A B i : EReal) = max (whole A B i) 0 := by
  have h1 : (Host.dotGeneral dot_S4096x4096_S4096x2048_S4096x2048_1_0_0_1_n_n none A B i : EReal) = whole A B i := by
    have h := Ideal.matmul_plain_apply (M := 4096) (K := 4096) (N := 2048) none A B (constant _ .f32 0x00000000#32) (i 0) (i 1)
    rw [Ideal.matmul_constant_zero_apply] at h
    have h2 : (constant ⟨2, ![4096, 2048]⟩ .f32 0x00000000#32 : FVec Ideal _ .f32) (ix2 (i 0) (i 1)) = (0 : EReal) := Ideal.ofBits_zero_f32
    rw [h2, zero_add] at h
    unfold whole
    rw [← h]
    simp only [Host.dotGeneral]
    rw [Ideal.dotGeneral_apply]
    conv_lhs => rw [eq_ix2 i]
    rfl
  have h2 : (refRelu A B i : EReal) = max (Host.dotGeneral dot_S4096x4096_S4096x2048_S4096x2048_1_0_0_1_n_n none A B i : EReal)
      (Ideal.ofBits .f32 0x00000000#32) := rfl
  rw [h2, h1, Ideal.ofBits_zero_f32]

/-- The bounds of the reference's maximum are those of all the absolute values. -/
theorem refPeak_le (P : FVec Ideal S4096x2048 .f32) (b : EReal) :
    (refPeak P ix0 : EReal) ≤ b ↔ ∀ i, max (P i : EReal) (-(P i : EReal)) ≤ b := by
  unfold refPeak
  rw [Host.reduce_eq_fold, Finset.filter_true_of_mem fun i _ => funext fun a => a.elim0]
  have := Finset.fold_max_le (s := (Finset.univ : Finset S4096x2048.Idx)) (b := Ideal.ofBits .f32 0xFF800000#32)
    (f := fun i => max (P i : EReal) (-(P i : EReal))) b
  rw [Cert.KernelIdeal.Ring.neg_inf] at this
  refine Iff.trans ?_ (this.trans ⟨fun h i => h.2 i (Finset.mem_univ i), fun h => ⟨bot_le, fun i _ => h i⟩⟩)
  rw [← Cert.KernelIdeal.Ring.neg_inf]
  exact Iff.rfl

variable {D : Inputs Ideal} {A : FVec Ideal S4096x4096 .f32} {B : FVec Ideal S4096x2048 .f32}

/-- The maximum the devices agree on is the reference's. -/
theorem peak_eq (h : Cut D A B) : peak (gAll (top D)) = refPeak (refRelu A B) ix0 :=
  eq_of_forall_ge_iff fun b => by
    rw [Cert.KernelIdeal.Ring.peak_whole h, refPeak_le]
    refine forall_congr' fun i => ?_
    rw [refRelu_at, max_eq_left (a := max (whole A B i) 0)]
    have h0 : (0 : EReal) ≤ max (whole A B i) 0 := le_max_right _ _
    exact le_trans (EReal.neg_le_neg_iff.mpr h0) (by simpa using h0)

/-- An entry of a tile is the reference's entry at its place. -/
theorem tile_eq (h : Cut D A B) (c : Dev Cert.KernelIdeal.nD) (r : Fin 8) (x : Cert.KernelIdeal.S256x256.Idx) (j : S4096x2048.Idx)
    (hj : place c r x = j) : tiles D c r x = refRelu A B j := by
  subst hj
  exact (Cert.KernelIdeal.Ring.tiles_at h c r x).trans (refRelu_at A B _).symm

theorem scale_eq (h : Cut D A B) : scaleOf (gAll (top D)) = Host.divf (refPeak (refRelu A B)) (constant S_ .f32 0x42FE0000#32) ix0 := by
  rw [hostDivf_apply, ← peak_eq h]
  exact Cert.KernelIdeal.Ring.scaleOf_eq _

theorem refOut_at (i : S4096x2048.Idx) :
    refOut A B i = rounded (refRelu A B i) (Host.divf (refPeak (refRelu A B)) (constant S_ .f32 0x42FE0000#32) ix0) :=
  requant_at _ _ i

/-- Each device's result is its block of the reference's. -/
theorem out_block (h : Cut D A B) (c : Dev Cert.KernelIdeal.nD) :
    outV D c = Layout.block ⟨2, ![256, 2048]⟩ ⟨2, ![4096, 2048]⟩ 0 16 c (refOut A B) := by
  funext i
  rw [Layout.block_apply, refOut_at, ← scale_eq h]
  unfold outV
  rw [quant_at]
  refine congrArg (rounded · _) (tile_eq h c _ _ _ ?_)
  funext a
  apply Fin.ext
  match a with
  | ⟨0, _⟩ => show 256 * c.val + (i 0).val = c.val * 256 + (i 0).val; omega
  | ⟨1, _⟩ => exact Nat.div_add_mod _ _

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Ends
public import proofs.«01_k».proof.Proof.Agree
public import Idealize.ShloMosaic.Adequacy
public import Idealize.ShloMosaic.Init

@[expose] public section

noncomputable section

namespace Cert.Proof

open Idealize.ShloMosaic Idealize.SL.Sem Cert.Kernel

theorem frame_ideal : Cert.quiescent_KernelIdeal := fun m ρ _ =>
  (θ_run Cert.KernelIdeal.defs _ _).mono (fun _ h => ⟨fun c => ⟨(h.1 c 0).trans (Cert.KernelIdeal.Ring.end_x m ρ c),
    (h.1 c 1).trans (Cert.KernelIdeal.Ring.end_w m ρ c)⟩, h.2⟩) (Cert.KernelIdeal.Ring.run (F := Ideal) m ρ)

/-- The kernel's own text is the ideal program's, so its run is the one already proved. -/
theorem frame_kernel : Cert.quiescent_Kernel := fun m ρ _ => cast (by sl_kernel_rfl)
  ((θ_run Cert.KernelIdeal.defs _ _).mono (fun _ h => ⟨fun c => ⟨(h.1 c 0).trans (Cert.KernelIdeal.Ring.end_x m ρ c),
    (h.1 c 1).trans (Cert.KernelIdeal.Ring.end_w m ρ c)⟩, h.2⟩) (Cert.KernelIdeal.Ring.run (F := Bits) m ρ) :
    θ_run Cert.KernelIdeal.defs (onTc (τ := Cert.KernelIdeal.τ) Cert.KernelIdeal.main) ⟨m, fun _ => 0, ρ⟩ fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

theorem frame_reference : Cert.quiescent_ReferenceIdeal := fun m ρ _ =>
  (θ_run Cert.ReferenceIdeal.defs _ _).mono (fun r h => ⟨fun c => ⟨(h c).2.1, (h c).2.2⟩,
    Idealize.ShloMosaic.sem_eq_zero_of_no_sems (by decide) r.2⟩) (Cert.ReferenceIdeal.Value.run (F := Ideal) m ρ)

/-- From operands that are blocks of the reference's, every device ends with its block of the reference's result. -/
theorem agree : Cert.algebraic_KernelIdeal_ReferenceIdeal := fun m ρ m' ρ' _ hin => by
  have cut : Cert.KernelIdeal.Ring.Cut (Cert.KernelIdeal.Ring.ins m)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)) :=
    ⟨fun c => (Cert.KernelIdeal.Ring.ins_X m c).trans (hin c).1, fun c => (Cert.KernelIdeal.Ring.ins_Y m c).trans (hin c).2⟩
  refine ⟨Cert.Agree.refOut
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono (fun _ h c =>
      ⟨((h.1 c 2).trans (Cert.KernelIdeal.Ring.end_out m ρ c)).trans (Cert.Agree.out_block cut c),
        (h.1 c 0).trans (Cert.KernelIdeal.Ring.end_x m ρ c), (h.1 c 1).trans (Cert.KernelIdeal.Ring.end_w m ρ c)⟩)
      (Cert.KernelIdeal.Ring.run (F := Ideal) m ρ)
  · exact (θ_run Cert.ReferenceIdeal.defs _ _).mono (fun _ h => ⟨(h 0).1, (h 0).2.1, (h 0).2.2⟩)
      (Cert.ReferenceIdeal.Value.run (F := Ideal) m' ρ')

theorem claim : Cert.Claim := ⟨Cert.Kernel.Gen.facts, Cert.KernelIdeal.Gen.facts, Cert.ReferenceIdeal.Gen.facts,
  frame_kernel, frame_ideal, frame_reference, trivial, agree⟩

end Cert.Proof

end
